-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernelIdeal : Cert.KernelIdeal.Facts) (hReferenceIdeal : Cert.ReferenceIdeal.Facts) (hPre_finite : Cert.Pre_finite.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ algebraic_KernelIdeal_ReferenceIdeal_pre_finite (hKernelIdeal := hKernelIdeal) (hReferenceIdeal := hReferenceIdeal) (hPre_finite := hPre_finite)
-- ==== Pre_finite.lean ====
abbrev S8x8x64 : Shape := ⟨3, ![8, 8, 64]⟩
abbrev S1000000x64 : Shape := ⟨2, ![1000000, 64]⟩
abbrev S64x64 : Shape := ⟨2, ![64, 64]⟩
abbrev S_ : Shape := ⟨0, ![]⟩

class Facts : Prop where
  bcast_S_S8x8x64 : S_.BroadcastsInDim S8x8x64 (![] : Fin 0 → Fin S8x8x64.rank)
  bcast_S_S1000000x64 : S_.BroadcastsInDim S1000000x64 (![] : Fin 0 → Fin S1000000x64.rank)

variable [Facts]

def fn {F : FTy → Type} [FloatOps F] (main_arg0 : FVec F S8x8x64 .f32) (main_arg1 : FVec F S1000000x64 .f32) (main_arg2 : FVec F S1000000x64 .f32) (main_arg3 : FVec F S64x64 .f32) : IVec S8x8x64 1 × IVec S1000000x64 1 :=
  let main_v0 : FVec F S8x8x64 .f32 := Host.absf main_arg0
  let main_cst : FVec F S_ .f32 := constant S_ .f32 0x7F800000#32
  let main_v1 : FVec F S8x8x64 .f32 := broadcastInDim S8x8x64 ![] bcast_S_S8x8x64 main_cst
  let main_v2 : IVec S8x8x64 1 := cmpf .olt main_v0 main_v1
  let main_v3 : FVec F S1000000x64 .f32 := Host.absf main_arg2
  let main_cst_0 : FVec F S_ .f32 := constant S_ .f32 0x7F800000#32
  let main_v4 : FVec F S1000000x64 .f32 := broadcastInDim S1000000x64 ![] bcast_S_S1000000x64 main_cst_0
  let main_v5 : IVec S1000000x64 1 := cmpf .olt main_v3 main_v4
  (main_v2, main_v5)
-- ==== KernelIdeal.lean ====
abbrev S8x8x64 : Shape := ⟨3, ![8, 8, 64]⟩
abbrev S1000000x64 : Shape := ⟨2, ![1000000, 64]⟩
abbrev S64x64 : Shape := ⟨2, ![64, 64]⟩
abbrev S125000x8x64 : Shape := ⟨3, ![125000, 8, 64]⟩
abbrev S15744x64 : Shape := ⟨2, ![15744, 64]⟩
abbrev S1024x8x64 : Shape := ⟨3, ![1024, 8, 64]⟩
abbrev S128x64 : Shape := ⟨2, ![128, 64]⟩
abbrev S8192x64 : Shape := ⟨2, ![8192, 64]⟩
abbrev S128x64x64 : Shape := ⟨3, ![128, 64, 64]⟩
abbrev S8x64 : Shape := ⟨2, ![8, 64]⟩
abbrev S64 : Shape := ⟨1, ![64]⟩
abbrev S1x64 : Shape := ⟨2, ![1, 64]⟩
abbrev S64x8 : Shape := ⟨2, ![64, 8]⟩
abbrev S64x1x64 : Shape := ⟨3, ![64, 1, 64]⟩
abbrev S64x1x8 : Shape := ⟨3, ![64, 1, 8]⟩
abbrev S1x1x64 : Shape := ⟨3, ![1, 1, 64]⟩
abbrev S1x1 : Shape := ⟨2, ![1, 1]⟩
abbrev S1x1x8 : Shape := ⟨3, ![1, 1, 8]⟩
abbrev S512x64 : Shape := ⟨2, ![512, 64]⟩
abbrev S1x512 : Shape := ⟨2, ![1, 512]⟩
abbrev S1 : Shape := ⟨1, ![1]⟩
abbrev S1x8 : Shape := ⟨2, ![1, 8]⟩
abbrev S_ : Shape := ⟨0, ![]⟩
abbrev S64x8x1 : Shape := ⟨3, ![64, 8, 1]⟩
abbrev S64x8x64 : Shape := ⟨3, ![64, 8, 64]⟩
abbrev S1x8x64 : Shape := ⟨3, ![1, 8, 64]⟩

abbrev nBuf : Space → Nat
  | .hbm => 58
  | .vmem => 52
  | .smem => 3
  | _ => 0

abbrev bufTy : (tb : Table) → Fin (tcTables nBuf tb) → BufTy
  | .hbm, ⟨0, _⟩ => ⟨S8x8x64, .f32⟩
  | .hbm, ⟨1, _⟩ => ⟨S1000000x64, .f32⟩
  | .hbm, ⟨2, _⟩ => ⟨S1000000x64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S125000x8x64, .f32⟩
  | .hbm, ⟨7, _⟩ => ⟨S15744x64, .f32⟩
  | .hbm, ⟨8, _⟩ => ⟨S8x64, .i32⟩
  | .hbm, ⟨9, _⟩ => ⟨S64x1x64, .f32⟩
  | .hbm, ⟨10, _⟩ => ⟨S64x1x8, .i32⟩
  | .hbm, ⟨11, _⟩ => ⟨S64x1x8, .f32⟩
  | .hbm, ⟨12, _⟩ => ⟨S64x8, .i32⟩
  | .hbm, ⟨13, _⟩ => ⟨S_, .i32⟩
  | .hbm, ⟨14, _⟩ => ⟨S_, .i32⟩
  | .hbm, ⟨15, _⟩ => ⟨S64x8, .i32⟩
  | .hbm, ⟨16, _⟩ => ⟨S64x8, .i32⟩
  | .hbm, ⟨17, _⟩ => ⟨S64x8, .i32⟩
  | .hbm, ⟨18, _⟩ => ⟨S_, .i32⟩
  | .hbm, ⟨19, _⟩ => ⟨S64x8, .i32⟩
  | .hbm, ⟨20, _⟩ => ⟨S64x8, .i1⟩
  | .hbm, ⟨21, _⟩ => ⟨S64x8, .i32⟩
  | .hbm, ⟨22, _⟩ => ⟨S64x8, .i32⟩
  | .hbm, ⟨23, _⟩ => ⟨S_, .i32⟩
  | .hbm, ⟨24, _⟩ => ⟨S64x8, .i32⟩
  | .hbm, ⟨25, _⟩ => ⟨S64x8, .i1⟩
  | .hbm, ⟨26, _⟩ => ⟨S64x8, .i1⟩
  | .hbm, ⟨27, _⟩ => ⟨S_, .i32⟩
  | .hbm, ⟨28, _⟩ => ⟨S64x8, .i32⟩
  | .hbm, ⟨29, _⟩ => ⟨S64x8, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S64x8, .i32⟩
  | .hbm, ⟨37, _⟩ => ⟨S64x8, .i32⟩
  | .hbm, ⟨38, _⟩ => ⟨S_, .i32⟩
  | .hbm, ⟨39, _⟩ => ⟨S64x8, .i32⟩
  | .hbm, ⟨40, _⟩ => ⟨S64x8, .i1⟩
  | .hbm, ⟨41, _⟩ => ⟨S_, .i32⟩
  | .hbm, ⟨42, _⟩ => ⟨S64x8, .i32⟩
  | .hbm, ⟨43, _⟩ => ⟨S64x8, .i1⟩
  | .hbm, ⟨44, _⟩ => ⟨S_, .i32⟩
  | .hbm, ⟨45, _⟩ => ⟨S_, .i1⟩
  | .hbm, ⟨46, _⟩ => ⟨S64x8, .i1⟩
  | .hbm, ⟨47, _⟩ => ⟨S64x8, .i1⟩
  | .hbm, ⟨48, _⟩ => ⟨S64x8, .i1⟩
  | .hbm, ⟨49, _⟩ => ⟨S64x8, .i32⟩
  | .hbm, ⟨50, _⟩ => ⟨S64x8, .i32⟩
  | .hbm, ⟨51, _⟩ => ⟨S64x8x1, .f32⟩
  | .hbm, ⟨52, _⟩ => ⟨S64x8x64, .f32⟩
  | .hbm, ⟨53, _⟩ => ⟨S125000x8x64, .f32⟩
  | .hbm, ⟨54, _⟩ => ⟨S64x1x64, .f32⟩
  | .hbm, ⟨55, _⟩ => ⟨S64x64, .f32⟩
  | .hbm, ⟨56, _⟩ => ⟨S64x64, .f32⟩
  | .hbm, ⟨57, _⟩ => ⟨S8x8x64, .f32⟩
  | .local _ .vmem, ⟨0, _⟩ => ⟨S64x64, .f32⟩
  | .local _ .vmem, ⟨1, _⟩ => ⟨S1024x8x64, .f32⟩
  | .local _ .vmem, ⟨2, _⟩ => ⟨S1024x8x64, .f32⟩
  | .local _ .vmem, ⟨3, _⟩ => ⟨S128x64, .f32⟩
  | .local _ .vmem, ⟨4, _⟩ => ⟨S128x64, .f32⟩
  | .local _ .vmem, ⟨5, _⟩ => ⟨S15744x64, .f32⟩
  | .local _ .vmem, ⟨6, _⟩ => ⟨S8x64, .i32⟩
  | .local _ .vmem, ⟨7, _⟩ => ⟨S1x1x64, .f32⟩
  | .local _ .vmem, ⟨8, _⟩ => ⟨S1x1x64, .f32⟩
  | .local _ .vmem, ⟨9, _⟩ => ⟨S8x8x64, .f32⟩
  | .local _ .vmem, ⟨10, _⟩ => ⟨S8x8x64, .f32⟩
  | .local _ .vmem, ⟨11, _⟩ => ⟨S8x8x64, .f32⟩
  | .local _ .vmem, ⟨12, _⟩ => ⟨S8x8x64, .f32⟩
  | .local _ .vmem, ⟨13, _⟩ => ⟨S8x8x64, .f32⟩
  | .local _ .vmem, ⟨14, _⟩ => ⟨S8x8x64, .f32⟩
  | .local _ .vmem, ⟨15, _⟩ => ⟨S8x8x64, .f32⟩
  | .local _ .vmem, ⟨16, _⟩ => ⟨S8x8x64, .f32⟩
  | .local _ .vmem, ⟨17, _⟩ => ⟨S8x8x64, .f32⟩
  | .local _ .vmem, ⟨18, _⟩ => ⟨S8x8x64, .f32⟩
  | .local _ .vmem, ⟨19, _⟩ => ⟨S8x8x64, .f32⟩
  | .local _ .vmem, ⟨20, _⟩ => ⟨S8x8x64, .f32⟩
  | .local _ .vmem, ⟨21, _⟩ => ⟨S8x8x64, .f32⟩
  | .local _ .vmem, ⟨22, _⟩ => ⟨S8x8x64, .f32⟩
  | .local _ .vmem, ⟨23, _⟩ => ⟨S8x8x64, .f32⟩
  | .local _ .vmem, ⟨24, _⟩ => ⟨S8x8x64, .f32⟩
  | .local _ .vmem, ⟨25, _⟩ => ⟨S1x1x8, .i32⟩
  | .local _ .vmem, ⟨26, _⟩ => ⟨S1x1x8, .i32⟩
  | .local _ .vmem, ⟨27, _⟩ => ⟨S1x1x8, .f32⟩
  | .local _ .vmem, ⟨28, _⟩ => ⟨S1x1x8, .f32⟩
  | .local _ .vmem, ⟨29, _⟩ => ⟨S1x8x64, .f32⟩
  | .local _ .vmem, ⟨30, _⟩ => ⟨S1x8x64, .f32⟩
  | .local _ .vmem, ⟨31, _⟩ => ⟨S1x8x64, .f32⟩
  | .local _ .vmem, ⟨32, _⟩ => ⟨S1x8x64, .f32⟩
  | .local _ .vmem, ⟨33, _⟩ => ⟨S1x8x64, .f32⟩
  | .local _ .vmem, ⟨34, _⟩ => ⟨S1x8x64, .f32⟩
  | .local _ .vmem, ⟨35, _⟩ => ⟨S1x8x64, .f32⟩
  | .local _ .vmem, ⟨36, _⟩ => ⟨S1x8x64, .f32⟩
  | .local _ .vmem, ⟨37, _⟩ => ⟨S1x8x64, .f32⟩
  | .local _ .vmem, ⟨38, _⟩ => ⟨S1x8x64, .f32⟩
  | .local _ .vmem, ⟨39, _⟩ => ⟨S1x8x64, .f32⟩
  | .local _ .vmem, ⟨40, _⟩ => ⟨S1x8x64, .f32⟩
  | .local _ .vmem, ⟨41, _⟩ => ⟨S1x8x64, .f32⟩
  | .local _ .vmem, ⟨42, _⟩ => ⟨S1x8x64, .f32⟩
  | .local _ .vmem, ⟨43, _⟩ => ⟨S1x8x64, .f32⟩
  | .local _ .vmem, ⟨44, _⟩ => ⟨S1x8x64, .f32⟩
  | .local _ .vmem, ⟨45, _⟩ => ⟨S1x8x64, .f32⟩
  | .local _ .vmem, ⟨46, _⟩ => ⟨S1x8x64, .f32⟩
  | .local _ .vmem, ⟨47, _⟩ => ⟨S1x1x64, .f32⟩
  | .local _ .vmem, ⟨48, _⟩ => ⟨S1x1x64, .f32⟩
  | .local _ .vmem, ⟨49, _⟩ => ⟨S64x64, .f32⟩
  | .local _ .vmem, ⟨50, _⟩ => ⟨S64x64, .f32⟩
  | .local _ .vmem, ⟨51, _⟩ => ⟨S64x64, .f32⟩
  | .local _ .smem, ⟨0, _⟩ => ⟨S64x8, .i32⟩
  | .local _ .smem, ⟨1, _⟩ => ⟨S64x8, .i32⟩
  | .local _ .smem, ⟨2, _⟩ => ⟨S64x8, .i32⟩
  | _, _ => ⟨S8x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_c_0 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_v5 : Ref sig .tc := ⟨.hbm, 39, rfl⟩
abbrev main_call1_v6 : Ref sig .tc := ⟨.hbm, 40, rfl⟩
abbrev main_call1_c_2 : Ref sig .tc := ⟨.hbm, 41, rfl⟩
abbrev main_call1_v7 : Ref sig .tc := ⟨.hbm, 42, rfl⟩
abbrev main_call1_v8 : Ref sig .tc := ⟨.hbm, 43, rfl⟩
abbrev main_call1_c_3 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v5 : Ref sig .tc := ⟨.smem, 0, rfl⟩
abbrev main_v9 : Ref sig .tc := ⟨.smem, 1, rfl⟩
abbrev main_v10 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc2_stg0_0 : Ref sig .tc := ⟨.vmem, 7, rfl⟩
abbrev cc2_stg0_1 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg2_1 : Ref sig .tc := ⟨.vmem, 12, rfl⟩
abbrev cc2_stg3_0 : Ref sig .tc := ⟨.vmem, 13, rfl⟩
abbrev cc2_stg3_1 : Ref sig .tc := ⟨.vmem, 14, rfl⟩
abbrev cc2_stg4_0 : Ref sig .tc := ⟨.vmem, 15, rfl⟩
abbrev cc2_stg4_1 : Ref sig .tc := ⟨.vmem, 16, rfl⟩
abbrev cc2_stg5_0 : Ref sig .tc := ⟨.vmem, 17, rfl⟩
abbrev cc2_stg5_1 : Ref sig .tc := ⟨.vmem, 18, rfl⟩
abbrev cc2_stg6_0 : Ref sig .tc := ⟨.vmem, 19, rfl⟩
abbrev cc2_stg6_1 : Ref sig .tc := ⟨.vmem, 20, rfl⟩
abbrev cc2_stg7_0 : Ref sig .tc := ⟨.vmem, 21, rfl⟩
abbrev cc2_stg7_1 : Ref sig .tc := ⟨.vmem, 22, rfl⟩
abbrev cc2_stg8_0 : Ref sig .tc := ⟨.vmem, 23, rfl⟩
abbrev cc2_stg8_1 : Ref sig .tc := ⟨.vmem, 24, rfl⟩
abbrev cc2_stg9_0 : Ref sig .tc := ⟨.vmem, 25, rfl⟩
abbrev cc2_stg9_1 : Ref sig .tc := ⟨.vmem, 26, rfl⟩
abbrev cc2_stg10_0 : Ref sig .tc := ⟨.vmem, 27, rfl⟩
abbrev cc2_stg10_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg3_1 : Ref sig .tc := ⟨.vmem, 36, rfl⟩
abbrev cc3_stg4_0 : Ref sig .tc := ⟨.vmem, 37, rfl⟩
abbrev cc3_stg4_1 : Ref sig .tc := ⟨.vmem, 38, rfl⟩
abbrev cc3_stg5_0 : Ref sig .tc := ⟨.vmem, 39, rfl⟩
abbrev cc3_stg5_1 : Ref sig .tc := ⟨.vmem, 40, rfl⟩
abbrev cc3_stg6_0 : Ref sig .tc := ⟨.vmem, 41, rfl⟩
abbrev cc3_stg6_1 : Ref sig .tc := ⟨.vmem, 42, rfl⟩
abbrev cc3_stg7_0 : Ref sig .tc := ⟨.vmem, 43, rfl⟩
abbrev cc3_stg7_1 : Ref sig .tc := ⟨.vmem, 44, rfl⟩
abbrev cc3_stg8_0 : Ref sig .tc := ⟨.vmem, 45, rfl⟩
abbrev cc3_stg8_1 : Ref sig .tc := ⟨.vmem, 46, rfl⟩
abbrev cc3_stg9_0 : Ref sig .tc := ⟨.vmem, 47, rfl⟩
abbrev cc3_stg9_1 : Ref sig .tc := ⟨.vmem, 48, rfl⟩
abbrev cc4_stg0_0 : Ref sig .tc := ⟨.vmem, 49, rfl⟩
abbrev cc4_stg1_0 : Ref sig .tc := ⟨.vmem, 50, rfl⟩
abbrev cc4_stg2_0 : Ref sig .tc := ⟨.vmem, 51, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc2_sem0_0 : DmaSem sig := 7
abbrev cc2_sem0_1 : DmaSem sig := 8
abbrev cc2_sem1_0 : DmaSem sig := 9
abbrev cc2_sem1_1 : DmaSem sig := 10
abbrev cc2_sem2_0 : DmaSem sig := 11
abbrev cc2_sem2_1 : DmaSem sig := 12
abbrev cc2_sem3_0 : DmaSem sig := 13
abbrev cc2_sem3_1 : DmaSem sig := 14
abbrev cc2_sem4_0 : DmaSem sig := 15
abbrev cc2_sem4_1 : DmaSem sig := 16
abbrev cc2_sem5_0 : DmaSem sig := 17
abbrev cc2_sem5_1 : DmaSem sig := 18
abbrev cc2_sem6_0 : DmaSem sig := 19
abbrev cc2_sem6_1 : DmaSem sig := 20
abbrev cc2_sem7_0 : DmaSem sig := 21
abbrev cc2_sem7_1 : DmaSem sig := 22
abbrev cc2_sem8_0 : DmaSem sig := 23
abbrev cc2_sem8_1 : DmaSem sig := 24
abbrev cc2_sem9_0 : DmaSem sig := 25
abbrev cc2_sem9_1 : DmaSem sig := 26
abbrev cc2_sem10_0 : DmaSem sig := 27
abbrev cc2_sem10_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem3_1 : DmaSem sig := 36
abbrev cc3_sem4_0 : DmaSem sig := 37
abbrev cc3_sem4_1 : DmaSem sig := 38
abbrev cc3_sem5_0 : DmaSem sig := 39
abbrev cc3_sem5_1 : DmaSem sig := 40
abbrev cc3_sem6_0 : DmaSem sig := 41
abbrev cc3_sem6_1 : DmaSem sig := 42
abbrev cc3_sem7_0 : DmaSem sig := 43
abbrev cc3_sem7_1 : DmaSem sig := 44
abbrev cc3_sem8_0 : DmaSem sig := 45
abbrev cc3_sem8_1 : DmaSem sig := 46
abbrev cc3_sem9_0 : DmaSem sig := 47
abbrev cc3_sem9_1 : DmaSem sig := 48
abbrev cc4_sem0_0 : DmaSem sig := 49
abbrev cc4_sem1_0 : DmaSem sig := 50
abbrev cc4_sem2_0 : DmaSem sig := 51

abbrev nD : Nat := 1
abbrev τ : Topo := Topo.v7x

variable {F : FTy → Type} [FloatOps F] [Named F]

def κ : String → Option EReal := fun
  | "mask" => some ⊥
  | _ => none

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := .none

abbrev stage1_0 : Fin 1 → Memref sig .tc .vmem S15744x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x64 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := ⟨1, ![64], ![false]⟩

abbrev pre2 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 2 → Nat :=
  let arg0 : BitVec 32 := BitVec.ofNat 32 (i 0).val
  let v0 : Index := Scalar.indexCast arg0
  let c0 : Index := 0#32
  ![v0.toNat, 0]
def k2_off2 (i : grid2.Coords) : Fin 2 → Nat :=
  let arg0 : BitVec 32 := BitVec.ofNat 32 (i 0).val
  let v0 : Index := Scalar.indexCast arg0
  let c1 : Index := 1#32
  ![v0.toNat, 1]
def k2_off3 (i : grid2.Coords) : Fin 2 → Nat :=
  let arg0 : BitVec 32 := BitVec.ofNat 32 (i 0).val
  let v0 : Index := Scalar.indexCast arg0
  let c2 : Index := 2#32
  ![v0.toNat, 2]
def k2_off4 (i : grid2.Coords) : Fin 2 → Nat :=
  let arg0 : BitVec 32 := BitVec.ofNat 32 (i 0).val
  let v0 : Index := Scalar.indexCast arg0
  let c3 : Index := 3#32
  ![v0.toNat, 3]
def k2_off5 (i : grid2.Coords) : Fin 2 → Nat :=
  let arg0 : BitVec 32 := BitVec.ofNat 32 (i 0).val
  let v0 : Index := Scalar.indexCast arg0
  let c4 : Index := 4#32
  ![v0.toNat, 4]
def k2_off6 (i : grid2.Coords) : Fin 2 → Nat :=
  let arg0 : BitVec 32 := BitVec.ofNat 32 (i 0).val
  let v0 : Index := Scalar.indexCast arg0
  let c5 : Index := 5#32
  ![v0.toNat, 5]
def k2_off7 (i : grid2.Coords) : Fin 2 → Nat :=
  let arg0 : BitVec 32 := BitVec.ofNat 32 (i 0).val
  let v0 : Index := Scalar.indexCast arg0
  let c6 : Index := 6#32
  ![v0.toNat, 6]
def k2_off8 (i : grid2.Coords) : Fin 2 → Nat :=
  let arg0 : BitVec 32 := BitVec.ofNat 32 (i 0).val
  let v0 : Index := Scalar.indexCast arg0
  let c7 : Index := 7#32
  ![v0.toNat, 7]
def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (k2_off1_inb : ∀ i : grid2.Coords, ∀ a, (k2_off1 i) a + S1x1.size a ≤ S64x8.size a) (numel1_S1x1 : S1x1.numel = 1) (pf : pre2.Contents (Elt F)) (i : grid2.Coords) : Fin 3 → Nat :=
  let arg0 : BitVec 32 := BitVec.ofNat 32 (i 0).val
  let v0 : Index := Scalar.indexCast arg0
  let c0 : Index := 0#32
  let v1 : BitVec 32 := pf.at 0 (Rect.unit (s := S64x8) ![v0.toNat, 0] S1x1.size (k2_off1_inb i)) numel1_S1x1
  let c0_i32 : BitVec 32 := 0#32
  let c0_i32_0 : BitVec 32 := 0#32
  let c0_i32_1 : BitVec 32 := 0#32
  ![v1.toNat, c0_i32.toNat, c0_i32_0.toNat]

def cc2_transform_2 (k2_off2_inb : ∀ i : grid2.Coords, ∀ a, (k2_off2 i) a + S1x1.size a ≤ S64x8.size a) (numel1_S1x1 : S1x1.numel = 1) (pf : pre2.Contents (Elt F)) (i : grid2.Coords) : Fin 3 → Nat :=
  let arg0 : BitVec 32 := BitVec.ofNat 32 (i 0).val
  let v0 : Index := Scalar.indexCast arg0
  let c1 : Index := 1#32
  let v1 : BitVec 32 := pf.at 0 (Rect.unit (s := S64x8) ![v0.toNat, 1] S1x1.size (k2_off2_inb i)) numel1_S1x1
  let c0_i32 : BitVec 32 := 0#32
  let c0_i32_0 : BitVec 32 := 0#32
  let c0_i32_1 : BitVec 32 := 0#32
  ![v1.toNat, c0_i32.toNat, c0_i32_0.toNat]

def cc2_transform_3 (k2_off3_inb : ∀ i : grid2.Coords, ∀ a, (k2_off3 i) a + S1x1.size a ≤ S64x8.size a) (numel1_S1x1 : S1x1.numel = 1) (pf : pre2.Contents (Elt F)) (i : grid2.Coords) : Fin 3 → Nat :=
  let arg0 : BitVec 32 := BitVec.ofNat 32 (i 0).val
  let v0 : Index := Scalar.indexCast arg0
  let c2 : Index := 2#32
  let v1 : BitVec 32 := pf.at 0 (Rect.unit (s := S64x8) ![v0.toNat, 2] S1x1.size (k2_off3_inb i)) numel1_S1x1
  let c0_i32 : BitVec 32 := 0#32
  let c0_i32_0 : BitVec 32 := 0#32
  let c0_i32_1 : BitVec 32 := 0#32
  ![v1.toNat, c0_i32.toNat, c0_i32_0.toNat]

def cc2_transform_4 (k2_off4_inb : ∀ i : grid2.Coords, ∀ a, (k2_off4 i) a + S1x1.size a ≤ S64x8.size a) (numel1_S1x1 : S1x1.numel = 1) (pf : pre2.Contents (Elt F)) (i : grid2.Coords) : Fin 3 → Nat :=
  let arg0 : BitVec 32 := BitVec.ofNat 32 (i 0).val
  let v0 : Index := Scalar.indexCast arg0
  let c3 : Index := 3#32
  let v1 : BitVec 32 := pf.at 0 (Rect.unit (s := S64x8) ![v0.toNat, 3] S1x1.size (k2_off4_inb i)) numel1_S1x1
  let c0_i32 : BitVec 32 := 0#32
  let c0_i32_0 : BitVec 32 := 0#32
  let c0_i32_1 : BitVec 32 := 0#32
  ![v1.toNat, c0_i32.toNat, c0_i32_0.toNat]

def cc2_transform_5 (k2_off5_inb : ∀ i : grid2.Coords, ∀ a, (k2_off5 i) a + S1x1.size a ≤ S64x8.size a) (numel1_S1x1 : S1x1.numel = 1) (pf : pre2.Contents (Elt F)) (i : grid2.Coords) : Fin 3 → Nat :=
  let arg0 : BitVec 32 := BitVec.ofNat 32 (i 0).val
  let v0 : Index := Scalar.indexCast arg0
  let c4 : Index := 4#32
  let v1 : BitVec 32 := pf.at 0 (Rect.unit (s := S64x8) ![v0.toNat, 4] S1x1.size (k2_off5_inb i)) numel1_S1x1
  let c0_i32 : BitVec 32 := 0#32
  let c0_i32_0 : BitVec 32 := 0#32
  let c0_i32_1 : BitVec 32 := 0#32
  ![v1.toNat, c0_i32.toNat, c0_i32_0.toNat]

def cc2_transform_6 (k2_off6_inb : ∀ i : grid2.Coords, ∀ a, (k2_off6 i) a + S1x1.size a ≤ S64x8.size a) (numel1_S1x1 : S1x1.numel = 1) (pf : pre2.Contents (Elt F)) (i : grid2.Coords) : Fin 3 → Nat :=
  let arg0 : BitVec 32 := BitVec.ofNat 32 (i 0).val
  let v0 : Index := Scalar.indexCast arg0
  let c5 : Index := 5#32
  let v1 : BitVec 32 := pf.at 0 (Rect.unit (s := S64x8) ![v0.toNat, 5] S1x1.size (k2_off6_inb i)) numel1_S1x1
  let c0_i32 : BitVec 32 := 0#32
  let c0_i32_0 : BitVec 32 := 0#32
  let c0_i32_1 : BitVec 32 := 0#32
  ![v1.toNat, c0_i32.toNat, c0_i32_0.toNat]

def cc2_transform_7 (k2_off7_inb : ∀ i : grid2.Coords, ∀ a, (k2_off7 i) a + S1x1.size a ≤ S64x8.size a) (numel1_S1x1 : S1x1.numel = 1) (pf : pre2.Contents (Elt F)) (i : grid2.Coords) : Fin 3 → Nat :=
  let arg0 : BitVec 32 := BitVec.ofNat 32 (i 0).val
  let v0 : Index := Scalar.indexCast arg0
  let c6 : Index := 6#32
  let v1 : BitVec 32 := pf.at 0 (Rect.unit (s := S64x8) ![v0.toNat, 6] S1x1.size (k2_off7_inb i)) numel1_S1x1
  let c0_i32 : BitVec 32 := 0#32
  let c0_i32_0 : BitVec 32 := 0#32
  let c0_i32_1 : BitVec 32 := 0#32
  ![v1.toNat, c0_i32.toNat, c0_i32_0.toNat]

def cc2_transform_8 (k2_off8_inb : ∀ i : grid2.Coords, ∀ a, (k2_off8 i) a + S1x1.size a ≤ S64x8.size a) (numel1_S1x1 : S1x1.numel = 1) (pf : pre2.Contents (Elt F)) (i : grid2.Coords) : Fin 3 → Nat :=
  let arg0 : BitVec 32 := BitVec.ofNat 32 (i 0).val
  let v0 : Index := Scalar.indexCast arg0
  let c7 : Index := 7#32
  let v1 : BitVec 32 := pf.at 0 (Rect.unit (s := S64x8) ![v0.toNat, 7] S1x1.size (k2_off8_inb i)) numel1_S1x1
  let c0_i32 : BitVec 32 := 0#32
  let c0_i32_0 : BitVec 32 := 0#32
  let c0_i32_1 : BitVec 32 := 0#32
  ![v1.toNat, c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_10 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x8x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8x8x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8x8x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S8x8x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S8x8x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S8x8x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S8x8x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S8x8x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x1x8 .i32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S1x1x8 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![64], ![false]⟩

abbrev pre3 : Pipeline.Prefetch sig := ⟨2, ![main_v9.idx, main_v10.idx], fun | 0 => main_v9.names | 1 => main_v10.names | ⟨_ + 2, h⟩ => absurd h (Nat.not_lt.2 (Nat.le_add_left _ _)), fun | 0 => rfl | 1 => rfl | ⟨_ + 2, h⟩ => absurd h (Nat.not_lt.2 (Nat.le_add_left _ _))⟩

def k3_off1 (i : grid3.Coords) : Fin 2 → Nat :=
  let arg0 : BitVec 32 := BitVec.ofNat 32 (i 0).val
  let v0 : Index := Scalar.indexCast arg0
  let c0 : Index := 0#32
  ![v0.toNat, 0]
def k3_off2 (i : grid3.Coords) : Fin 2 → Nat :=
  let arg0 : BitVec 32 := BitVec.ofNat 32 (i 0).val
  let v0 : Index := Scalar.indexCast arg0
  let c1 : Index := 1#32
  ![v0.toNat, 1]
def k3_off3 (i : grid3.Coords) : Fin 2 → Nat :=
  let arg0 : BitVec 32 := BitVec.ofNat 32 (i 0).val
  let v0 : Index := Scalar.indexCast arg0
  let c2 : Index := 2#32
  ![v0.toNat, 2]
def k3_off4 (i : grid3.Coords) : Fin 2 → Nat :=
  let arg0 : BitVec 32 := BitVec.ofNat 32 (i 0).val
  let v0 : Index := Scalar.indexCast arg0
  let c3 : Index := 3#32
  ![v0.toNat, 3]
def k3_off5 (i : grid3.Coords) : Fin 2 → Nat :=
  let arg0 : BitVec 32 := BitVec.ofNat 32 (i 0).val
  let v0 : Index := Scalar.indexCast arg0
  let c4 : Index := 4#32
  ![v0.toNat, 4]
def k3_off6 (i : grid3.Coords) : Fin 2 → Nat :=
  let arg0 : BitVec 32 := BitVec.ofNat 32 (i 0).val
  let v0 : Index := Scalar.indexCast arg0
  let c5 : Index := 5#32
  ![v0.toNat, 5]
def k3_off7 (i : grid3.Coords) : Fin 2 → Nat :=
  let arg0 : BitVec 32 := BitVec.ofNat 32 (i 0).val
  let v0 : Index := Scalar.indexCast arg0
  let c6 : Index := 6#32
  ![v0.toNat, 6]
def k3_off8 (i : grid3.Coords) : Fin 2 → Nat :=
  let arg0 : BitVec 32 := BitVec.ofNat 32 (i 0).val
  let v0 : Index := Scalar.indexCast arg0
  let c7 : Index := 7#32
  ![v0.toNat, 7]
def k3_off9 (v1 : BitVec 32) : Fin 3 → Nat :=
  let c0_0 : Index := 0#32
  let v2 : Index := Scalar.indexCast v1
  let c0_1 : Index := 0#32
  ![0, v2.toNat, 0]

def k3_chk1 (v1 : BitVec 32) : Prop :=
  (∀ a, (k3_off9 v1) a + S1x1x64.size a ≤ S1x8x64.size a)
theorem k3_off9_inb : ∀ (v1 : BitVec 32) (k3_hw1 : k3_chk1 v1), ∀ a, (k3_off9 v1) a + S1x1x64.size a ≤ S1x8x64.size a := fun v1 k3_hw1 => k3_hw1

def k3_off10 (i : grid3.Coords) : Fin 2 → Nat :=
  let arg0 : BitVec 32 := BitVec.ofNat 32 (i 0).val
  let v5 : Index := Scalar.indexCast arg0
  let c1 : Index := 1#32
  ![v5.toNat, 1]
def k3_off11 (v6 : BitVec 32) : Fin 3 → Nat :=
  let c0_2 : Index := 0#32
  let v7 : Index := Scalar.indexCast v6
  let c0_3 : Index := 0#32
  ![0, v7.toNat, 0]

def k3_chk2 (v6 : BitVec 32) : Prop :=
  (∀ a, (k3_off11 v6) a + S1x1x64.size a ≤ S1x8x64.size a)
theorem k3_off11_inb : ∀ (v6 : BitVec 32) (k3_hw2 : k3_chk2 v6), ∀ a, (k3_off11 v6) a + S1x1x64.size a ≤ S1x8x64.size a := fun v6 k3_hw2 => k3_hw2

def k3_off12 (i : grid3.Coords) : Fin 2 → Nat :=
  let arg0 : BitVec 32 := BitVec.ofNat 32 (i 0).val
  let v10 : Index := Scalar.indexCast arg0
  let c2 : Index := 2#32
  ![v10.toNat, 2]
def k3_off13 (v11 : BitVec 32) : Fin 3 → Nat :=
  let c0_4 : Index := 0#32
  let v12 : Index := Scalar.indexCast v11
  let c0_5 : Index := 0#32
  ![0, v12.toNat, 0]

def k3_chk3 (v11 : BitVec 32) : Prop :=
  (∀ a, (k3_off13 v11) a + S1x1x64.size a ≤ S1x8x64.size a)
theorem k3_off13_inb : ∀ (v11 : BitVec 32) (k3_hw3 : k3_chk3 v11), ∀ a, (k3_off13 v11) a + S1x1x64.size a ≤ S1x8x64.size a := fun v11 k3_hw3 => k3_hw3

def k3_off14 (i : grid3.Coords) : Fin 2 → Nat :=
  let arg0 : BitVec 32 := BitVec.ofNat 32 (i 0).val
  let v15 : Index := Scalar.indexCast arg0
  let c3 : Index := 3#32
  ![v15.toNat, 3]
def k3_off15 (v16 : BitVec 32) : Fin 3 → Nat :=
  let c0_6 : Index := 0#32
  let v17 : Index := Scalar.indexCast v16
  let c0_7 : Index := 0#32
  ![0, v17.toNat, 0]

def k3_chk4 (v16 : BitVec 32) : Prop :=
  (∀ a, (k3_off15 v16) a + S1x1x64.size a ≤ S1x8x64.size a)
theorem k3_off15_inb : ∀ (v16 : BitVec 32) (k3_hw4 : k3_chk4 v16), ∀ a, (k3_off15 v16) a + S1x1x64.size a ≤ S1x8x64.size a := fun v16 k3_hw4 => k3_hw4

def k3_off16 (i : grid3.Coords) : Fin 2 → Nat :=
  let arg0 : BitVec 32 := BitVec.ofNat 32 (i 0).val
  let v20 : Index := Scalar.indexCast arg0
  let c4 : Index := 4#32
  ![v20.toNat, 4]
def k3_off17 (v21 : BitVec 32) : Fin 3 → Nat :=
  let c0_8 : Index := 0#32
  let v22 : Index := Scalar.indexCast v21
  let c0_9 : Index := 0#32
  ![0, v22.toNat, 0]

def k3_chk5 (v21 : BitVec 32) : Prop :=
  (∀ a, (k3_off17 v21) a + S1x1x64.size a ≤ S1x8x64.size a)
theorem k3_off17_inb : ∀ (v21 : BitVec 32) (k3_hw5 : k3_chk5 v21), ∀ a, (k3_off17 v21) a + S1x1x64.size a ≤ S1x8x64.size a := fun v21 k3_hw5 => k3_hw5

def k3_off18 (i : grid3.Coords) : Fin 2 → Nat :=
  let arg0 : BitVec 32 := BitVec.ofNat 32 (i 0).val
  let v25 : Index := Scalar.indexCast arg0
  let c5 : Index := 5#32
  ![v25.toNat, 5]
def k3_off19 (v26 : BitVec 32) : Fin 3 → Nat :=
  let c0_10 : Index := 0#32
  let v27 : Index := Scalar.indexCast v26
  let c0_11 : Index := 0#32
  ![0, v27.toNat, 0]

def k3_chk6 (v26 : BitVec 32) : Prop :=
  (∀ a, (k3_off19 v26) a + S1x1x64.size a ≤ S1x8x64.size a)
theorem k3_off19_inb : ∀ (v26 : BitVec 32) (k3_hw6 : k3_chk6 v26), ∀ a, (k3_off19 v26) a + S1x1x64.size a ≤ S1x8x64.size a := fun v26 k3_hw6 => k3_hw6

def k3_off20 (i : grid3.Coords) : Fin 2 → Nat :=
  let arg0 : BitVec 32 := BitVec.ofNat 32 (i 0).val
  let v30 : Index := Scalar.indexCast arg0
  let c6 : Index := 6#32
  ![v30.toNat, 6]
def k3_off21 (v31 : BitVec 32) : Fin 3 → Nat :=
  let c0_12 : Index := 0#32
  let v32 : Index := Scalar.indexCast v31
  let c0_13 : Index := 0#32
  ![0, v32.toNat, 0]

def k3_chk7 (v31 : BitVec 32) : Prop :=
  (∀ a, (k3_off21 v31) a + S1x1x64.size a ≤ S1x8x64.size a)
theorem k3_off21_inb : ∀ (v31 : BitVec 32) (k3_hw7 : k3_chk7 v31), ∀ a, (k3_off21 v31) a + S1x1x64.size a ≤ S1x8x64.size a := fun v31 k3_hw7 => k3_hw7

def k3_off22 (i : grid3.Coords) : Fin 2 → Nat :=
  let arg0 : BitVec 32 := BitVec.ofNat 32 (i 0).val
  let v35 : Index := Scalar.indexCast arg0
  let c7 : Index := 7#32
  ![v35.toNat, 7]
def k3_off23 (v36 : BitVec 32) : Fin 3 → Nat :=
  let c0_14 : Index := 0#32
  let v37 : Index := Scalar.indexCast v36
  let c0_15 : Index := 0#32
  ![0, v37.toNat, 0]

def k3_chk8 (v36 : BitVec 32) : Prop :=
  (∀ a, (k3_off23 v36) a + S1x1x64.size a ≤ S1x8x64.size a)
theorem k3_off23_inb : ∀ (v36 : BitVec 32) (k3_hw8 : k3_chk8 v36), ∀ a, (k3_off23 v36) a + S1x1x64.size a ≤ S1x8x64.size a := fun v36 k3_hw8 => k3_hw8

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (k3_off1_inb : ∀ i : grid3.Coords, ∀ a, (k3_off1 i) a + S1x1.size a ≤ S64x8.size a) (numel1_S1x1 : S1x1.numel = 1) (pf : pre3.Contents (Elt F)) (i : grid3.Coords) : Fin 3 → Nat :=
  let arg0 : BitVec 32 := BitVec.ofNat 32 (i 0).val
  let v0 : Index := Scalar.indexCast arg0
  let c0 : Index := 0#32
  let v1 : BitVec 32 := pf.at 0 (Rect.unit (s := S64x8) ![v0.toNat, 0] S1x1.size (k3_off1_inb i)) numel1_S1x1
  let c0_i32 : BitVec 32 := 0#32
  let c0_i32_0 : BitVec 32 := 0#32
  let c0_i32_1 : BitVec 32 := 0#32
  ![v1.toNat, c0_i32.toNat, c0_i32_0.toNat]

def cc3_transform_2 (k3_off2_inb : ∀ i : grid3.Coords, ∀ a, (k3_off2 i) a + S1x1.size a ≤ S64x8.size a) (numel1_S1x1 : S1x1.numel = 1) (pf : pre3.Contents (Elt F)) (i : grid3.Coords) : Fin 3 → Nat :=
  let arg0 : BitVec 32 := BitVec.ofNat 32 (i 0).val
  let v0 : Index := Scalar.indexCast arg0
  let c1 : Index := 1#32
  let v1 : BitVec 32 := pf.at 0 (Rect.unit (s := S64x8) ![v0.toNat, 1] S1x1.size (k3_off2_inb i)) numel1_S1x1
  let c0_i32 : BitVec 32 := 0#32
  let c0_i32_0 : BitVec 32 := 0#32
  let c0_i32_1 : BitVec 32 := 0#32
  ![v1.toNat, c0_i32.toNat, c0_i32_0.toNat]

def cc3_transform_3 (k3_off3_inb : ∀ i : grid3.Coords, ∀ a, (k3_off3 i) a + S1x1.size a ≤ S64x8.size a) (numel1_S1x1 : S1x1.numel = 1) (pf : pre3.Contents (Elt F)) (i : grid3.Coords) : Fin 3 → Nat :=
  let arg0 : BitVec 32 := BitVec.ofNat 32 (i 0).val
  let v0 : Index := Scalar.indexCast arg0
  let c2 : Index := 2#32
  let v1 : BitVec 32 := pf.at 0 (Rect.unit (s := S64x8) ![v0.toNat, 2] S1x1.size (k3_off3_inb i)) numel1_S1x1
  let c0_i32 : BitVec 32 := 0#32
  let c0_i32_0 : BitVec 32 := 0#32
  let c0_i32_1 : BitVec 32 := 0#32
  ![v1.toNat, c0_i32.toNat, c0_i32_0.toNat]

def cc3_transform_4 (k3_off4_inb : ∀ i : grid3.Coords, ∀ a, (k3_off4 i) a + S1x1.size a ≤ S64x8.size a) (numel1_S1x1 : S1x1.numel = 1) (pf : pre3.Contents (Elt F)) (i : grid3.Coords) : Fin 3 → Nat :=
  let arg0 : BitVec 32 := BitVec.ofNat 32 (i 0).val
  let v0 : Index := Scalar.indexCast arg0
  let c3 : Index := 3#32
  let v1 : BitVec 32 := pf.at 0 (Rect.unit (s := S64x8) ![v0.toNat, 3] S1x1.size (k3_off4_inb i)) numel1_S1x1
  let c0_i32 : BitVec 32 := 0#32
  let c0_i32_0 : BitVec 32 := 0#32
  let c0_i32_1 : BitVec 32 := 0#32
  ![v1.toNat, c0_i32.toNat, c0_i32_0.toNat]

def cc3_transform_5 (k3_off5_inb : ∀ i : grid3.Coords, ∀ a, (k3_off5 i) a + S1x1.size a ≤ S64x8.size a) (numel1_S1x1 : S1x1.numel = 1) (pf : pre3.Contents (Elt F)) (i : grid3.Coords) : Fin 3 → Nat :=
  let arg0 : BitVec 32 := BitVec.ofNat 32 (i 0).val
  let v0 : Index := Scalar.indexCast arg0
  let c4 : Index := 4#32
  let v1 : BitVec 32 := pf.at 0 (Rect.unit (s := S64x8) ![v0.toNat, 4] S1x1.size (k3_off5_inb i)) numel1_S1x1
  let c0_i32 : BitVec 32 := 0#32
  let c0_i32_0 : BitVec 32 := 0#32
  let c0_i32_1 : BitVec 32 := 0#32
  ![v1.toNat, c0_i32.toNat, c0_i32_0.toNat]

def cc3_transform_6 (k3_off6_inb : ∀ i : grid3.Coords, ∀ a, (k3_off6 i) a + S1x1.size a ≤ S64x8.size a) (numel1_S1x1 : S1x1.numel = 1) (pf : pre3.Contents (Elt F)) (i : grid3.Coords) : Fin 3 → Nat :=
  let arg0 : BitVec 32 := BitVec.ofNat 32 (i 0).val
  let v0 : Index := Scalar.indexCast arg0
  let c5 : Index := 5#32
  let v1 : BitVec 32 := pf.at 0 (Rect.unit (s := S64x8) ![v0.toNat, 5] S1x1.size (k3_off6_inb i)) numel1_S1x1
  let c0_i32 : BitVec 32 := 0#32
  let c0_i32_0 : BitVec 32 := 0#32
  let c0_i32_1 : BitVec 32 := 0#32
  ![v1.toNat, c0_i32.toNat, c0_i32_0.toNat]

def cc3_transform_7 (k3_off7_inb : ∀ i : grid3.Coords, ∀ a, (k3_off7 i) a + S1x1.size a ≤ S64x8.size a) (numel1_S1x1 : S1x1.numel = 1) (pf : pre3.Contents (Elt F)) (i : grid3.Coords) : Fin 3 → Nat :=
  let arg0 : BitVec 32 := BitVec.ofNat 32 (i 0).val
  let v0 : Index := Scalar.indexCast arg0
  let c6 : Index := 6#32
  let v1 : BitVec 32 := pf.at 0 (Rect.unit (s := S64x8) ![v0.toNat, 6] S1x1.size (k3_off7_inb i)) numel1_S1x1
  let c0_i32 : BitVec 32 := 0#32
  let c0_i32_0 : BitVec 32 := 0#32
  let c0_i32_1 : BitVec 32 := 0#32
  ![v1.toNat, c0_i32.toNat, c0_i32_0.toNat]

def cc3_transform_8 (k3_off8_inb : ∀ i : grid3.Coords, ∀ a, (k3_off8 i) a + S1x1.size a ≤ S64x8.size a) (numel1_S1x1 : S1x1.numel = 1) (pf : pre3.Contents (Elt F)) (i : grid3.Coords) : Fin 3 → Nat :=
  let arg0 : BitVec 32 := BitVec.ofNat 32 (i 0).val
  let v0 : Index := Scalar.indexCast arg0
  let c7 : Index := 7#32
  let v1 : BitVec 32 := pf.at 0 (Rect.unit (s := S64x8) ![v0.toNat, 7] S1x1.size (k3_off8_inb i)) numel1_S1x1
  let c0_i32 : BitVec 32 := 0#32
  let c0_i32_0 : BitVec 32 := 0#32
  let c0_i32_1 : BitVec 32 := 0#32
  ![v1.toNat, c0_i32.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x8x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x8x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x8x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x8x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x8x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x8x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x8x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x8x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1x8x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S1x1x64 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := .none

abbrev stage4_0 : Fin 1 → Memref sig .tc .vmem S64x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
-- ==== ReferenceIdeal.lean ====
abbrev S8x8x64 : Shape := ⟨3, ![8, 8, 64]⟩
abbrev S1000000x64 : Shape := ⟨2, ![1000000, 64]⟩
abbrev S64x64 : Shape := ⟨2, ![64, 64]⟩
abbrev S64x1000000 : Shape := ⟨2, ![64, 1000000]⟩
abbrev S8x8x1000000 : Shape := ⟨3, ![8, 8, 1000000]⟩
abbrev S8x8x8 : Shape := ⟨3, ![8, 8, 8]⟩
abbrev S_ : Shape := ⟨0, ![]⟩
abbrev S8x8 : Shape := ⟨2, ![8, 8]⟩
abbrev S8x8x1 : Shape := ⟨3, ![8, 8, 1]⟩
abbrev S64x8 : Shape := ⟨2, ![64, 8]⟩
abbrev S512 : Shape := ⟨1, ![512]⟩
abbrev S512x1 : Shape := ⟨2, ![512, 1]⟩
abbrev S1 : Shape := ⟨1, ![1]⟩
abbrev S1x1 : Shape := ⟨2, ![1, 1]⟩
abbrev S512x64 : Shape := ⟨2, ![512, 64]⟩
abbrev S64x8x64 : Shape := ⟨3, ![64, 8, 64]⟩
abbrev S64x8x1 : Shape := ⟨3, ![64, 8, 1]⟩

abbrev nBuf : Space → Nat
  | .hbm => 56
  | .vmem => 0
  | .smem => 0
  | _ => 0

abbrev bufTy : (tb : Table) → Fin (tcTables nBuf tb) → BufTy
  | .hbm, ⟨0, _⟩ => ⟨S8x8x64, .f32⟩
  | .hbm, ⟨1, _⟩ => ⟨S1000000x64, .f32⟩
  | .hbm, ⟨2, _⟩ => ⟨S1000000x64, .f32⟩
  | .hbm, ⟨3, _⟩ => ⟨S64x64, .f32⟩
  | .hbm, ⟨4, _⟩ => ⟨S64x1000000, .f32⟩
  | .hbm, ⟨5, _⟩ => ⟨S8x8x1000000, .f32⟩
  | .hbm, ⟨6, _⟩ => ⟨S8x8x8, .f32⟩
  | .hbm, ⟨7, _⟩ => ⟨S8x8x8, .i32⟩
  | .hbm, ⟨8, _⟩ => ⟨S_, .f32⟩
  | .hbm, ⟨9, _⟩ => ⟨S8x8, .f32⟩
  | .hbm, ⟨10, _⟩ => ⟨S_, .f32⟩
  | .hbm, ⟨11, _⟩ => ⟨S8x8, .f32⟩
  | .hbm, ⟨12, _⟩ => ⟨S8x8, .f32⟩
  | .hbm, ⟨13, _⟩ => ⟨S8x8x1, .f32⟩
  | .hbm, ⟨14, _⟩ => ⟨S8x8x8, .f32⟩
  | .hbm, ⟨15, _⟩ => ⟨S8x8x8, .f32⟩
  | .hbm, ⟨16, _⟩ => ⟨S8x8x8, .f32⟩
  | .hbm, ⟨17, _⟩ => ⟨S_, .f32⟩
  | .hbm, ⟨18, _⟩ => ⟨S8x8, .f32⟩
  | .hbm, ⟨19, _⟩ => ⟨S8x8x1, .f32⟩
  | .hbm, ⟨20, _⟩ => ⟨S8x8x8, .f32⟩
  | .hbm, ⟨21, _⟩ => ⟨S8x8x8, .f32⟩
  | .hbm, ⟨22, _⟩ => ⟨S64x8, .i32⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S1, .i32⟩
  | .hbm, ⟨33, _⟩ => ⟨S_, .i32⟩
  | .hbm, ⟨34, _⟩ => ⟨S512x1, .i32⟩
  | .hbm, ⟨35, _⟩ => ⟨S512x1, .i1⟩
  | .hbm, ⟨36, _⟩ => ⟨S1x1, .i32⟩
  | .hbm, ⟨37, _⟩ => ⟨S512x1, .i32⟩
  | .hbm, ⟨38, _⟩ => ⟨S512x1, .i1⟩
  | .hbm, ⟨39, _⟩ => ⟨S512x1, .i1⟩
  | .hbm, ⟨40, _⟩ => ⟨S_, .i1⟩
  | .hbm, ⟨41, _⟩ => ⟨S512, .i1⟩
  | .hbm, ⟨42, _⟩ => ⟨S512x64, .f32⟩
  | .hbm, ⟨43, _⟩ => ⟨S512x64, .i1⟩
  | .hbm, ⟨44, _⟩ => ⟨S_, .f32⟩
  | .hbm, ⟨45, _⟩ => ⟨S512x64, .f32⟩
  | .hbm, ⟨46, _⟩ => ⟨S512x64, .f32⟩
  | .hbm, ⟨47, _⟩ => ⟨S64x8x64, .f32⟩
  | .hbm, ⟨48, _⟩ => ⟨S64x8x1, .f32⟩
  | .hbm, ⟨49, _⟩ => ⟨S64x8x64, .f32⟩
  | .hbm, ⟨50, _⟩ => ⟨S64x8x64, .f32⟩
  | .hbm, ⟨51, _⟩ => ⟨S_, .f32⟩
  | .hbm, ⟨52, _⟩ => ⟨S64x64, .f32⟩
  | .hbm, ⟨53, _⟩ => ⟨S8x8x64, .f32⟩
  | .hbm, ⟨54, _⟩ => ⟨S64x64, .f32⟩
  | .hbm, ⟨55, _⟩ => ⟨S8x8x64, .f32⟩
  | _, _ => ⟨S8x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_values : Ref sig .tc := ⟨.hbm, 6, rfl⟩
abbrev main_indices : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_2 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩

abbrev nD : Nat := 1
abbrev τ : Topo := Topo.v7x

variable {F : FTy → Type} [FloatOps F]
-- ==== Proof.Base.lean ====
/- Whole-block loads and stores through a staged block. -/
module

public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.WritesUnit
public import Idealize.ShloMosaic.Lib.WholeRead

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- Reading the whole of a staged block returns the block. -/
theorem load_whole {sp : Space} {S : Shape} {e : EltTy} {M : Memref sig .tc sp S e} (h : M.IsWhole) (X : S.Idx → Elt Ideal e)
    {off : Fin S.rank → ℕ} (inb : ∀ a, off a + S.size a ≤ S.size a) (h0 : ∀ a, off a = 0) :
    View.readAt (Elt Ideal) M.view (Rect.unit (s := S) off S.size inb).toLoadRect (h.unread X) = X := by
  obtain rfl : off = fun _ => 0 := funext h0
  funext j
  exact (Memref.IsWhole.readAt_unread h X _ j).trans (congrArg X (funext fun a => Fin.ext (by simp [Rect.toLoadRect, Rect.unit, LoadRect.idx])))

/-- After a store over the whole of a staged block the block is what was stored. -/
theorem store_whole {sp : Space} {S : Shape} {e : EltTy} (v : View sig .tc sp S e) (f : v.ty.Contents (Elt Ideal))
    {off : Fin S.rank → ℕ} (inb : ∀ a, off a + S.size a ≤ S.size a) (w : S.Idx → Elt Ideal e)
    (L : List (View.Piece (Elt Ideal) S e)) (h0 : ∀ a, off a = 0) :
    View.read (Elt Ideal) v (v.writes (Elt Ideal) f ((⟨Rect.unit (s := S) off S.size inb, w⟩ : View.Piece (Elt Ideal) S e) :: L)) = w := by
  obtain rfl : off = fun _ => 0 := funext h0
  funext y
  exact View.read_writes_cons_unit_of_mem v f inb w L y y rfl fun a => (Nat.zero_add _).symm

/-- The buffer of a table in scalar memory, and half of it held at given contents. -/
abbrev TbBuf (c : Dev nD) {S : Shape} {e : EltTy} (M : Memref sig .tc .smem S e) : Type := Buf (Elt Ideal) (M.view.loc (c : Thread nD τ))
/-- The table buffer behind `M` is held, readable, with contents `f`. -/
abbrev tbPt (c : Dev nD) {S : Shape} {e : EltTy} (M : Memref sig .tc .smem S e) (f : TbBuf c M) : sProp 𝕄 :=
  M.view.loc (c : Thread nD τ) ↦{fullShare.right} f

/-- A grid coordinate below 64 survives the passage through a 32-bit index. -/
theorem cast64 : ∀ n : Fin 64, (Scalar.indexCast (BitVec.ofNat 32 n.val)).toNat = n.val := by decide +kernel

end Cert.KernelIdeal.Val

end
-- ==== Proof.Vals.lean ====
/- A valuation read as a core's buffers. -/
module

public import proofs.«01_k».proof.Proof.Base

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- A core's buffers off a valuation of the device's references. -/
abbrev bufs (W : Valuation τ sig (Elt Ideal)) (c : Dev nD) (b : Ref sig .tc) : Buf (Elt Ideal) ((c : Thread nD τ).loc b) := W b

end Cert.KernelIdeal.Val

end
-- ==== Proof.Run0.lean ====
/- The body of the first kernel, run once: what it leaves in its output block. -/
module

public import proofs.«01_k».proof.Proof.Base

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- What the first kernel's body leaves in its output block: the greatest score of each segment, and in the last block the mask in the rows past the last segment. -/
def out0 (i : grid0.Coords) (x1 : Vec Ideal S1024x8x64 .f32) (x0 : Vec Ideal S64x64 .f32) : Vec Ideal S128x64 .f32 :=
  if (i 0).val = 122 then k0_pay2 i x1 x0 else k0_pay1 x1 x0

/-- The condition of the body's last store: the point is the last. -/
theorem cond0 : ∀ n : Fin 123, (Scalar.cmpi .ne (Scalar.extui (Scalar.cmpi .eq (BitVec.ofNat 32 n.val) 122#32) : BitVec 32) 0#32 = 1#1) ↔ n.val = 122 := by decide +kernel

/-- The first kernel's body: from its two input blocks it leaves `out0` in its output block. -/
theorem run0 (c : Dev nD) (i : grid0.Coords) (arg1 : Memref sig .tc .vmem S64x64 .f32) (harg1 : arg1.IsWhole) (arg2 : Memref sig .tc .vmem S1024x8x64 .f32) (harg2 : arg2.IsWhole) (arg3 : Memref sig .tc .vmem S128x64 .f32) (harg3 : arg3.IsWhole)
    (x0 : Vec Ideal S64x64 .f32) (x1 : Vec Ideal S1024x8x64 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0 i x1 x0)) -∗ K ⟨⟩))
      ⊢ wp frame (wpE (defs₀ (F := Ideal)) Variants.none c none) E (cc0__k1_body i arg1 harg1 arg2 harg2 arg3 harg3) K := by
  simp only [cc0__k1_body_eq_skeleton]; unfold cc0__k1_body_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr; swap; · iexact H2
  ipureintro
  unfold out0
  split
  · rename_i hc
    rw [if_pos ((cond0 (i 0)).mp hc)]
    refine (store_whole _ _ _ _ _ (by decide)).trans ?_
    rw [load_whole harg1 x0 _ (by decide), load_whole harg2 x1 _ (by decide)]
  · rename_i hc
    rw [if_neg fun h => hc ((cond0 (i 0)).mpr h)]
    unfold run0.sl.H2_1
    refine (store_whole _ _ _ _ _ (by decide)).trans ?_
    rw [load_whole harg1 x0 _ (by decide), load_whole harg2 x1 _ (by decide)]

end Cert.KernelIdeal.Val

end
-- ==== Proof.Dat0.lean ====
/- The proof data of pallas_call 0's pipeline: what each buffer holds after each point. -/
module

public import proofs.«01_k».proof.Proof.Vals
public import proofs.«01_k».proof.Proof.Run0

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- Window `w`'s block at point `t`, read off its array. -/
def iblk0 (W : Valuation τ sig (Elt Ideal)) (c : Dev nD) (w : Fin cfg0.W) (t : Fin cfg0.N) : ((cfg0.win w).xblock (cfg0.grid.coords t)).Idx → Elt Ideal (cfg0.win w).elt :=
  ((cfg0.win w).blk t).view.read (Elt Ideal) (bufs W c (Pipeline.arrRef spec0 w))

/-- The key rows the point finds: its block's valid part, zero elsewhere. -/
def keys0 (W : Valuation τ sig (Elt Ideal)) (c : Dev nD) (t : Fin cfg0.N) : Vec Ideal S1024x8x64 .f32 :=
  (cfg0.win 1).fill (cfg0.grid.coords t) (fun _ => (0 : EReal)) (iblk0 W c 1 t)

/-- What the points share: the scoped buffers no window stages. -/
def Φc0 (c : Dev nD) : sProp 𝕄 := Pipeline.scopedRest (Ix:=Unit) (Name:=ℕ) (U:=UR sig nD τ) (Lvl:=ℕ) (Val:=Elt Ideal) spec0 c

/-- The proof data: the arrays as found, and each buffer after each point. -/
def dat0 (W : Valuation τ sig (Elt Ideal)) (c : Dev nD) : Dat τ (Elt Ideal) Unit ℕ (UR sig nD τ) ℕ cfg0 c where
  A w := bufs W c (Pipeline.arrRef spec0 w)
  after w t := match w with
    | ⟨0, _⟩ => iblk0 W c 0 t
    | ⟨1, _⟩ => keys0 W c t
    | ⟨2, _⟩ => out0 (grid0.coords t) (keys0 W c t) (iblk0 W c 0 t)
  Φ _ := Φc0 c
  q w := fullShare
  owed _ := 0

/-- The array behind a window starts with what its buffer holds. -/
theorem A_eq0 (W : Valuation τ sig (Elt Ideal)) (c : Dev nD) (w : Fin cfg0.W) : (dat0 W c).A w = bufs W c (Pipeline.arrRef spec0 w) := by
  dsimp only [dat0]
/-- After step `t` the block of input window 0 is unchanged. -/
theorem after0_0 (W : Valuation τ sig (Elt Ideal)) (c : Dev nD) (t : Fin cfg0.N) : (dat0 W c).after 0 t = iblk0 W c 0 t := by dsimp only [dat0]; try rfl
/-- After step `t` the key block is as it was filled. -/
theorem after0_1 (W : Valuation τ sig (Elt Ideal)) (c : Dev nD) (t : Fin cfg0.N) : (dat0 W c).after 1 t = keys0 W c t := by dsimp only [dat0]; try rfl
/-- After step `t` the output block holds the segment maxima computed from the key and query blocks. -/
theorem after0_2 (W : Valuation τ sig (Elt Ideal)) (c : Dev nD) (t : Fin cfg0.N) : (dat0 W c).after 2 t = out0 (grid0.coords t) (keys0 W c t) (iblk0 W c 0 t) := by dsimp only [dat0]; try rfl
/-- Before step `t` the block of input window 0 is the part of the array that the step reads. -/
theorem before0_0 (W : Valuation τ sig (Elt Ideal)) (c : Dev nD) (t : Fin cfg0.N) (d) : (dat0 W c).before 0 t d = iblk0 W c 0 t :=
  ((dat0 W c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
/-- Before step `t` the key block is the fetched part of the keys, laid over what the block held before. -/
theorem before0_1 (W : Valuation τ sig (Elt Ideal)) (c : Dev nD) (t : Fin cfg0.N) (d) : (dat0 W c).before 1 t d = (cfg0.win 1).fill (cfg0.grid.coords t) d (iblk0 W c 1 t) := by
  unfold Dat.before
  rw [if_pos (fetch0_1 t)]
  unfold Dat.fetched Dat.blockOf iblk0
  rw [A_eq0]

/-- What the body finds at point `t`. -/
def bodyPre0 (W : Valuation τ sig (Elt Ideal)) (c : Dev nD) (t : Fin cfg0.N) : sProp 𝕄 :=
  iprop((dat0 W c).Φ t.castSucc
    ∗ (dat0 W c).owesAt () t.castSucc
    ∗ (∃ d, owns (c : Thread nD τ) (win0_0.stage (cfg0.slots t 0)) fullShare ((dat0 W c).before 0 t d))
    ∗ (∃ d, owns (c : Thread nD τ) (win0_1.stage (cfg0.slots t 1)) fullShare ((dat0 W c).before 1 t d))
    ∗ (∃ d, owns (c : Thread nD τ) (win0_2.stage (cfg0.slots t 2)) fullShare ((dat0 W c).before 2 t d)))

/-- What it leaves. -/
def bodyPost0 (W : Valuation τ sig (Elt Ideal)) (c : Dev nD) (t : Fin cfg0.N) : sProp 𝕄 :=
  iprop((dat0 W c).Φ t.succ
    ∗ (dat0 W c).owesAt () t.succ
    ∗ owns (c : Thread nD τ) (win0_0.stage (cfg0.slots t 0)) fullShare ((dat0 W c).after 0 t)
    ∗ (∃ d, owns (c : Thread nD τ) (win0_1.stage (cfg0.slots t 1)) fullShare ((cfg0.win 1).fill (cfg0.grid.coords t) d ((cfg0.win 1).cut (cfg0.grid.coords t) ((dat0 W c).after 1 t))))
    ∗ owns (c : Thread nD τ) (win0_2.stage (cfg0.slots t 2)) fullShare ((dat0 W c).after 2 t))

set_option maxHeartbeats 1000000 in
/-- The body at point `t`, from what it finds to what it leaves. -/
theorem sound0 (W : Valuation τ sig (Elt Ideal)) (c : Dev nD) (hfree : ∀ t d, out0 (grid0.coords t) ((cfg0.win 1).fill (cfg0.grid.coords t) d (iblk0 W c 1 t)) (iblk0 W c 0 t) = out0 (grid0.coords t) (keys0 W c t) (iblk0 W c 0 t)) (t : Fin cfg0.N) :
    bodyPre0 W c t ⊢ wp frame (wpE (defs₀ (F := Ideal)) Variants.none c none) Set.univ (bodyAt0 (F := Ideal) t) (fun _ => bodyPost0 W c t) := by
  unfold bodyPre0 bodyPost0 bodyAt0
  simp only [before0_0, before0_1]
  rw [show (dat0 W c).Φ t.succ = (dat0 W c).Φ t.castSucc from rfl,
    show (dat0 W c).owesAt () t.succ = (dat0 W c).owesAt () t.castSucc from rfl,
    after0_0, after0_2]
  iintro ⟨HΦ, Ho, ⟨%d0, H0⟩, ⟨%d1, H1⟩, ⟨%d2, H2⟩⟩
  iapply (run0 c (grid0.coords t) _ _ _ _ _ _ (iblk0 W c 0 t) ((cfg0.win 1).fill (cfg0.grid.coords t) d1 (iblk0 W c 1 t)) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    rw [after0_1, keys0, Pipeline.Window.cut_fill]
    iexact H1
  rw [← hfree t d1]
  iexact H2

/-- The body that the pipeline runs at step `t` is the kernel body with the blocks of that step put in. -/
theorem bodyRow0 (t : Fin cfg0.N) :
    defs₀ (F := Ideal) .tc cfg0.body (cfg0.bodyArgs t (cfg0.slots t)) = (bodyAt0 (F := Ideal) t) := by
  unfold defs₀; rw [Defs.onTc_tc]

/-- The body obligation of the pipeline. -/
theorem obl0 (W : Valuation τ sig (Elt Ideal)) (c : Dev nD) (hfree : ∀ t d, out0 (grid0.coords t) ((cfg0.win 1).fill (cfg0.grid.coords t) d (iblk0 W c 1 t)) (iblk0 W c 0 t) = out0 (grid0.coords t) (keys0 W c t) (iblk0 W c 0 t)) : Pipeline.BodyObligationLoose (dat0 W c) (defs₀ (F := Ideal)) Variants.none () Set.univ := fun t => by
  rw [bigSep_W0, bigSep_W0, bodyRow0]
  exact triple_restated (sound0 W c hfree t) rfl .rfl fun _ => .rfl

end Cert.KernelIdeal.Val

end
-- ==== Proof.Run1.lean ====
/- The body of the second kernel, run once: what it leaves in its output block. -/
module

public import proofs.«01_k».proof.Proof.Base

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The row numbers the second kernel labels its rows by. -/
abbrev rows1 : IVec S15744x64 32 := iota .tc S15744x64 32 [0] iota_S15744x64_d0_w32

/-- What the second kernel's body leaves in its output block: the eight rounds' row numbers, one round a row. -/
def out1 (x : Vec Ideal S15744x64 .f32) : Vec Ideal S8x64 .i32 :=
  k1_pay1 (F := Ideal) rows1 (k1_pay3 x) (k1_pay5 x) (k1_pay7 x) (k1_pay11 rows1 (k1_pay9 x) k1_pay10)
    (k1_pay13 rows1 (k1_pay8 x) (k1_pay9 x) k1_pay10) (k1_pay15 rows1 (k1_pay8 x) (k1_pay9 x) k1_pay10)
    (k1_pay17 rows1 (k1_pay8 x) (k1_pay9 x) k1_pay10) (k1_pay18 rows1 (k1_pay8 x) (k1_pay9 x) k1_pay10)
    (k1_pay19 rows1 (k1_pay8 x) (k1_pay9 x) k1_pay10)

/-- The second kernel's body: from its input block it leaves `out1` in its output block. -/
theorem run1 (c : Dev nD) (arg0 : Memref sig .tc .vmem S15744x64 .f32) (harg0 : arg0.IsWhole) (arg1 : Memref sig .tc .vmem S8x64 .i32) (harg1 : arg1.IsWhole)
    (x0 : Vec Ideal S15744x64 .f32) (E : Set ℕ) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1 x0)) -∗ K ⟨⟩))
      ⊢ wp frame (wpE (defs₀ (F := Ideal)) Variants.none c none) E (cc1__k2_body arg0 harg0 arg1 harg1) K := by
  simp only [cc1__k2_body_eq_skeleton]; unfold cc1__k2_body_skel
  simp only [k1_part1_eq_skeleton, k1_part2_eq_skeleton]
  unfold owns
  iintro ⟨⟨%f0, %hf0, H0⟩, ⟨%d1, %f1, -, H1⟩, Hk⟩
  obtain rfl := harg0.eq_unread hf0
  sl_exec
  sl_step
  iapply Hk
  isplitl [H0]
  · iexists _; isplitr; · ipureintro; exact harg0.read_unread _
    iexact H0
  iexists _; isplitr; swap; · iexact H1
  ipureintro
  refine (store_whole _ _ _ _ _ (by decide)).trans ?_
  have hl := load_whole harg0 x0 inb_S15744x64_S15744x64_0_0 (by decide)
  unfold run1.sl.r run1.sl.r_1 run1.sl.r_2 run1.sl.r_5 run1.sl.r_6 run1.sl.r_7 run1.sl.r_8 run1.sl.r_9 run1.sl.r_10
  try unfold run1.sl.r_3
  try unfold run1.sl.r_4
  unfold run1.sl.v2
  rw [hl]
  rfl

end Cert.KernelIdeal.Val

end
-- ==== Proof.Dat1.lean ====
/- The proof data of pallas_call 1's pipeline: what each buffer holds after each point. -/
module

public import proofs.«01_k».proof.Proof.Vals
public import proofs.«01_k».proof.Proof.Run1

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- Window `w`'s block at point `t`, read off its array. -/
def iblk1 (W : Valuation τ sig (Elt Ideal)) (c : Dev nD) (w : Fin cfg1.W) (t : Fin cfg1.N) : ((cfg1.win w).xblock (cfg1.grid.coords t)).Idx → Elt Ideal (cfg1.win w).elt :=
  ((cfg1.win w).blk t).view.read (Elt Ideal) (bufs W c (Pipeline.arrRef spec1 w))

/-- What the points share: the scoped buffers no window stages. -/
def Φc1 (c : Dev nD) : sProp 𝕄 := Pipeline.scopedRest (Ix:=Unit) (Name:=ℕ) (U:=UR sig nD τ) (Lvl:=ℕ) (Val:=Elt Ideal) spec1 c

/-- The proof data: the arrays as found, and each buffer after each point. -/
def dat1 (W : Valuation τ sig (Elt Ideal)) (c : Dev nD) : Dat τ (Elt Ideal) Unit ℕ (UR sig nD τ) ℕ cfg1 c where
  A w := bufs W c (Pipeline.arrRef spec1 w)
  after w t := match w with
    | ⟨0, _⟩ => iblk1 W c 0 t
    | ⟨1, _⟩ => out1 (iblk1 W c 0 t)
  Φ _ := Φc1 c
  q w := fullShare
  owed _ := 0

/-- The array behind a window starts with what its buffer holds. -/
theorem A_eq1 (W : Valuation τ sig (Elt Ideal)) (c : Dev nD) (w : Fin cfg1.W) : (dat1 W c).A w = bufs W c (Pipeline.arrRef spec1 w) := by
  dsimp only [dat1]
/-- After step `t` the block of input window 0 is unchanged. -/
theorem after1_0 (W : Valuation τ sig (Elt Ideal)) (c : Dev nD) (t : Fin cfg1.N) : (dat1 W c).after 0 t = iblk1 W c 0 t := by dsimp only [dat1]; try rfl
/-- After the step the output block holds the eight chosen segments of each row. -/
theorem after1_1 (W : Valuation τ sig (Elt Ideal)) (c : Dev nD) (t : Fin cfg1.N) : (dat1 W c).after 1 t = out1 (iblk1 W c 0 t) := by dsimp only [dat1]; try rfl
/-- Before step `t` the block of input window 0 is the part of the array that the step reads. -/
theorem before1_0 (W : Valuation τ sig (Elt Ideal)) (c : Dev nD) (t : Fin cfg1.N) (d) : (dat1 W c).before 0 t d = iblk1 W c 0 t :=
  ((dat1 W c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

/-- What the body finds at point `t`. -/
def bodyPre1 (W : Valuation τ sig (Elt Ideal)) (c : Dev nD) (t : Fin cfg1.N) : sProp 𝕄 :=
  iprop((dat1 W c).Φ t.castSucc
    ∗ (dat1 W c).owesAt () t.castSucc
    ∗ (∃ d, owns (c : Thread nD τ) (win1_0.stage (cfg1.slots t 0)) fullShare ((dat1 W c).before 0 t d))
    ∗ (∃ d, owns (c : Thread nD τ) (win1_1.stage (cfg1.slots t 1)) fullShare ((dat1 W c).before 1 t d)))

/-- What it leaves. -/
def bodyPost1 (W : Valuation τ sig (Elt Ideal)) (c : Dev nD) (t : Fin cfg1.N) : sProp 𝕄 :=
  iprop((dat1 W c).Φ t.succ
    ∗ (dat1 W c).owesAt () t.succ
    ∗ owns (c : Thread nD τ) (win1_0.stage (cfg1.slots t 0)) fullShare ((dat1 W c).after 0 t)
    ∗ owns (c : Thread nD τ) (win1_1.stage (cfg1.slots t 1)) fullShare ((dat1 W c).after 1 t))

set_option maxHeartbeats 1000000 in
/-- The body at point `t`, from what it finds to what it leaves. -/
theorem sound1 (W : Valuation τ sig (Elt Ideal)) (c : Dev nD) (t : Fin cfg1.N) :
    bodyPre1 W c t ⊢ wp frame (wpE (defs₀ (F := Ideal)) Variants.none c none) Set.univ (bodyAt1 (F := Ideal) t) (fun _ => bodyPost1 W c t) := by
  unfold bodyPre1 bodyPost1 bodyAt1
  simp only [before1_0]
  rw [show (dat1 W c).Φ t.succ = (dat1 W c).Φ t.castSucc from rfl,
    show (dat1 W c).owesAt () t.succ = (dat1 W c).owesAt () t.castSucc from rfl,
    after1_0, after1_1]
  iintro ⟨HΦ, Ho, ⟨%d0, H0⟩, ⟨%d1, H1⟩⟩
  iapply (run1 c _ _ _ _ (iblk1 W c 0 t) Set.univ _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body that the pipeline runs at step `t` is the kernel body with the blocks of that step put in. -/
theorem bodyRow1 (t : Fin cfg1.N) :
    defs₀ (F := Ideal) .tc cfg1.body (cfg1.bodyArgs t (cfg1.slots t)) = (bodyAt1 (F := Ideal) t) := by
  unfold defs₀; rw [Defs.onTc_tc]

/-- The body obligation of the pipeline. -/
theorem oblS1 (W : Valuation τ sig (Elt Ideal)) (c : Dev nD) : BodyObligation (dat1 W c) (defs₀ (F := Ideal)) Variants.none () Set.univ := fun t => by
  rw [bigSep_W1, bigSep_W1, bodyRow1]
  exact triple_restated (sound1 W c t) rfl .rfl fun _ => .rfl

/-- The same, each buffer's contents named only where the window moves them. -/
theorem obl1 (W : Valuation τ sig (Elt Ideal)) (c : Dev nD) : Pipeline.BodyObligationLoose (dat1 W c) (defs₀ (F := Ideal)) Variants.none () Set.univ := (oblS1 W c).loose

end Cert.KernelIdeal.Val

end
-- ==== Proof.Run2.lean ====
/- The body of the third kernel, run once: what it leaves in its two output blocks. -/
module

public import proofs.«01_k».proof.Proof.Base
public import Idealize.ShloMosaic.Lib.ValueIdx

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The eight words the third kernel's body reads of its table: the segments of its query. -/
def words2 (c : Dev nD) (xt : TbBuf c (Memref.whole main_v5)) (i : grid2.Coords) (j : Fin 8) : BitVec 32 :=
  let T : S64x8.Idx → BitVec 32 := xt
  T (ValueIdx.ix2 (i 0) j)

/-- A word of the table read through the printed offsets. -/
theorem word2 (c : Dev nD) (xt : TbBuf c (Memref.whole main_v5)) (i : grid2.Coords) (off : Fin 2 → ℕ) (inb : ∀ a, off a + S1x1.size a ≤ S64x8.size a)
    (j : Fin 8) (h0 : off 0 = (i 0).val) (h1 : off 1 = j.val) (y : S1x1.Idx) :
    View.readAt (Elt Ideal) (Memref.whole main_v5).view (Rect.unit (s := S64x8) off S1x1.size inb).toLoadRect xt y = words2 c xt i j := by
  have hy : ∀ a, (y a).val = 0 := fun a => Nat.lt_one_iff.mp (by have := (y a).isLt; fin_cases a <;> exact this)
  refine congrArg (fun k => (xt : S64x8.Idx → BitVec 32) k) (funext fun a => Fin.ext ?_)
  have := hy a
  fin_cases a <;> simp_all [Rect.toLoadRect, Rect.unit, LoadRect.idx, ValueIdx.ix2]

/-- The 512 candidates' scores, from the query and eight segments of the keys. -/
def s2 (x0 : Vec Ideal S1x1x64 .f32) (x1 x2 x3 x4 x5 x6 x7 x8 : Vec Ideal S8x8x64 .f32) : FVec Ideal S1x512 .f32 :=
  k2_pay3 x0 x1 x2 x3 x4 x5 x6 x7 x8
/-- The 512 candidates' labels, from the eight segments' numbers. -/
def c2 (w0 w1 w2 w3 w4 w5 w6 w7 : BitVec 32) : IVec S1x512 32 :=
  k2_pay4 (F := Ideal) (iota .tc S1x64 32 [1] iota_S1x64_d1_w32) w0 w1 w2 w3 w4 w5 w6 w7
/-- The largest of the candidates' scores. -/
def max2 (x : FVec Ideal S1x512 .f32) : FVec Ideal S1x1 .f32 :=
  shapeCast S1x1 (multiReduction .maximumf [1] S1 x 0xFF800000#32 reduces_S1x512_S1 (.inl rfl) rfl) shapeCasts_S1_S1x1
/-- The smallest label of a candidate whose score is the largest. -/
def pick2 (c : IVec S1x512 32) (x : FVec Ideal S1x512 .f32) : IVec S1x1 32 :=
  shapeCast S1x1 (multiReductionI .minsi [1] S1 (select (cmpf .oeq x (broadcastTo S1x512 (max2 x) broadcasts_S1x1_S1x512)) c
    (broadcast S1x512 1073741824#32)) 2147483647#32 reduces_S1x512_S1 rfl) shapeCasts_S1_S1x1
/-- The scores with the candidates of the picked label struck out. -/
def next2 (c : IVec S1x512 32) (x : FVec Ideal S1x512 .f32) : FVec Ideal S1x512 .f32 :=
  select (cmpi .eq c (broadcastTo S1x512 (pick2 c x) broadcasts_S1x1_S1x512))
    (broadcast S1x512 (Named.named (F := Ideal) (φ := .f32) κ "mask" 0xF149F2CA#32)) x
/-- The scores after `k` rounds. -/
def left2 (c : IVec S1x512 32) (x : FVec Ideal S1x512 .f32) : ℕ → FVec Ideal S1x512 .f32
  | 0 => x
  | k + 1 => next2 c (left2 c x k)
/-- The eight picked labels. -/
def out2a (c : IVec S1x512 32) (x : FVec Ideal S1x512 .f32) : IVec S1x1x8 32 :=
  k2_pay1 (concatenate S1x8 1 [⟨S1x1, pick2 c (left2 c x 0)⟩, ⟨S1x1, pick2 c (left2 c x 1)⟩, ⟨S1x1, pick2 c (left2 c x 2)⟩, ⟨S1x1, pick2 c (left2 c x 3)⟩, ⟨S1x1, pick2 c (left2 c x 4)⟩, ⟨S1x1, pick2 c (left2 c x 5)⟩, ⟨S1x1, pick2 c (left2 c x 6)⟩, ⟨S1x1, pick2 c (left2 c x 7)⟩] concatenates_S1x1_S1x1_S1x1_S1x1_S1x1_S1x1_S1x1_S1x1_S1x8_d1)
/-- The weights of the eight largest scores. -/
def out2b (c : IVec S1x512 32) (x : FVec Ideal S1x512 .f32) : FVec Ideal S1x1x8 .f32 :=
  k2_pay2 (concatenate S1x8 1 [⟨S1x1, max2 (left2 c x 0)⟩, ⟨S1x1, max2 (left2 c x 1)⟩, ⟨S1x1, max2 (left2 c x 2)⟩, ⟨S1x1, max2 (left2 c x 3)⟩, ⟨S1x1, max2 (left2 c x 4)⟩, ⟨S1x1, max2 (left2 c x 5)⟩, ⟨S1x1, max2 (left2 c x 6)⟩, ⟨S1x1, max2 (left2 c x 7)⟩] concatenates_S1x1_S1x1_S1x1_S1x1_S1x1_S1x1_S1x1_S1x1_S1x8_d1)
/-- This step of the second-stage kernel masks the label just picked. -/
theorem pay8_eq (x : FVec Ideal S1x512 .f32) (c : IVec S1x512 32) : k2_pay8 x c (k2_pay6 x) = next2 c x := rfl
/-- This step of the second-stage kernel picks a label from the scores left. -/
theorem pay7_eq (x : FVec Ideal S1x512 .f32) (c : IVec S1x512 32) : k2_pay7 c (k2_pay6 x) = pick2 c x := rfl
/-- This step of the second-stage kernel takes the maximum of the scores left. -/
theorem pay9_eq (x : FVec Ideal S1x512 .f32) (c : IVec S1x512 32) (m : IVec S1x512 1) : k2_pay9 x c m = max2 (k2_pay8 x c m) := rfl
/-- This step of the second-stage kernel picks a label from the scores left. -/
theorem pay10_eq (x : FVec Ideal S1x512 .f32) (c : IVec S1x512 32) (m : IVec S1x512 1) : k2_pay10 x c m = pick2 c (k2_pay8 x c m) := rfl
/-- This step of the second-stage kernel masks the label just picked. -/
theorem pay11_eq (x : FVec Ideal S1x512 .f32) (c : IVec S1x512 32) (m : IVec S1x512 1) : k2_pay11 x c m = next2 c (k2_pay8 x c m) := rfl
/-- This step of the second-stage kernel takes the maximum of the scores left. -/
theorem pay12_eq (x : FVec Ideal S1x512 .f32) (c : IVec S1x512 32) (m : IVec S1x512 1) : k2_pay12 x c m = max2 (k2_pay11 x c m) := rfl
/-- This step of the second-stage kernel picks a label from the scores left. -/
theorem pay13_eq (x : FVec Ideal S1x512 .f32) (c : IVec S1x512 32) (m : IVec S1x512 1) : k2_pay13 x c m = pick2 c (k2_pay11 x c m) := rfl
/-- This step of the second-stage kernel masks the label just picked. -/
theorem pay14_eq (x : FVec Ideal S1x512 .f32) (c : IVec S1x512 32) (m : IVec S1x512 1) : k2_pay14 x c m = next2 c (k2_pay11 x c m) := rfl
/-- This step of the second-stage kernel takes the maximum of the scores left. -/
theorem pay15_eq (x : FVec Ideal S1x512 .f32) (c : IVec S1x512 32) (m : IVec S1x512 1) : k2_pay15 x c m = max2 (k2_pay14 x c m) := rfl
/-- This step of the second-stage kernel picks a label from the scores left. -/
theorem pay16_eq (x : FVec Ideal S1x512 .f32) (c : IVec S1x512 32) (m : IVec S1x512 1) : k2_pay16 x c m = pick2 c (k2_pay14 x c m) := rfl
/-- This step of the second-stage kernel masks the label just picked. -/
theorem pay17_eq (x : FVec Ideal S1x512 .f32) (c : IVec S1x512 32) (m : IVec S1x512 1) : k2_pay17 x c m = next2 c (k2_pay14 x c m) := rfl
/-- This step of the second-stage kernel takes the maximum of the scores left. -/
theorem pay18_eq (x : FVec Ideal S1x512 .f32) : k2_pay18 x = max2 x := rfl
/-- This step of the second-stage kernel masks the label just picked. -/
theorem pay20_eq (x : FVec Ideal S1x512 .f32) (c : IVec S1x512 32) : k2_pay20 c x = next2 c x := rfl
/-- This step of the second-stage kernel masks the label just picked. -/
theorem pay23_eq (x : FVec Ideal S1x512 .f32) (c : IVec S1x512 32) : k2_pay23 c x = next2 c (k2_pay20 c x) := rfl
/-- This step of the second-stage kernel masks the label just picked. -/
theorem pay26_eq (x : FVec Ideal S1x512 .f32) (c : IVec S1x512 32) : k2_pay26 c x = next2 c (k2_pay23 c x) := rfl
/-- The row of the eight maxima that the second-stage kernel finds, in terms of its rounds. -/
theorem pay28_eq (x : FVec Ideal S1x512 .f32) (c : IVec S1x512 32) (a0 a1 a2 a3 : FVec Ideal S1x1 .f32) :
    k2_pay28 c a0 a1 a2 a3 x = concatenate S1x8 1 [⟨S1x1, a0⟩, ⟨S1x1, a1⟩, ⟨S1x1, a2⟩, ⟨S1x1, a3⟩, ⟨S1x1, max2 x⟩, ⟨S1x1, max2 (k2_pay20 c x)⟩, ⟨S1x1, max2 (k2_pay23 c x)⟩, ⟨S1x1, max2 (k2_pay26 c x)⟩] concatenates_S1x1_S1x1_S1x1_S1x1_S1x1_S1x1_S1x1_S1x1_S1x8_d1 := rfl
/-- The label row that the second-stage kernel writes, in terms of its rounds. -/
theorem pay29_eq (x : FVec Ideal S1x512 .f32) (c : IVec S1x512 32) (a0 a1 a2 a3 : IVec S1x1 32) :
    k2_pay29 c a0 a1 a2 a3 x = concatenate S1x8 1 [⟨S1x1, a0⟩, ⟨S1x1, a1⟩, ⟨S1x1, a2⟩, ⟨S1x1, a3⟩, ⟨S1x1, pick2 c x⟩, ⟨S1x1, pick2 c (k2_pay20 c x)⟩, ⟨S1x1, pick2 c (k2_pay23 c x)⟩, ⟨S1x1, pick2 c (k2_pay26 c x)⟩] concatenates_S1x1_S1x1_S1x1_S1x1_S1x1_S1x1_S1x1_S1x1_S1x8_d1 := rfl

/-- The body's picks, as printed, are the eight rounds' picks. -/
theorem out2a_eq (c : IVec S1x512 32) (x : FVec Ideal S1x512 .f32) :
    k2_pay1 (k2_pay29 c (k2_pay7 c (k2_pay6 x)) (k2_pay10 x c (k2_pay6 x)) (k2_pay13 x c (k2_pay6 x)) (k2_pay16 x c (k2_pay6 x)) (k2_pay17 x c (k2_pay6 x)))
      = out2a c x := by
  rw [pay29_eq, pay26_eq, pay23_eq, pay20_eq, pay17_eq, pay16_eq, pay14_eq, pay13_eq, pay11_eq, pay10_eq, pay8_eq, pay7_eq]
  rfl

/-- The body's weights, as printed, are those of the eight rounds' largest scores. -/
theorem out2b_eq (c : IVec S1x512 32) (x : FVec Ideal S1x512 .f32) :
    k2_pay2 (k2_pay28 c (k2_pay5 x) (k2_pay9 x c (k2_pay6 x)) (k2_pay12 x c (k2_pay6 x)) (k2_pay15 x c (k2_pay6 x)) (k2_pay17 x c (k2_pay6 x)))
      = out2b c x := by
  rw [pay28_eq, pay26_eq, pay23_eq, pay20_eq, pay17_eq, pay15_eq, pay14_eq, pay12_eq, pay11_eq, pay9_eq, pay8_eq]
  rfl
set_option maxHeartbeats 2000000 in
/-- The body of the third kernel run once. -/
theorem run2 (c : Dev nD) (i : grid2.Coords) (arg2 : Memref sig .tc .vmem S1x1x64 .f32) (harg2 : arg2.IsWhole) (arg3 : Memref sig .tc .vmem S8x8x64 .f32) (harg3 : arg3.IsWhole) (arg4 : Memref sig .tc .vmem S8x8x64 .f32) (harg4 : arg4.IsWhole) (arg5 : Memref sig .tc .vmem S8x8x64 .f32) (harg5 : arg5.IsWhole) (arg6 : Memref sig .tc .vmem S8x8x64 .f32) (harg6 : arg6.IsWhole) (arg7 : Memref sig .tc .vmem S8x8x64 .f32) (harg7 : arg7.IsWhole) (arg8 : Memref sig .tc .vmem S8x8x64 .f32) (harg8 : arg8.IsWhole) (arg9 : Memref sig .tc .vmem S8x8x64 .f32) (harg9 : arg9.IsWhole) (arg10 : Memref sig .tc .vmem S8x8x64 .f32) (harg10 : arg10.IsWhole) (arg11 : Memref sig .tc .vmem S1x1x8 .i32) (harg11 : arg11.IsWhole) (arg12 : Memref sig .tc .vmem S1x1x8 .f32) (harg12 : arg12.IsWhole)
    (x0 : Vec Ideal S1x1x64 .f32) (x1 : Vec Ideal S8x8x64 .f32) (x2 : Vec Ideal S8x8x64 .f32) (x3 : Vec Ideal S8x8x64 .f32) (x4 : Vec Ideal S8x8x64 .f32) (x5 : Vec Ideal S8x8x64 .f32) (x6 : Vec Ideal S8x8x64 .f32) (x7 : Vec Ideal S8x8x64 .f32) (x8 : Vec Ideal S8x8x64 .f32) (xt : TbBuf c (Memref.whole main_v5)) (E : Set ℕ) (K : PUnit → sProp 𝕄) :
    iprop(owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ owns (c : Thread nD τ) arg8 fullShare x6
      ∗ owns (c : Thread nD τ) arg9 fullShare x7
      ∗ owns (c : Thread nD τ) arg10 fullShare x8
      ∗ (∃ d, owns (c : Thread nD τ) arg11 fullShare d)
      ∗ (∃ d, owns (c : Thread nD τ) arg12 fullShare d)
      ∗ tbPt c (Memref.whole main_v5) xt
      ∗ (iprop(owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ owns (c : Thread nD τ) arg8 fullShare x6
      ∗ owns (c : Thread nD τ) arg9 fullShare x7
      ∗ owns (c : Thread nD τ) arg10 fullShare x8
      ∗ owns (c : Thread nD τ) arg11 fullShare (out2a (c2 (words2 c xt i 0) (words2 c xt i 1) (words2 c xt i 2) (words2 c xt i 3) (words2 c xt i 4) (words2 c xt i 5) (words2 c xt i 6) (words2 c xt i 7)) (s2 x0 x1 x2 x3 x4 x5 x6 x7 x8))
      ∗ owns (c : Thread nD τ) arg12 fullShare (out2b (c2 (words2 c xt i 0) (words2 c xt i 1) (words2 c xt i 2) (words2 c xt i 3) (words2 c xt i 4) (words2 c xt i 5) (words2 c xt i 6) (words2 c xt i 7)) (s2 x0 x1 x2 x3 x4 x5 x6 x7 x8))
      ∗ tbPt c (Memref.whole main_v5) xt) -∗ K ⟨⟩))
      ⊢ wp frame (wpE (defs₀ (F := Ideal)) Variants.none c none) E (cc2__k4_body i (Memref.whole main_v5) (Memref.isWhole_whole _) arg2 harg2 arg3 harg3 arg4 harg4 arg5 harg5 arg6 harg6 arg7 harg7 arg8 harg8 arg9 harg9 arg10 harg10 arg11 harg11 arg12 harg12) K := by
  simp only [cc2__k4_body_eq_skeleton]; unfold cc2__k4_body_skel
  simp only [k2_part1_eq_skeleton, k2_part2_eq_skeleton, k2_part3_eq_skeleton, k2_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, HT0, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  have hl0 := load_whole harg2 x0 inb_S1x1x64_S1x1x64_0_0_0 (by decide)
  have hl1 := load_whole harg3 x1 inb_S8x8x64_S8x8x64_0_0_0 (by decide)
  have hl2 := load_whole harg4 x2 inb_S8x8x64_S8x8x64_0_0_0 (by decide)
  have hl3 := load_whole harg5 x3 inb_S8x8x64_S8x8x64_0_0_0 (by decide)
  have hl4 := load_whole harg6 x4 inb_S8x8x64_S8x8x64_0_0_0 (by decide)
  have hl5 := load_whole harg7 x5 inb_S8x8x64_S8x8x64_0_0_0 (by decide)
  have hl6 := load_whole harg8 x6 inb_S8x8x64_S8x8x64_0_0_0 (by decide)
  have hl7 := load_whole harg9 x7 inb_S8x8x64_S8x8x64_0_0_0 (by decide)
  have hl8 := load_whole harg10 x8 inb_S8x8x64_S8x8x64_0_0_0 (by decide)
  have ht0 := word2 c xt i (k2_off1 i) (k2_off1_inb i) 0 (cast64 (i 0)) rfl (Shape.Idx.first (numel1_S1x1.symm ▸ Nat.one_pos))
  have ht1 := word2 c xt i (k2_off2 i) (k2_off2_inb i) 1 (cast64 (i 0)) rfl (Shape.Idx.first (numel1_S1x1.symm ▸ Nat.one_pos))
  have ht2 := word2 c xt i (k2_off3 i) (k2_off3_inb i) 2 (cast64 (i 0)) rfl (Shape.Idx.first (numel1_S1x1.symm ▸ Nat.one_pos))
  have ht3 := word2 c xt i (k2_off4 i) (k2_off4_inb i) 3 (cast64 (i 0)) rfl (Shape.Idx.first (numel1_S1x1.symm ▸ Nat.one_pos))
  have ht4 := word2 c xt i (k2_off5 i) (k2_off5_inb i) 4 (cast64 (i 0)) rfl (Shape.Idx.first (numel1_S1x1.symm ▸ Nat.one_pos))
  have ht5 := word2 c xt i (k2_off6 i) (k2_off6_inb i) 5 (cast64 (i 0)) rfl (Shape.Idx.first (numel1_S1x1.symm ▸ Nat.one_pos))
  have ht6 := word2 c xt i (k2_off7 i) (k2_off7_inb i) 6 (cast64 (i 0)) rfl (Shape.Idx.first (numel1_S1x1.symm ▸ Nat.one_pos))
  have ht7 := word2 c xt i (k2_off8 i) (k2_off8_inb i) 7 (cast64 (i 0)) rfl (Shape.Idx.first (numel1_S1x1.symm ▸ Nat.one_pos))
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro
    refine (store_whole _ _ _ _ _ (by decide)).trans ?_
    exact (out2a_eq (c2 (View.readAt (Elt Ideal) (Memref.whole main_v5).view (Rect.unit (s := S64x8) (k2_off1 i) S1x1.size (k2_off1_inb i)).toLoadRect xt (Shape.Idx.first (numel1_S1x1.symm ▸ Nat.one_pos))) (View.readAt (Elt Ideal) (Memref.whole main_v5).view (Rect.unit (s := S64x8) (k2_off2 i) S1x1.size (k2_off2_inb i)).toLoadRect xt (Shape.Idx.first (numel1_S1x1.symm ▸ Nat.one_pos))) (View.readAt (Elt Ideal) (Memref.whole main_v5).view (Rect.unit (s := S64x8) (k2_off3 i) S1x1.size (k2_off3_inb i)).toLoadRect xt (Shape.Idx.first (numel1_S1x1.symm ▸ Nat.one_pos))) (View.readAt (Elt Ideal) (Memref.whole main_v5).view (Rect.unit (s := S64x8) (k2_off4 i) S1x1.size (k2_off4_inb i)).toLoadRect xt (Shape.Idx.first (numel1_S1x1.symm ▸ Nat.one_pos))) (View.readAt (Elt Ideal) (Memref.whole main_v5).view (Rect.unit (s := S64x8) (k2_off5 i) S1x1.size (k2_off5_inb i)).toLoadRect xt (Shape.Idx.first (numel1_S1x1.symm ▸ Nat.one_pos))) (View.readAt (Elt Ideal) (Memref.whole main_v5).view (Rect.unit (s := S64x8) (k2_off6 i) S1x1.size (k2_off6_inb i)).toLoadRect xt (Shape.Idx.first (numel1_S1x1.symm ▸ Nat.one_pos))) (View.readAt (Elt Ideal) (Memref.whole main_v5).view (Rect.unit (s := S64x8) (k2_off7 i) S1x1.size (k2_off7_inb i)).toLoadRect xt (Shape.Idx.first (numel1_S1x1.symm ▸ Nat.one_pos))) (View.readAt (Elt Ideal) (Memref.whole main_v5).view (Rect.unit (s := S64x8) (k2_off8 i) S1x1.size (k2_off8_inb i)).toLoadRect xt (Shape.Idx.first (numel1_S1x1.symm ▸ Nat.one_pos)))) (s2 x0 x1 x2 x3 x4 x5 x6 x7 x8)).trans (by rw [ht0, ht1, ht2, ht3, ht4, ht5, ht6, ht7])
  isplitl [H10]
  · iexists _; isplitr; swap; · iexact H10
    ipureintro
    refine (store_whole _ _ _ _ _ (by decide)).trans ?_
    exact (out2b_eq (c2 (View.readAt (Elt Ideal) (Memref.whole main_v5).view (Rect.unit (s := S64x8) (k2_off1 i) S1x1.size (k2_off1_inb i)).toLoadRect xt (Shape.Idx.first (numel1_S1x1.symm ▸ Nat.one_pos))) (View.readAt (Elt Ideal) (Memref.whole main_v5).view (Rect.unit (s := S64x8) (k2_off2 i) S1x1.size (k2_off2_inb i)).toLoadRect xt (Shape.Idx.first (numel1_S1x1.symm ▸ Nat.one_pos))) (View.readAt (Elt Ideal) (Memref.whole main_v5).view (Rect.unit (s := S64x8) (k2_off3 i) S1x1.size (k2_off3_inb i)).toLoadRect xt (Shape.Idx.first (numel1_S1x1.symm ▸ Nat.one_pos))) (View.readAt (Elt Ideal) (Memref.whole main_v5).view (Rect.unit (s := S64x8) (k2_off4 i) S1x1.size (k2_off4_inb i)).toLoadRect xt (Shape.Idx.first (numel1_S1x1.symm ▸ Nat.one_pos))) (View.readAt (Elt Ideal) (Memref.whole main_v5).view (Rect.unit (s := S64x8) (k2_off5 i) S1x1.size (k2_off5_inb i)).toLoadRect xt (Shape.Idx.first (numel1_S1x1.symm ▸ Nat.one_pos))) (View.readAt (Elt Ideal) (Memref.whole main_v5).view (Rect.unit (s := S64x8) (k2_off6 i) S1x1.size (k2_off6_inb i)).toLoadRect xt (Shape.Idx.first (numel1_S1x1.symm ▸ Nat.one_pos))) (View.readAt (Elt Ideal) (Memref.whole main_v5).view (Rect.unit (s := S64x8) (k2_off7 i) S1x1.size (k2_off7_inb i)).toLoadRect xt (Shape.Idx.first (numel1_S1x1.symm ▸ Nat.one_pos))) (View.readAt (Elt Ideal) (Memref.whole main_v5).view (Rect.unit (s := S64x8) (k2_off8 i) S1x1.size (k2_off8_inb i)).toLoadRect xt (Shape.Idx.first (numel1_S1x1.symm ▸ Nat.one_pos)))) (s2 x0 x1 x2 x3 x4 x5 x6 x7 x8)).trans (by rw [ht0, ht1, ht2, ht3, ht4, ht5, ht6, ht7])
  iexact HT0

end Cert.KernelIdeal.Val

end
-- ==== Proof.Dat2.lean ====
/- The proof data of pallas_call 2's pipeline: what each buffer holds after each point. -/
module

public import proofs.«01_k».proof.Proof.Vals
public import proofs.«01_k».proof.Proof.Run2

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- Window `w`'s block at point `t`, read off its array. -/
def iblk2 (W : Valuation τ sig (Elt Ideal)) (a : (pcfg2 (F := Ideal)).Adm) (c : Dev nD) (w : Fin (cfg2 a).W) (t : Fin (cfg2 a).N) : (((cfg2 a).win w).xblock ((cfg2 a).grid.coords t)).Idx → Elt Ideal ((cfg2 a).win w).elt :=
  (((cfg2 a).win w).blk t).view.read (Elt Ideal) (bufs W c (Pipeline.arrRef spec2 w))

/-- What the points share: the scoped buffers no window stages. -/
def Φc2 (c : Dev nD) : sProp 𝕄 := Pipeline.scopedRest (Ix:=Unit) (Name:=ℕ) (U:=UR sig nD τ) (Lvl:=ℕ) (Val:=Elt Ideal) spec2 c

/-- The tables at a half share. -/
def ΦT2 (a : (pcfg2 (F := Ideal)).Adm) (c : Dev nD) (q : PosShare TreeShare) : sProp 𝕄 :=
  Pipeline.prefHeld (Ix:=Unit) (Name:=ℕ) (U:=UR sig nD τ) (Lvl:=ℕ) pre2 c (fun _ => q) a.1

/-- The proof data: the arrays as found, and each buffer after each point. -/
def dat2 (W : Valuation τ sig (Elt Ideal)) (a : (pcfg2 (F := Ideal)).Adm) (c : Dev nD) : Dat τ (Elt Ideal) Unit ℕ (UR sig nD τ) ℕ (cfg2 a) c where
  A w := bufs W c (Pipeline.arrRef spec2 w)
  after w t := match w with
    | ⟨0, _⟩ => iblk2 W a c 0 t
    | ⟨1, _⟩ => iblk2 W a c 1 t
    | ⟨2, _⟩ => iblk2 W a c 2 t
    | ⟨3, _⟩ => iblk2 W a c 3 t
    | ⟨4, _⟩ => iblk2 W a c 4 t
    | ⟨5, _⟩ => iblk2 W a c 5 t
    | ⟨6, _⟩ => iblk2 W a c 6 t
    | ⟨7, _⟩ => iblk2 W a c 7 t
    | ⟨8, _⟩ => iblk2 W a c 8 t
    | ⟨9, _⟩ => out2a (c2 (words2 c (a.1 0) (grid2.coords t) 0) (words2 c (a.1 0) (grid2.coords t) 1) (words2 c (a.1 0) (grid2.coords t) 2) (words2 c (a.1 0) (grid2.coords t) 3) (words2 c (a.1 0) (grid2.coords t) 4) (words2 c (a.1 0) (grid2.coords t) 5) (words2 c (a.1 0) (grid2.coords t) 6) (words2 c (a.1 0) (grid2.coords t) 7)) (s2 (iblk2 W a c 0 t) (iblk2 W a c 1 t) (iblk2 W a c 2 t) (iblk2 W a c 3 t) (iblk2 W a c 4 t) (iblk2 W a c 5 t) (iblk2 W a c 6 t) (iblk2 W a c 7 t) (iblk2 W a c 8 t))
    | ⟨10, _⟩ => out2b (c2 (words2 c (a.1 0) (grid2.coords t) 0) (words2 c (a.1 0) (grid2.coords t) 1) (words2 c (a.1 0) (grid2.coords t) 2) (words2 c (a.1 0) (grid2.coords t) 3) (words2 c (a.1 0) (grid2.coords t) 4) (words2 c (a.1 0) (grid2.coords t) 5) (words2 c (a.1 0) (grid2.coords t) 6) (words2 c (a.1 0) (grid2.coords t) 7)) (s2 (iblk2 W a c 0 t) (iblk2 W a c 1 t) (iblk2 W a c 2 t) (iblk2 W a c 3 t) (iblk2 W a c 4 t) (iblk2 W a c 5 t) (iblk2 W a c 6 t) (iblk2 W a c 7 t) (iblk2 W a c 8 t))
  Φ _ := iprop(Φc2 c ∗ ΦT2 a c fullShare.left ∗ ΦT2 a c fullShare.right)
  q w := Pipeline.shareOf spec2 w
  owed _ := 0

/-- The array behind a window starts with what its buffer holds. -/
theorem A_eq2 (W : Valuation τ sig (Elt Ideal)) (a : (pcfg2 (F := Ideal)).Adm) (c : Dev nD) (w : Fin (cfg2 a).W) : (dat2 W a c).A w = bufs W c (Pipeline.arrRef spec2 w) := by
  dsimp only [dat2]
/-- After step `t` the block of input window 0 is unchanged. -/
theorem after2_0 (W : Valuation τ sig (Elt Ideal)) (a : (pcfg2 (F := Ideal)).Adm) (c : Dev nD) (t : Fin (cfg2 a).N) : (dat2 W a c).after 0 t = iblk2 W a c 0 t := by dsimp only [dat2]; try rfl
/-- After step `t` the block of input window 1 is unchanged. -/
theorem after2_1 (W : Valuation τ sig (Elt Ideal)) (a : (pcfg2 (F := Ideal)).Adm) (c : Dev nD) (t : Fin (cfg2 a).N) : (dat2 W a c).after 1 t = iblk2 W a c 1 t := by dsimp only [dat2]; try rfl
/-- After step `t` the block of input window 2 is unchanged. -/
theorem after2_2 (W : Valuation τ sig (Elt Ideal)) (a : (pcfg2 (F := Ideal)).Adm) (c : Dev nD) (t : Fin (cfg2 a).N) : (dat2 W a c).after 2 t = iblk2 W a c 2 t := by dsimp only [dat2]; try rfl
/-- After step `t` the block of input window 3 is unchanged. -/
theorem after2_3 (W : Valuation τ sig (Elt Ideal)) (a : (pcfg2 (F := Ideal)).Adm) (c : Dev nD) (t : Fin (cfg2 a).N) : (dat2 W a c).after 3 t = iblk2 W a c 3 t := by dsimp only [dat2]; try rfl
/-- After step `t` the block of input window 4 is unchanged. -/
theorem after2_4 (W : Valuation τ sig (Elt Ideal)) (a : (pcfg2 (F := Ideal)).Adm) (c : Dev nD) (t : Fin (cfg2 a).N) : (dat2 W a c).after 4 t = iblk2 W a c 4 t := by dsimp only [dat2]; try rfl
/-- After step `t` the block of input window 5 is unchanged. -/
theorem after2_5 (W : Valuation τ sig (Elt Ideal)) (a : (pcfg2 (F := Ideal)).Adm) (c : Dev nD) (t : Fin (cfg2 a).N) : (dat2 W a c).after 5 t = iblk2 W a c 5 t := by dsimp only [dat2]; try rfl
/-- After step `t` the block of input window 6 is unchanged. -/
theorem after2_6 (W : Valuation τ sig (Elt Ideal)) (a : (pcfg2 (F := Ideal)).Adm) (c : Dev nD) (t : Fin (cfg2 a).N) : (dat2 W a c).after 6 t = iblk2 W a c 6 t := by dsimp only [dat2]; try rfl
/-- After step `t` the block of input window 7 is unchanged. -/
theorem after2_7 (W : Valuation τ sig (Elt Ideal)) (a : (pcfg2 (F := Ideal)).Adm) (c : Dev nD) (t : Fin (cfg2 a).N) : (dat2 W a c).after 7 t = iblk2 W a c 7 t := by dsimp only [dat2]; try rfl
/-- After step `t` the block of input window 8 is unchanged. -/
theorem after2_8 (W : Valuation τ sig (Elt Ideal)) (a : (pcfg2 (F := Ideal)).Adm) (c : Dev nD) (t : Fin (cfg2 a).N) : (dat2 W a c).after 8 t = iblk2 W a c 8 t := by dsimp only [dat2]; try rfl
/-- After step `t` the first output block holds the eight chosen labels. -/
theorem after2_9 (W : Valuation τ sig (Elt Ideal)) (a : (pcfg2 (F := Ideal)).Adm) (c : Dev nD) (t : Fin (cfg2 a).N) : (dat2 W a c).after 9 t = out2a (c2 (words2 c (a.1 0) (grid2.coords t) 0) (words2 c (a.1 0) (grid2.coords t) 1) (words2 c (a.1 0) (grid2.coords t) 2) (words2 c (a.1 0) (grid2.coords t) 3) (words2 c (a.1 0) (grid2.coords t) 4) (words2 c (a.1 0) (grid2.coords t) 5) (words2 c (a.1 0) (grid2.coords t) 6) (words2 c (a.1 0) (grid2.coords t) 7)) (s2 (iblk2 W a c 0 t) (iblk2 W a c 1 t) (iblk2 W a c 2 t) (iblk2 W a c 3 t) (iblk2 W a c 4 t) (iblk2 W a c 5 t) (iblk2 W a c 6 t) (iblk2 W a c 7 t) (iblk2 W a c 8 t)) := by dsimp only [dat2]; try rfl
/-- After step `t` the second output block holds the eight weights. -/
theorem after2_10 (W : Valuation τ sig (Elt Ideal)) (a : (pcfg2 (F := Ideal)).Adm) (c : Dev nD) (t : Fin (cfg2 a).N) : (dat2 W a c).after 10 t = out2b (c2 (words2 c (a.1 0) (grid2.coords t) 0) (words2 c (a.1 0) (grid2.coords t) 1) (words2 c (a.1 0) (grid2.coords t) 2) (words2 c (a.1 0) (grid2.coords t) 3) (words2 c (a.1 0) (grid2.coords t) 4) (words2 c (a.1 0) (grid2.coords t) 5) (words2 c (a.1 0) (grid2.coords t) 6) (words2 c (a.1 0) (grid2.coords t) 7)) (s2 (iblk2 W a c 0 t) (iblk2 W a c 1 t) (iblk2 W a c 2 t) (iblk2 W a c 3 t) (iblk2 W a c 4 t) (iblk2 W a c 5 t) (iblk2 W a c 6 t) (iblk2 W a c 7 t) (iblk2 W a c 8 t)) := by dsimp only [dat2]; try rfl
/-- Before step `t` the block of input window 0 is the part of the array that the step reads. -/
theorem before2_0 (W : Valuation τ sig (Elt Ideal)) (a : (pcfg2 (F := Ideal)).Adm) (c : Dev nD) (t : Fin (cfg2 a).N) (d) : (dat2 W a c).before 0 t d = iblk2 W a c 0 t :=
  ((dat2 W a c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
/-- Before step `t` the block of input window 1 is the part of the array that the step reads. -/
theorem before2_1 (W : Valuation τ sig (Elt Ideal)) (a : (pcfg2 (F := Ideal)).Adm) (c : Dev nD) (t : Fin (cfg2 a).N) (d) : (dat2 W a c).before 1 t d = iblk2 W a c 1 t :=
  ((dat2 W a c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
/-- Before step `t` the block of input window 2 is the part of the array that the step reads. -/
theorem before2_2 (W : Valuation τ sig (Elt Ideal)) (a : (pcfg2 (F := Ideal)).Adm) (c : Dev nD) (t : Fin (cfg2 a).N) (d) : (dat2 W a c).before 2 t d = iblk2 W a c 2 t :=
  ((dat2 W a c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
/-- Before step `t` the block of input window 3 is the part of the array that the step reads. -/
theorem before2_3 (W : Valuation τ sig (Elt Ideal)) (a : (pcfg2 (F := Ideal)).Adm) (c : Dev nD) (t : Fin (cfg2 a).N) (d) : (dat2 W a c).before 3 t d = iblk2 W a c 3 t :=
  ((dat2 W a c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
/-- Before step `t` the block of input window 4 is the part of the array that the step reads. -/
theorem before2_4 (W : Valuation τ sig (Elt Ideal)) (a : (pcfg2 (F := Ideal)).Adm) (c : Dev nD) (t : Fin (cfg2 a).N) (d) : (dat2 W a c).before 4 t d = iblk2 W a c 4 t :=
  ((dat2 W a c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
/-- Before step `t` the block of input window 5 is the part of the array that the step reads. -/
theorem before2_5 (W : Valuation τ sig (Elt Ideal)) (a : (pcfg2 (F := Ideal)).Adm) (c : Dev nD) (t : Fin (cfg2 a).N) (d) : (dat2 W a c).before 5 t d = iblk2 W a c 5 t :=
  ((dat2 W a c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
/-- Before step `t` the block of input window 6 is the part of the array that the step reads. -/
theorem before2_6 (W : Valuation τ sig (Elt Ideal)) (a : (pcfg2 (F := Ideal)).Adm) (c : Dev nD) (t : Fin (cfg2 a).N) (d) : (dat2 W a c).before 6 t d = iblk2 W a c 6 t :=
  ((dat2 W a c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)
/-- Before step `t` the block of input window 7 is the part of the array that the step reads. -/
theorem before2_7 (W : Valuation τ sig (Elt Ideal)) (a : (pcfg2 (F := Ideal)).Adm) (c : Dev nD) (t : Fin (cfg2 a).N) (d) : (dat2 W a c).before 7 t d = iblk2 W a c 7 t :=
  ((dat2 W a c).before_in_eq_fetched 7 rfl (fun _ => rfl) (fun _ _ _ => rfl) (fun t => by rw [after2_7]; unfold Dat.blockOf iblk2; rw [A_eq2]; try rfl) t d).trans
    (by unfold Dat.fetched Dat.blockOf iblk2; rw [A_eq2]; try rfl)
/-- Before step `t` the block of input window 8 is the part of the array that the step reads. -/
theorem before2_8 (W : Valuation τ sig (Elt Ideal)) (a : (pcfg2 (F := Ideal)).Adm) (c : Dev nD) (t : Fin (cfg2 a).N) (d) : (dat2 W a c).before 8 t d = iblk2 W a c 8 t :=
  ((dat2 W a c).before_in_eq_fetched 8 rfl (fun _ => rfl) (fun _ _ _ => rfl) (fun t => by rw [after2_8]; unfold Dat.blockOf iblk2; rw [A_eq2]; try rfl) t d).trans
    (by unfold Dat.fetched Dat.blockOf iblk2; rw [A_eq2]; try rfl)

/-- What the body finds at point `t`. -/
def bodyPre2 (W : Valuation τ sig (Elt Ideal)) (a : (pcfg2 (F := Ideal)).Adm) (c : Dev nD) (t : Fin (cfg2 a).N) : sProp 𝕄 :=
  iprop((dat2 W a c).Φ t.castSucc
    ∗ (dat2 W a c).owesAt () t.castSucc
    ∗ (∃ d, owns (c : Thread nD τ) (spec2_0.stage ((cfg2 a).slots t 0)) fullShare ((dat2 W a c).before 0 t d))
    ∗ (∃ d, owns (c : Thread nD τ) (spec2_1.stage ((cfg2 a).slots t 1)) fullShare ((dat2 W a c).before 1 t d))
    ∗ (∃ d, owns (c : Thread nD τ) (spec2_2.stage ((cfg2 a).slots t 2)) fullShare ((dat2 W a c).before 2 t d))
    ∗ (∃ d, owns (c : Thread nD τ) (spec2_3.stage ((cfg2 a).slots t 3)) fullShare ((dat2 W a c).before 3 t d))
    ∗ (∃ d, owns (c : Thread nD τ) (spec2_4.stage ((cfg2 a).slots t 4)) fullShare ((dat2 W a c).before 4 t d))
    ∗ (∃ d, owns (c : Thread nD τ) (spec2_5.stage ((cfg2 a).slots t 5)) fullShare ((dat2 W a c).before 5 t d))
    ∗ (∃ d, owns (c : Thread nD τ) (spec2_6.stage ((cfg2 a).slots t 6)) fullShare ((dat2 W a c).before 6 t d))
    ∗ (∃ d, owns (c : Thread nD τ) (spec2_7.stage ((cfg2 a).slots t 7)) fullShare ((dat2 W a c).before 7 t d))
    ∗ (∃ d, owns (c : Thread nD τ) (spec2_8.stage ((cfg2 a).slots t 8)) fullShare ((dat2 W a c).before 8 t d))
    ∗ (∃ d, owns (c : Thread nD τ) (spec2_9.stage ((cfg2 a).slots t 9)) fullShare ((dat2 W a c).before 9 t d))
    ∗ (∃ d, owns (c : Thread nD τ) (spec2_10.stage ((cfg2 a).slots t 10)) fullShare ((dat2 W a c).before 10 t d)))

/-- What it leaves. -/
def bodyPost2 (W : Valuation τ sig (Elt Ideal)) (a : (pcfg2 (F := Ideal)).Adm) (c : Dev nD) (t : Fin (cfg2 a).N) : sProp 𝕄 :=
  iprop((dat2 W a c).Φ t.succ
    ∗ (dat2 W a c).owesAt () t.succ
    ∗ owns (c : Thread nD τ) (spec2_0.stage ((cfg2 a).slots t 0)) fullShare ((dat2 W a c).after 0 t)
    ∗ owns (c : Thread nD τ) (spec2_1.stage ((cfg2 a).slots t 1)) fullShare ((dat2 W a c).after 1 t)
    ∗ owns (c : Thread nD τ) (spec2_2.stage ((cfg2 a).slots t 2)) fullShare ((dat2 W a c).after 2 t)
    ∗ owns (c : Thread nD τ) (spec2_3.stage ((cfg2 a).slots t 3)) fullShare ((dat2 W a c).after 3 t)
    ∗ owns (c : Thread nD τ) (spec2_4.stage ((cfg2 a).slots t 4)) fullShare ((dat2 W a c).after 4 t)
    ∗ owns (c : Thread nD τ) (spec2_5.stage ((cfg2 a).slots t 5)) fullShare ((dat2 W a c).after 5 t)
    ∗ owns (c : Thread nD τ) (spec2_6.stage ((cfg2 a).slots t 6)) fullShare ((dat2 W a c).after 6 t)
    ∗ owns (c : Thread nD τ) (spec2_7.stage ((cfg2 a).slots t 7)) fullShare ((dat2 W a c).after 7 t)
    ∗ owns (c : Thread nD τ) (spec2_8.stage ((cfg2 a).slots t 8)) fullShare ((dat2 W a c).after 8 t)
    ∗ owns (c : Thread nD τ) (spec2_9.stage ((cfg2 a).slots t 9)) fullShare ((dat2 W a c).after 9 t)
    ∗ owns (c : Thread nD τ) (spec2_10.stage ((cfg2 a).slots t 10)) fullShare ((dat2 W a c).after 10 t))

/-- What the second-stage kernel holds of its table, written out. -/
theorem ΦT2_eq (a : (pcfg2 (F := Ideal)).Adm) (c : Dev nD) : ΦT2 a c fullShare.right = iprop(tbPt c (Memref.whole main_v5) (a.1 0)) := by
  unfold ΦT2 Pipeline.prefHeld
  rw [show (Finset.univ : Finset (Fin 1)) = {0} by decide, bigSep_singleton]; rfl

set_option maxHeartbeats 1000000 in
/-- The body at point `t`, from what it finds to what it leaves. -/
theorem sound2 (W : Valuation τ sig (Elt Ideal)) (a : (pcfg2 (F := Ideal)).Adm) (c : Dev nD) (t : Fin (cfg2 a).N) :
    bodyPre2 W a c t ⊢ wp frame (wpE (defs₀ (F := Ideal)) Variants.none c none) Set.univ (cc2__k4_body (grid2.coords t) (Memref.whole main_v5) (Memref.isWhole_whole _) (spec2_0.stage ((cfg2 a).slots t 0)) (hstage2_0 (((cfg2 a).slots t 0).cast nbuf2_0)) (spec2_1.stage ((cfg2 a).slots t 1)) (hstage2_1 (((cfg2 a).slots t 1).cast nbuf2_1)) (spec2_2.stage ((cfg2 a).slots t 2)) (hstage2_2 (((cfg2 a).slots t 2).cast nbuf2_2)) (spec2_3.stage ((cfg2 a).slots t 3)) (hstage2_3 (((cfg2 a).slots t 3).cast nbuf2_3)) (spec2_4.stage ((cfg2 a).slots t 4)) (hstage2_4 (((cfg2 a).slots t 4).cast nbuf2_4)) (spec2_5.stage ((cfg2 a).slots t 5)) (hstage2_5 (((cfg2 a).slots t 5).cast nbuf2_5)) (spec2_6.stage ((cfg2 a).slots t 6)) (hstage2_6 (((cfg2 a).slots t 6).cast nbuf2_6)) (spec2_7.stage ((cfg2 a).slots t 7)) (hstage2_7 (((cfg2 a).slots t 7).cast nbuf2_7)) (spec2_8.stage ((cfg2 a).slots t 8)) (hstage2_8 (((cfg2 a).slots t 8).cast nbuf2_8)) (spec2_9.stage ((cfg2 a).slots t 9)) (hstage2_9 (((cfg2 a).slots t 9).cast nbuf2_9)) (spec2_10.stage ((cfg2 a).slots t 10)) (hstage2_10 (((cfg2 a).slots t 10).cast nbuf2_10))) (fun _ => bodyPost2 W a c t) := by
  unfold bodyPre2 bodyPost2
  simp only [before2_0, before2_1, before2_2, before2_3, before2_4, before2_5, before2_6, before2_7, before2_8]
  rw [show (dat2 W a c).Φ t.succ = (dat2 W a c).Φ t.castSucc from rfl,
    show (dat2 W a c).owesAt () t.succ = (dat2 W a c).owesAt () t.castSucc from rfl,
    after2_0, after2_1, after2_2, after2_3, after2_4, after2_5, after2_6, after2_7, after2_8, after2_9, after2_10]
  rw [show (dat2 W a c).Φ t.castSucc = iprop(Φc2 c ∗ ΦT2 a c fullShare.left ∗ ΦT2 a c fullShare.right) from rfl, ΦT2_eq]
  iintro ⟨⟨HΦ, HL, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run2 c (grid2.coords t) _ _ _ _ _ _ _ _ _ _ _ _ _ _ _ _ _ _ _ _ _ _ (iblk2 W a c 0 t) (iblk2 W a c 1 t) (iblk2 W a c 2 t) (iblk2 W a c 3 t) (iblk2 W a c 4 t) (iblk2 W a c 5 t) (iblk2 W a c 6 t) (iblk2 W a c 7 t) (iblk2 W a c 8 t) (a.1 0) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [HT0]; · iexact HT0
  iintro ⟨H0, H1, H2, H3, H4, H5, H6, H7, H8, H9, H10, HT0⟩
  isplitl [HΦ HL HT0]
  · isplitl [HΦ]; · iexact HΦ
    isplitl [HL]; · iexact HL
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body that the pipeline runs at step `t` is the kernel body with the blocks of that step put in. -/
theorem bodyRow2 (a : (pcfg2 (F := Ideal)).Adm) (t : Fin (cfg2 a).N) :
    defs₀ (F := Ideal) .tc (cfg2 a).body ((cfg2 a).bodyArgs t ((cfg2 a).slots t)) = (cc2__k4_body (grid2.coords t) (Memref.whole main_v5) (Memref.isWhole_whole _) (spec2_0.stage ((cfg2 a).slots t 0)) (hstage2_0 (((cfg2 a).slots t 0).cast nbuf2_0)) (spec2_1.stage ((cfg2 a).slots t 1)) (hstage2_1 (((cfg2 a).slots t 1).cast nbuf2_1)) (spec2_2.stage ((cfg2 a).slots t 2)) (hstage2_2 (((cfg2 a).slots t 2).cast nbuf2_2)) (spec2_3.stage ((cfg2 a).slots t 3)) (hstage2_3 (((cfg2 a).slots t 3).cast nbuf2_3)) (spec2_4.stage ((cfg2 a).slots t 4)) (hstage2_4 (((cfg2 a).slots t 4).cast nbuf2_4)) (spec2_5.stage ((cfg2 a).slots t 5)) (hstage2_5 (((cfg2 a).slots t 5).cast nbuf2_5)) (spec2_6.stage ((cfg2 a).slots t 6)) (hstage2_6 (((cfg2 a).slots t 6).cast nbuf2_6)) (spec2_7.stage ((cfg2 a).slots t 7)) (hstage2_7 (((cfg2 a).slots t 7).cast nbuf2_7)) (spec2_8.stage ((cfg2 a).slots t 8)) (hstage2_8 (((cfg2 a).slots t 8).cast nbuf2_8)) (spec2_9.stage ((cfg2 a).slots t 9)) (hstage2_9 (((cfg2 a).slots t 9).cast nbuf2_9)) (spec2_10.stage ((cfg2 a).slots t 10)) (hstage2_10 (((cfg2 a).slots t 10).cast nbuf2_10))) := by
  unfold defs₀; rw [Defs.onTc_tc]

/-- The body obligation of the pipeline. -/
theorem oblS2 (W : Valuation τ sig (Elt Ideal)) (a : (pcfg2 (F := Ideal)).Adm) (c : Dev nD) : BodyObligation (dat2 W a c) (defs₀ (F := Ideal)) Variants.none () Set.univ := fun t => by
  rw [bigSep_W2, bigSep_W2, bodyRow2]
  exact triple_restated (sound2 W a c t) rfl .rfl fun _ => .rfl

/-- The same, each buffer's contents named only where the window moves them. -/
theorem obl2 (W : Valuation τ sig (Elt Ideal)) (a : (pcfg2 (F := Ideal)).Adm) (c : Dev nD) : Pipeline.BodyObligationLoose (dat2 W a c) (defs₀ (F := Ideal)) Variants.none () Set.univ := (oblS2 W a c).loose

end Cert.KernelIdeal.Val

end
-- ==== Proof.Run3.lean ====
/- The body of the fourth kernel, run once: what it leaves in its output block. -/
module

public import proofs.«01_k».proof.Proof.Base
public import Idealize.ShloMosaic.Lib.ValueIdx

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The eight words the fourth kernel's body reads of its second table: the rows inside the eight blocks. -/
def words3 (c : Dev nD) (xt : TbBuf c (Memref.whole main_v10)) (i : grid3.Coords) (j : Fin 8) : BitVec 32 :=
  let T : S64x8.Idx → BitVec 32 := xt
  T (ValueIdx.ix2 (i 0) j)

/-- A word of the table read through the printed offsets. -/
theorem word3 (c : Dev nD) (xt : TbBuf c (Memref.whole main_v10)) (i : grid3.Coords) (off : Fin 2 → ℕ) (inb : ∀ a, off a + S1x1.size a ≤ S64x8.size a)
    (j : Fin 8) (h0 : off 0 = (i 0).val) (h1 : off 1 = j.val) (y : S1x1.Idx) :
    View.readAt (Elt Ideal) (Memref.whole main_v10).view (Rect.unit (s := S64x8) off S1x1.size inb).toLoadRect xt y = words3 c xt i j := by
  have hy : ∀ a, (y a).val = 0 := fun a => Nat.lt_one_iff.mp (by have := (y a).isLt; fin_cases a <;> exact this)
  refine congrArg (fun k => (xt : S64x8.Idx → BitVec 32) k) (funext fun a => Fin.ext ?_)
  have := hy a
  fin_cases a <;> simp_all [Rect.toLoadRect, Rect.unit, LoadRect.idx, ValueIdx.ix2]

/-- Row `n` of a block of eight rows. -/
def row3 (x : Vec Ideal S1x8x64 .f32) (n : ℕ) : Vec Ideal S1x1x64 .f32 := fun y => x (ValueIdx.ix3 0 (Fin.ofNat 8 n) (y 2))

/-- A load of one row of a block reads that row. -/
theorem row_load {M : Memref sig .tc .vmem S1x8x64 .f32} (h : M.IsWhole) (X : Vec Ideal S1x8x64 .f32) (off : Fin 3 → ℕ)
    (inb : ∀ a, off a + S1x1x64.size a ≤ S1x8x64.size a) (n : ℕ) (h0 : off 0 = 0) (h1 : off 1 = n) (h2 : off 2 = 0) :
    View.readAt (Elt Ideal) M.view (Rect.unit (s := S1x8x64) off S1x1x64.size inb).toLoadRect (h.unread X) = row3 X n := by
  funext y
  refine (Memref.IsWhole.readAt_unread h X _ y).trans (congrArg X (funext fun a => Fin.ext ?_))
  have hy0 : (y 0).val = 0 := Nat.lt_one_iff.mp (y 0).isLt
  have hy1 : (y 1).val = 0 := Nat.lt_one_iff.mp (y 1).isLt
  have hn : n < 8 := by have := inb 1; rw [h1] at this; exact this
  fin_cases a <;> simp_all [Rect.toLoadRect, Rect.unit, LoadRect.idx, ValueIdx.ix3, Fin.ofNat, Nat.mod_eq_of_lt]

/-- A word below eight passes the check on the row's offsets. -/
theorem chk3 (w : BitVec 32) (hw : w.toNat < 8) : ∀ a, k3_off9 w a + S1x1x64.size a ≤ S1x8x64.size a := by
  intro a
  fin_cases a
  · exact Nat.le_refl _
  · exact hw
  · exact Nat.le_refl _

/-- What the body stores: the weighted sum of the eight rows. -/
def out3 (x0 x1 x2 x3 x4 x5 x6 x7 x8 : Vec Ideal S1x8x64 .f32) (w0 w1 w2 w3 w4 w5 w6 w7 : BitVec 32) : FVec Ideal S1x1x64 .f32 :=
  k3_pay1 (k3_pay2 (row3 x1 w0.toNat)) (k3_pay3 (row3 x2 w1.toNat)) (k3_pay4 (row3 x3 w2.toNat)) (k3_pay5 (row3 x4 w3.toNat))
    (k3_pay6 (row3 x5 w4.toNat)) (k3_pay7 (row3 x6 w5.toNat)) (row3 x7 w6.toNat) (row3 x8 w7.toNat) x0
set_option maxHeartbeats 2000000 in
/-- The body of the fourth kernel run once. -/
theorem run3 (c : Dev nD) (i : grid3.Coords) (arg3 : Memref sig .tc .vmem S1x8x64 .f32) (harg3 : arg3.IsWhole) (arg4 : Memref sig .tc .vmem S1x8x64 .f32) (harg4 : arg4.IsWhole) (arg5 : Memref sig .tc .vmem S1x8x64 .f32) (harg5 : arg5.IsWhole) (arg6 : Memref sig .tc .vmem S1x8x64 .f32) (harg6 : arg6.IsWhole) (arg7 : Memref sig .tc .vmem S1x8x64 .f32) (harg7 : arg7.IsWhole) (arg8 : Memref sig .tc .vmem S1x8x64 .f32) (harg8 : arg8.IsWhole) (arg9 : Memref sig .tc .vmem S1x8x64 .f32) (harg9 : arg9.IsWhole) (arg10 : Memref sig .tc .vmem S1x8x64 .f32) (harg10 : arg10.IsWhole) (arg11 : Memref sig .tc .vmem S1x8x64 .f32) (harg11 : arg11.IsWhole) (arg12 : Memref sig .tc .vmem S1x1x64 .f32) (harg12 : arg12.IsWhole)
    (x0 : Vec Ideal S1x8x64 .f32) (x1 : Vec Ideal S1x8x64 .f32) (x2 : Vec Ideal S1x8x64 .f32) (x3 : Vec Ideal S1x8x64 .f32) (x4 : Vec Ideal S1x8x64 .f32) (x5 : Vec Ideal S1x8x64 .f32) (x6 : Vec Ideal S1x8x64 .f32) (x7 : Vec Ideal S1x8x64 .f32) (x8 : Vec Ideal S1x8x64 .f32) (xs : TbBuf c (Memref.whole main_v9)) (xt : TbBuf c (Memref.whole main_v10))
    (hw : ∀ j, (words3 c xt i j).toNat < 8) (E : Set ℕ) (K : PUnit → sProp 𝕄) :
    iprop(owns (c : Thread nD τ) arg3 fullShare x0
      ∗ owns (c : Thread nD τ) arg4 fullShare x1
      ∗ owns (c : Thread nD τ) arg5 fullShare x2
      ∗ owns (c : Thread nD τ) arg6 fullShare x3
      ∗ owns (c : Thread nD τ) arg7 fullShare x4
      ∗ owns (c : Thread nD τ) arg8 fullShare x5
      ∗ owns (c : Thread nD τ) arg9 fullShare x6
      ∗ owns (c : Thread nD τ) arg10 fullShare x7
      ∗ owns (c : Thread nD τ) arg11 fullShare x8
      ∗ (∃ d, owns (c : Thread nD τ) arg12 fullShare d)
      ∗ tbPt c (Memref.whole main_v9) xs
      ∗ tbPt c (Memref.whole main_v10) xt
      ∗ (iprop(owns (c : Thread nD τ) arg3 fullShare x0
      ∗ owns (c : Thread nD τ) arg4 fullShare x1
      ∗ owns (c : Thread nD τ) arg5 fullShare x2
      ∗ owns (c : Thread nD τ) arg6 fullShare x3
      ∗ owns (c : Thread nD τ) arg7 fullShare x4
      ∗ owns (c : Thread nD τ) arg8 fullShare x5
      ∗ owns (c : Thread nD τ) arg9 fullShare x6
      ∗ owns (c : Thread nD τ) arg10 fullShare x7
      ∗ owns (c : Thread nD τ) arg11 fullShare x8
      ∗ owns (c : Thread nD τ) arg12 fullShare (out3 x0 x1 x2 x3 x4 x5 x6 x7 x8 (words3 c xt i 0) (words3 c xt i 1) (words3 c xt i 2) (words3 c xt i 3) (words3 c xt i 4) (words3 c xt i 5) (words3 c xt i 6) (words3 c xt i 7))
      ∗ tbPt c (Memref.whole main_v9) xs
      ∗ tbPt c (Memref.whole main_v10) xt) -∗ K ⟨⟩))
      ⊢ wp frame (wpE (defs₀ (F := Ideal)) Variants.none c none) E (cc3__k5_body i (Memref.whole main_v9) (Memref.isWhole_whole _) (Memref.whole main_v10) (Memref.isWhole_whole _) arg3 harg3 arg4 harg4 arg5 harg5 arg6 harg6 arg7 harg7 arg8 harg8 arg9 harg9 arg10 harg10 arg11 harg11 arg12 harg12) K := by
  simp only [cc3__k5_body_eq_skeleton]; unfold cc3__k5_body_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, HT0, HT1, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  obtain rfl := harg11.eq_unread hf8
  have hl0 := load_whole harg3 x0 inb_S1x8x64_S1x8x64_0_0_0 (by decide)
  have ht0 := word3 c xt i (k3_off1 i) (k3_off1_inb i) 0 (cast64 (i 0)) rfl (Shape.Idx.first (numel1_S1x1.symm ▸ Nat.one_pos))
  have hc0 : k3_chk1 (View.readAt (Elt Ideal) (Memref.whole main_v10).view (Rect.unit (s := S64x8) (k3_off1 i) S1x1.size (k3_off1_inb i)).toLoadRect xt (Shape.Idx.first (numel1_S1x1.symm ▸ Nat.one_pos))) := chk3 _ (by rw [ht0]; exact hw 0)
  have hr0 := row_load harg4 x1 _ (k3_off9_inb _ hc0) _ rfl rfl rfl
  have ht1 := word3 c xt i (k3_off10 i) (k3_off10_inb i) 1 (cast64 (i 0)) rfl (Shape.Idx.first (numel1_S1x1.symm ▸ Nat.one_pos))
  have hc1 : k3_chk2 (View.readAt (Elt Ideal) (Memref.whole main_v10).view (Rect.unit (s := S64x8) (k3_off10 i) S1x1.size (k3_off10_inb i)).toLoadRect xt (Shape.Idx.first (numel1_S1x1.symm ▸ Nat.one_pos))) := chk3 _ (by rw [ht1]; exact hw 1)
  have hr1 := row_load harg5 x2 _ (k3_off11_inb _ hc1) _ rfl rfl rfl
  have ht2 := word3 c xt i (k3_off12 i) (k3_off12_inb i) 2 (cast64 (i 0)) rfl (Shape.Idx.first (numel1_S1x1.symm ▸ Nat.one_pos))
  have hc2 : k3_chk3 (View.readAt (Elt Ideal) (Memref.whole main_v10).view (Rect.unit (s := S64x8) (k3_off12 i) S1x1.size (k3_off12_inb i)).toLoadRect xt (Shape.Idx.first (numel1_S1x1.symm ▸ Nat.one_pos))) := chk3 _ (by rw [ht2]; exact hw 2)
  have hr2 := row_load harg6 x3 _ (k3_off13_inb _ hc2) _ rfl rfl rfl
  have ht3 := word3 c xt i (k3_off14 i) (k3_off14_inb i) 3 (cast64 (i 0)) rfl (Shape.Idx.first (numel1_S1x1.symm ▸ Nat.one_pos))
  have hc3 : k3_chk4 (View.readAt (Elt Ideal) (Memref.whole main_v10).view (Rect.unit (s := S64x8) (k3_off14 i) S1x1.size (k3_off14_inb i)).toLoadRect xt (Shape.Idx.first (numel1_S1x1.symm ▸ Nat.one_pos))) := chk3 _ (by rw [ht3]; exact hw 3)
  have hr3 := row_load harg7 x4 _ (k3_off15_inb _ hc3) _ rfl rfl rfl
  have ht4 := word3 c xt i (k3_off16 i) (k3_off16_inb i) 4 (cast64 (i 0)) rfl (Shape.Idx.first (numel1_S1x1.symm ▸ Nat.one_pos))
  have hc4 : k3_chk5 (View.readAt (Elt Ideal) (Memref.whole main_v10).view (Rect.unit (s := S64x8) (k3_off16 i) S1x1.size (k3_off16_inb i)).toLoadRect xt (Shape.Idx.first (numel1_S1x1.symm ▸ Nat.one_pos))) := chk3 _ (by rw [ht4]; exact hw 4)
  have hr4 := row_load harg8 x5 _ (k3_off17_inb _ hc4) _ rfl rfl rfl
  have ht5 := word3 c xt i (k3_off18 i) (k3_off18_inb i) 5 (cast64 (i 0)) rfl (Shape.Idx.first (numel1_S1x1.symm ▸ Nat.one_pos))
  have hc5 : k3_chk6 (View.readAt (Elt Ideal) (Memref.whole main_v10).view (Rect.unit (s := S64x8) (k3_off18 i) S1x1.size (k3_off18_inb i)).toLoadRect xt (Shape.Idx.first (numel1_S1x1.symm ▸ Nat.one_pos))) := chk3 _ (by rw [ht5]; exact hw 5)
  have hr5 := row_load harg9 x6 _ (k3_off19_inb _ hc5) _ rfl rfl rfl
  have ht6 := word3 c xt i (k3_off20 i) (k3_off20_inb i) 6 (cast64 (i 0)) rfl (Shape.Idx.first (numel1_S1x1.symm ▸ Nat.one_pos))
  have hc6 : k3_chk7 (View.readAt (Elt Ideal) (Memref.whole main_v10).view (Rect.unit (s := S64x8) (k3_off20 i) S1x1.size (k3_off20_inb i)).toLoadRect xt (Shape.Idx.first (numel1_S1x1.symm ▸ Nat.one_pos))) := chk3 _ (by rw [ht6]; exact hw 6)
  have hr6 := row_load harg10 x7 _ (k3_off21_inb _ hc6) _ rfl rfl rfl
  have ht7 := word3 c xt i (k3_off22 i) (k3_off22_inb i) 7 (cast64 (i 0)) rfl (Shape.Idx.first (numel1_S1x1.symm ▸ Nat.one_pos))
  have hc7 : k3_chk8 (View.readAt (Elt Ideal) (Memref.whole main_v10).view (Rect.unit (s := S64x8) (k3_off22 i) S1x1.size (k3_off22_inb i)).toLoadRect xt (Shape.Idx.first (numel1_S1x1.symm ▸ Nat.one_pos))) := chk3 _ (by rw [ht7]; exact hw 7)
  have hr7 := row_load harg11 x8 _ (k3_off23_inb _ hc7) _ rfl rfl rfl
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; swap; · iexact H9
    ipureintro
    refine (store_whole _ _ _ _ _ (by decide)).trans ?_
    refine (show _ = out3 x0 x1 x2 x3 x4 x5 x6 x7 x8 (View.readAt (Elt Ideal) (Memref.whole main_v10).view (Rect.unit (s := S64x8) (k3_off1 i) S1x1.size (k3_off1_inb i)).toLoadRect xt (Shape.Idx.first (numel1_S1x1.symm ▸ Nat.one_pos))) (View.readAt (Elt Ideal) (Memref.whole main_v10).view (Rect.unit (s := S64x8) (k3_off10 i) S1x1.size (k3_off10_inb i)).toLoadRect xt (Shape.Idx.first (numel1_S1x1.symm ▸ Nat.one_pos))) (View.readAt (Elt Ideal) (Memref.whole main_v10).view (Rect.unit (s := S64x8) (k3_off12 i) S1x1.size (k3_off12_inb i)).toLoadRect xt (Shape.Idx.first (numel1_S1x1.symm ▸ Nat.one_pos))) (View.readAt (Elt Ideal) (Memref.whole main_v10).view (Rect.unit (s := S64x8) (k3_off14 i) S1x1.size (k3_off14_inb i)).toLoadRect xt (Shape.Idx.first (numel1_S1x1.symm ▸ Nat.one_pos))) (View.readAt (Elt Ideal) (Memref.whole main_v10).view (Rect.unit (s := S64x8) (k3_off16 i) S1x1.size (k3_off16_inb i)).toLoadRect xt (Shape.Idx.first (numel1_S1x1.symm ▸ Nat.one_pos))) (View.readAt (Elt Ideal) (Memref.whole main_v10).view (Rect.unit (s := S64x8) (k3_off18 i) S1x1.size (k3_off18_inb i)).toLoadRect xt (Shape.Idx.first (numel1_S1x1.symm ▸ Nat.one_pos))) (View.readAt (Elt Ideal) (Memref.whole main_v10).view (Rect.unit (s := S64x8) (k3_off20 i) S1x1.size (k3_off20_inb i)).toLoadRect xt (Shape.Idx.first (numel1_S1x1.symm ▸ Nat.one_pos))) (View.readAt (Elt Ideal) (Memref.whole main_v10).view (Rect.unit (s := S64x8) (k3_off22 i) S1x1.size (k3_off22_inb i)).toLoadRect xt (Shape.Idx.first (numel1_S1x1.symm ▸ Nat.one_pos))) from rfl).trans ?_
    rw [ht0, ht1, ht2, ht3, ht4, ht5, ht6, ht7]
  isplitl [HT0]; · iexact HT0
  iexact HT1

end Cert.KernelIdeal.Val

end
-- ==== Proof.Dat3.lean ====
/- The proof data of pallas_call 3's pipeline: what each buffer holds after each point. -/
module

public import proofs.«01_k».proof.Proof.Vals
public import proofs.«01_k».proof.Proof.Run3

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- Window `w`'s block at point `t`, read off its array. -/
def iblk3 (W : Valuation τ sig (Elt Ideal)) (a : (pcfg3 (F := Ideal)).Adm) (c : Dev nD) (w : Fin (cfg3 a).W) (t : Fin (cfg3 a).N) : (((cfg3 a).win w).xblock ((cfg3 a).grid.coords t)).Idx → Elt Ideal ((cfg3 a).win w).elt :=
  (((cfg3 a).win w).blk t).view.read (Elt Ideal) (bufs W c (Pipeline.arrRef spec3 w))

/-- What the points share: the scoped buffers no window stages. -/
def Φc3 (c : Dev nD) : sProp 𝕄 := Pipeline.scopedRest (Ix:=Unit) (Name:=ℕ) (U:=UR sig nD τ) (Lvl:=ℕ) (Val:=Elt Ideal) spec3 c

/-- The tables at a half share. -/
def ΦT3 (a : (pcfg3 (F := Ideal)).Adm) (c : Dev nD) (q : PosShare TreeShare) : sProp 𝕄 :=
  Pipeline.prefHeld (Ix:=Unit) (Name:=ℕ) (U:=UR sig nD τ) (Lvl:=ℕ) pre3 c (fun _ => q) a.1

/-- The proof data: the arrays as found, and each buffer after each point. -/
def dat3 (W : Valuation τ sig (Elt Ideal)) (a : (pcfg3 (F := Ideal)).Adm) (c : Dev nD) : Dat τ (Elt Ideal) Unit ℕ (UR sig nD τ) ℕ (cfg3 a) c where
  A w := bufs W c (Pipeline.arrRef spec3 w)
  after w t := match w with
    | ⟨0, _⟩ => iblk3 W a c 0 t
    | ⟨1, _⟩ => iblk3 W a c 1 t
    | ⟨2, _⟩ => iblk3 W a c 2 t
    | ⟨3, _⟩ => iblk3 W a c 3 t
    | ⟨4, _⟩ => iblk3 W a c 4 t
    | ⟨5, _⟩ => iblk3 W a c 5 t
    | ⟨6, _⟩ => iblk3 W a c 6 t
    | ⟨7, _⟩ => iblk3 W a c 7 t
    | ⟨8, _⟩ => iblk3 W a c 8 t
    | ⟨9, _⟩ => out3 (iblk3 W a c 0 t) (iblk3 W a c 1 t) (iblk3 W a c 2 t) (iblk3 W a c 3 t) (iblk3 W a c 4 t) (iblk3 W a c 5 t) (iblk3 W a c 6 t) (iblk3 W a c 7 t) (iblk3 W a c 8 t) (words3 c (a.1 1) (grid3.coords t) 0) (words3 c (a.1 1) (grid3.coords t) 1) (words3 c (a.1 1) (grid3.coords t) 2) (words3 c (a.1 1) (grid3.coords t) 3) (words3 c (a.1 1) (grid3.coords t) 4) (words3 c (a.1 1) (grid3.coords t) 5) (words3 c (a.1 1) (grid3.coords t) 6) (words3 c (a.1 1) (grid3.coords t) 7)
  Φ _ := iprop(Φc3 c ∗ ΦT3 a c fullShare.left ∗ ΦT3 a c fullShare.right)
  q w := Pipeline.shareOf spec3 w
  owed _ := 0

/-- The array behind a window starts with what its buffer holds. -/
theorem A_eq3 (W : Valuation τ sig (Elt Ideal)) (a : (pcfg3 (F := Ideal)).Adm) (c : Dev nD) (w : Fin (cfg3 a).W) : (dat3 W a c).A w = bufs W c (Pipeline.arrRef spec3 w) := by
  dsimp only [dat3]
/-- After step `t` the block of input window 0 is unchanged. -/
theorem after3_0 (W : Valuation τ sig (Elt Ideal)) (a : (pcfg3 (F := Ideal)).Adm) (c : Dev nD) (t : Fin (cfg3 a).N) : (dat3 W a c).after 0 t = iblk3 W a c 0 t := by dsimp only [dat3]; try rfl
/-- After step `t` the block of input window 1 is unchanged. -/
theorem after3_1 (W : Valuation τ sig (Elt Ideal)) (a : (pcfg3 (F := Ideal)).Adm) (c : Dev nD) (t : Fin (cfg3 a).N) : (dat3 W a c).after 1 t = iblk3 W a c 1 t := by dsimp only [dat3]; try rfl
/-- After step `t` the block of input window 2 is unchanged. -/
theorem after3_2 (W : Valuation τ sig (Elt Ideal)) (a : (pcfg3 (F := Ideal)).Adm) (c : Dev nD) (t : Fin (cfg3 a).N) : (dat3 W a c).after 2 t = iblk3 W a c 2 t := by dsimp only [dat3]; try rfl
/-- After step `t` the block of input window 3 is unchanged. -/
theorem after3_3 (W : Valuation τ sig (Elt Ideal)) (a : (pcfg3 (F := Ideal)).Adm) (c : Dev nD) (t : Fin (cfg3 a).N) : (dat3 W a c).after 3 t = iblk3 W a c 3 t := by dsimp only [dat3]; try rfl
/-- After step `t` the block of input window 4 is unchanged. -/
theorem after3_4 (W : Valuation τ sig (Elt Ideal)) (a : (pcfg3 (F := Ideal)).Adm) (c : Dev nD) (t : Fin (cfg3 a).N) : (dat3 W a c).after 4 t = iblk3 W a c 4 t := by dsimp only [dat3]; try rfl
/-- After step `t` the block of input window 5 is unchanged. -/
theorem after3_5 (W : Valuation τ sig (Elt Ideal)) (a : (pcfg3 (F := Ideal)).Adm) (c : Dev nD) (t : Fin (cfg3 a).N) : (dat3 W a c).after 5 t = iblk3 W a c 5 t := by dsimp only [dat3]; try rfl
/-- After step `t` the block of input window 6 is unchanged. -/
theorem after3_6 (W : Valuation τ sig (Elt Ideal)) (a : (pcfg3 (F := Ideal)).Adm) (c : Dev nD) (t : Fin (cfg3 a).N) : (dat3 W a c).after 6 t = iblk3 W a c 6 t := by dsimp only [dat3]; try rfl
/-- After step `t` the block of input window 7 is unchanged. -/
theorem after3_7 (W : Valuation τ sig (Elt Ideal)) (a : (pcfg3 (F := Ideal)).Adm) (c : Dev nD) (t : Fin (cfg3 a).N) : (dat3 W a c).after 7 t = iblk3 W a c 7 t := by dsimp only [dat3]; try rfl
/-- After step `t` the block of input window 8 is unchanged. -/
theorem after3_8 (W : Valuation τ sig (Elt Ideal)) (a : (pcfg3 (F := Ideal)).Adm) (c : Dev nD) (t : Fin (cfg3 a).N) : (dat3 W a c).after 8 t = iblk3 W a c 8 t := by dsimp only [dat3]; try rfl
/-- After step `t` the output block holds the weighted sum. -/
theorem after3_9 (W : Valuation τ sig (Elt Ideal)) (a : (pcfg3 (F := Ideal)).Adm) (c : Dev nD) (t : Fin (cfg3 a).N) : (dat3 W a c).after 9 t = out3 (iblk3 W a c 0 t) (iblk3 W a c 1 t) (iblk3 W a c 2 t) (iblk3 W a c 3 t) (iblk3 W a c 4 t) (iblk3 W a c 5 t) (iblk3 W a c 6 t) (iblk3 W a c 7 t) (iblk3 W a c 8 t) (words3 c (a.1 1) (grid3.coords t) 0) (words3 c (a.1 1) (grid3.coords t) 1) (words3 c (a.1 1) (grid3.coords t) 2) (words3 c (a.1 1) (grid3.coords t) 3) (words3 c (a.1 1) (grid3.coords t) 4) (words3 c (a.1 1) (grid3.coords t) 5) (words3 c (a.1 1) (grid3.coords t) 6) (words3 c (a.1 1) (grid3.coords t) 7) := by dsimp only [dat3]; try rfl
/-- Before step `t` the block of input window 0 is the part of the array that the step reads. -/
theorem before3_0 (W : Valuation τ sig (Elt Ideal)) (a : (pcfg3 (F := Ideal)).Adm) (c : Dev nD) (t : Fin (cfg3 a).N) (d) : (dat3 W a c).before 0 t d = iblk3 W a c 0 t :=
  ((dat3 W a c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
/-- Before step `t` the block of input window 1 is the part of the array that the step reads. -/
theorem before3_1 (W : Valuation τ sig (Elt Ideal)) (a : (pcfg3 (F := Ideal)).Adm) (c : Dev nD) (t : Fin (cfg3 a).N) (d) : (dat3 W a c).before 1 t d = iblk3 W a c 1 t :=
  ((dat3 W a c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
/-- Before step `t` the block of input window 2 is the part of the array that the step reads. -/
theorem before3_2 (W : Valuation τ sig (Elt Ideal)) (a : (pcfg3 (F := Ideal)).Adm) (c : Dev nD) (t : Fin (cfg3 a).N) (d) : (dat3 W a c).before 2 t d = iblk3 W a c 2 t :=
  ((dat3 W a c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
/-- Before step `t` the block of input window 3 is the part of the array that the step reads. -/
theorem before3_3 (W : Valuation τ sig (Elt Ideal)) (a : (pcfg3 (F := Ideal)).Adm) (c : Dev nD) (t : Fin (cfg3 a).N) (d) : (dat3 W a c).before 3 t d = iblk3 W a c 3 t :=
  ((dat3 W a c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
/-- Before step `t` the block of input window 4 is the part of the array that the step reads. -/
theorem before3_4 (W : Valuation τ sig (Elt Ideal)) (a : (pcfg3 (F := Ideal)).Adm) (c : Dev nD) (t : Fin (cfg3 a).N) (d) : (dat3 W a c).before 4 t d = iblk3 W a c 4 t :=
  ((dat3 W a c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)
/-- Before step `t` the block of input window 5 is the part of the array that the step reads. -/
theorem before3_5 (W : Valuation τ sig (Elt Ideal)) (a : (pcfg3 (F := Ideal)).Adm) (c : Dev nD) (t : Fin (cfg3 a).N) (d) : (dat3 W a c).before 5 t d = iblk3 W a c 5 t :=
  ((dat3 W a c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)
/-- Before step `t` the block of input window 6 is the part of the array that the step reads. -/
theorem before3_6 (W : Valuation τ sig (Elt Ideal)) (a : (pcfg3 (F := Ideal)).Adm) (c : Dev nD) (t : Fin (cfg3 a).N) (d) : (dat3 W a c).before 6 t d = iblk3 W a c 6 t :=
  ((dat3 W a c).before_in_eq_fetched 6 rfl (fun _ => rfl) (fun _ _ _ => rfl) (fun t => by rw [after3_6]; unfold Dat.blockOf iblk3; rw [A_eq3]; try rfl) t d).trans
    (by unfold Dat.fetched Dat.blockOf iblk3; rw [A_eq3]; try rfl)
/-- Before step `t` the block of input window 7 is the part of the array that the step reads. -/
theorem before3_7 (W : Valuation τ sig (Elt Ideal)) (a : (pcfg3 (F := Ideal)).Adm) (c : Dev nD) (t : Fin (cfg3 a).N) (d) : (dat3 W a c).before 7 t d = iblk3 W a c 7 t :=
  ((dat3 W a c).before_in_eq_fetched 7 rfl (fun _ => rfl) (fun _ _ _ => rfl) (fun t => by rw [after3_7]; unfold Dat.blockOf iblk3; rw [A_eq3]; try rfl) t d).trans
    (by unfold Dat.fetched Dat.blockOf iblk3; rw [A_eq3]; try rfl)
/-- Before step `t` the block of input window 8 is the part of the array that the step reads. -/
theorem before3_8 (W : Valuation τ sig (Elt Ideal)) (a : (pcfg3 (F := Ideal)).Adm) (c : Dev nD) (t : Fin (cfg3 a).N) (d) : (dat3 W a c).before 8 t d = iblk3 W a c 8 t :=
  ((dat3 W a c).before_in_eq_fetched 8 rfl (fun _ => rfl) (fun _ _ _ => rfl) (fun t => by rw [after3_8]; unfold Dat.blockOf iblk3; rw [A_eq3]; try rfl) t d).trans
    (by unfold Dat.fetched Dat.blockOf iblk3; rw [A_eq3]; try rfl)

/-- What the body finds at point `t`. -/
def bodyPre3 (W : Valuation τ sig (Elt Ideal)) (a : (pcfg3 (F := Ideal)).Adm) (c : Dev nD) (t : Fin (cfg3 a).N) : sProp 𝕄 :=
  iprop((dat3 W a c).Φ t.castSucc
    ∗ (dat3 W a c).owesAt () t.castSucc
    ∗ (∃ d, owns (c : Thread nD τ) (spec3_0.stage ((cfg3 a).slots t 0)) fullShare ((dat3 W a c).before 0 t d))
    ∗ (∃ d, owns (c : Thread nD τ) (spec3_1.stage ((cfg3 a).slots t 1)) fullShare ((dat3 W a c).before 1 t d))
    ∗ (∃ d, owns (c : Thread nD τ) (spec3_2.stage ((cfg3 a).slots t 2)) fullShare ((dat3 W a c).before 2 t d))
    ∗ (∃ d, owns (c : Thread nD τ) (spec3_3.stage ((cfg3 a).slots t 3)) fullShare ((dat3 W a c).before 3 t d))
    ∗ (∃ d, owns (c : Thread nD τ) (spec3_4.stage ((cfg3 a).slots t 4)) fullShare ((dat3 W a c).before 4 t d))
    ∗ (∃ d, owns (c : Thread nD τ) (spec3_5.stage ((cfg3 a).slots t 5)) fullShare ((dat3 W a c).before 5 t d))
    ∗ (∃ d, owns (c : Thread nD τ) (spec3_6.stage ((cfg3 a).slots t 6)) fullShare ((dat3 W a c).before 6 t d))
    ∗ (∃ d, owns (c : Thread nD τ) (spec3_7.stage ((cfg3 a).slots t 7)) fullShare ((dat3 W a c).before 7 t d))
    ∗ (∃ d, owns (c : Thread nD τ) (spec3_8.stage ((cfg3 a).slots t 8)) fullShare ((dat3 W a c).before 8 t d))
    ∗ (∃ d, owns (c : Thread nD τ) (spec3_9.stage ((cfg3 a).slots t 9)) fullShare ((dat3 W a c).before 9 t d)))

/-- What it leaves. -/
def bodyPost3 (W : Valuation τ sig (Elt Ideal)) (a : (pcfg3 (F := Ideal)).Adm) (c : Dev nD) (t : Fin (cfg3 a).N) : sProp 𝕄 :=
  iprop((dat3 W a c).Φ t.succ
    ∗ (dat3 W a c).owesAt () t.succ
    ∗ owns (c : Thread nD τ) (spec3_0.stage ((cfg3 a).slots t 0)) fullShare ((dat3 W a c).after 0 t)
    ∗ owns (c : Thread nD τ) (spec3_1.stage ((cfg3 a).slots t 1)) fullShare ((dat3 W a c).after 1 t)
    ∗ owns (c : Thread nD τ) (spec3_2.stage ((cfg3 a).slots t 2)) fullShare ((dat3 W a c).after 2 t)
    ∗ owns (c : Thread nD τ) (spec3_3.stage ((cfg3 a).slots t 3)) fullShare ((dat3 W a c).after 3 t)
    ∗ owns (c : Thread nD τ) (spec3_4.stage ((cfg3 a).slots t 4)) fullShare ((dat3 W a c).after 4 t)
    ∗ owns (c : Thread nD τ) (spec3_5.stage ((cfg3 a).slots t 5)) fullShare ((dat3 W a c).after 5 t)
    ∗ owns (c : Thread nD τ) (spec3_6.stage ((cfg3 a).slots t 6)) fullShare ((dat3 W a c).after 6 t)
    ∗ owns (c : Thread nD τ) (spec3_7.stage ((cfg3 a).slots t 7)) fullShare ((dat3 W a c).after 7 t)
    ∗ owns (c : Thread nD τ) (spec3_8.stage ((cfg3 a).slots t 8)) fullShare ((dat3 W a c).after 8 t)
    ∗ owns (c : Thread nD τ) (spec3_9.stage ((cfg3 a).slots t 9)) fullShare ((dat3 W a c).after 9 t))

/-- What the gathering kernel holds of its two tables, written out. -/
theorem ΦT3_eq (a : (pcfg3 (F := Ideal)).Adm) (c : Dev nD) : ΦT3 a c fullShare.right = iprop(tbPt c (Memref.whole main_v9) (a.1 0) ∗ tbPt c (Memref.whole main_v10) (a.1 1)) := by
  unfold ΦT3 Pipeline.prefHeld
  rw [show (Finset.univ : Finset (Fin 2)) = {0, 1} by decide, BI.bigSep_insert (by decide), bigSep_singleton]; rfl

set_option maxHeartbeats 1000000 in
/-- The body at point `t`, from what it finds to what it leaves. -/
theorem sound3 (W : Valuation τ sig (Elt Ideal)) (a : (pcfg3 (F := Ideal)).Adm) (c : Dev nD) (hw : ∀ t j, (words3 c (a.1 1) (grid3.coords t) j).toNat < 8) (t : Fin (cfg3 a).N) :
    bodyPre3 W a c t ⊢ wp frame (wpE (defs₀ (F := Ideal)) Variants.none c none) Set.univ (cc3__k5_body (grid3.coords t) (Memref.whole main_v9) (Memref.isWhole_whole _) (Memref.whole main_v10) (Memref.isWhole_whole _) (spec3_0.stage ((cfg3 a).slots t 0)) (hstage3_0 (((cfg3 a).slots t 0).cast nbuf3_0)) (spec3_1.stage ((cfg3 a).slots t 1)) (hstage3_1 (((cfg3 a).slots t 1).cast nbuf3_1)) (spec3_2.stage ((cfg3 a).slots t 2)) (hstage3_2 (((cfg3 a).slots t 2).cast nbuf3_2)) (spec3_3.stage ((cfg3 a).slots t 3)) (hstage3_3 (((cfg3 a).slots t 3).cast nbuf3_3)) (spec3_4.stage ((cfg3 a).slots t 4)) (hstage3_4 (((cfg3 a).slots t 4).cast nbuf3_4)) (spec3_5.stage ((cfg3 a).slots t 5)) (hstage3_5 (((cfg3 a).slots t 5).cast nbuf3_5)) (spec3_6.stage ((cfg3 a).slots t 6)) (hstage3_6 (((cfg3 a).slots t 6).cast nbuf3_6)) (spec3_7.stage ((cfg3 a).slots t 7)) (hstage3_7 (((cfg3 a).slots t 7).cast nbuf3_7)) (spec3_8.stage ((cfg3 a).slots t 8)) (hstage3_8 (((cfg3 a).slots t 8).cast nbuf3_8)) (spec3_9.stage ((cfg3 a).slots t 9)) (hstage3_9 (((cfg3 a).slots t 9).cast nbuf3_9))) (fun _ => bodyPost3 W a c t) := by
  unfold bodyPre3 bodyPost3
  simp only [before3_0, before3_1, before3_2, before3_3, before3_4, before3_5, before3_6, before3_7, before3_8]
  rw [show (dat3 W a c).Φ t.succ = (dat3 W a c).Φ t.castSucc from rfl,
    show (dat3 W a c).owesAt () t.succ = (dat3 W a c).owesAt () t.castSucc from rfl,
    after3_0, after3_1, after3_2, after3_3, after3_4, after3_5, after3_6, after3_7, after3_8, after3_9]
  rw [show (dat3 W a c).Φ t.castSucc = iprop(Φc3 c ∗ ΦT3 a c fullShare.left ∗ ΦT3 a c fullShare.right) from rfl, ΦT3_eq]
  iintro ⟨⟨HΦ, HL, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run3 c (grid3.coords t) _ _ _ _ _ _ _ _ _ _ _ _ _ _ _ _ _ _ _ _ (iblk3 W a c 0 t) (iblk3 W a c 1 t) (iblk3 W a c 2 t) (iblk3 W a c 3 t) (iblk3 W a c 4 t) (iblk3 W a c 5 t) (iblk3 W a c 6 t) (iblk3 W a c 7 t) (iblk3 W a c 8 t) (a.1 0) (a.1 1) (hw t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HT0]; · iexact HT0
  isplitl [HT1]; · iexact HT1
  iintro ⟨H0, H1, H2, H3, H4, H5, H6, H7, H8, H9, HT0, HT1⟩
  isplitl [HΦ HL HT0 HT1]
  · isplitl [HΦ]; · iexact HΦ
    isplitl [HL]; · iexact HL
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body that the pipeline runs at step `t` is the kernel body with the blocks of that step put in. -/
theorem bodyRow3 (a : (pcfg3 (F := Ideal)).Adm) (t : Fin (cfg3 a).N) :
    defs₀ (F := Ideal) .tc (cfg3 a).body ((cfg3 a).bodyArgs t ((cfg3 a).slots t)) = (cc3__k5_body (grid3.coords t) (Memref.whole main_v9) (Memref.isWhole_whole _) (Memref.whole main_v10) (Memref.isWhole_whole _) (spec3_0.stage ((cfg3 a).slots t 0)) (hstage3_0 (((cfg3 a).slots t 0).cast nbuf3_0)) (spec3_1.stage ((cfg3 a).slots t 1)) (hstage3_1 (((cfg3 a).slots t 1).cast nbuf3_1)) (spec3_2.stage ((cfg3 a).slots t 2)) (hstage3_2 (((cfg3 a).slots t 2).cast nbuf3_2)) (spec3_3.stage ((cfg3 a).slots t 3)) (hstage3_3 (((cfg3 a).slots t 3).cast nbuf3_3)) (spec3_4.stage ((cfg3 a).slots t 4)) (hstage3_4 (((cfg3 a).slots t 4).cast nbuf3_4)) (spec3_5.stage ((cfg3 a).slots t 5)) (hstage3_5 (((cfg3 a).slots t 5).cast nbuf3_5)) (spec3_6.stage ((cfg3 a).slots t 6)) (hstage3_6 (((cfg3 a).slots t 6).cast nbuf3_6)) (spec3_7.stage ((cfg3 a).slots t 7)) (hstage3_7 (((cfg3 a).slots t 7).cast nbuf3_7)) (spec3_8.stage ((cfg3 a).slots t 8)) (hstage3_8 (((cfg3 a).slots t 8).cast nbuf3_8)) (spec3_9.stage ((cfg3 a).slots t 9)) (hstage3_9 (((cfg3 a).slots t 9).cast nbuf3_9))) := by
  unfold defs₀; rw [Defs.onTc_tc]

/-- The body obligation of the pipeline. -/
theorem oblS3 (W : Valuation τ sig (Elt Ideal)) (a : (pcfg3 (F := Ideal)).Adm) (c : Dev nD) (hw : ∀ t j, (words3 c (a.1 1) (grid3.coords t) j).toNat < 8) : BodyObligation (dat3 W a c) (defs₀ (F := Ideal)) Variants.none () Set.univ := fun t => by
  rw [bigSep_W3, bigSep_W3, bodyRow3]
  exact triple_restated (sound3 W a c hw t) rfl .rfl fun _ => .rfl

/-- The same, each buffer's contents named only where the window moves them. -/
theorem obl3 (W : Valuation τ sig (Elt Ideal)) (a : (pcfg3 (F := Ideal)).Adm) (c : Dev nD) (hw : ∀ t j, (words3 c (a.1 1) (grid3.coords t) j).toNat < 8) : Pipeline.BodyObligationLoose (dat3 W a c) (defs₀ (F := Ideal)) Variants.none () Set.univ := (oblS3 W a c hw).loose

end Cert.KernelIdeal.Val

end
-- ==== Proof.Run4.lean ====
/- The body of the last kernel, run once: what it leaves in its output block. -/
module

public import proofs.«01_k».proof.Proof.Base

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The last kernel's body: from its two input blocks it leaves their product in its output block. -/
theorem run4 (c : Dev nD) (arg0 : Memref sig .tc .vmem S64x64 .f32) (harg0 : arg0.IsWhole) (arg1 : Memref sig .tc .vmem S64x64 .f32) (harg1 : arg1.IsWhole) (arg2 : Memref sig .tc .vmem S64x64 .f32) (harg2 : arg2.IsWhole)
    (x0 : Vec Ideal S64x64 .f32) (x1 : Vec Ideal S64x64 .f32) (E : Set ℕ) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (k4_pay1 x0 x1)) -∗ K ⟨⟩))
      ⊢ wp frame (wpE (defs₀ (F := Ideal)) Variants.none c none) E (cc4__k6_body arg0 harg0 arg1 harg1 arg2 harg2) K := by
  simp only [cc4__k6_body_eq_skeleton]; unfold cc4__k6_body_skel
  unfold owns
  iintro ⟨⟨%f0, %hf0, H0⟩, ⟨%f1, %hf1, H1⟩, ⟨%d2, %f2, -, H2⟩, Hk⟩
  obtain rfl := harg0.eq_unread hf0; obtain rfl := harg1.eq_unread hf1
  sl_exec
  sl_step
  iapply Hk
  isplitl [H0]
  · iexists _; isplitr; · ipureintro; exact harg0.read_unread _
    iexact H0
  isplitl [H1]
  · iexists _; isplitr; · ipureintro; exact harg1.read_unread _
    iexact H1
  iexists _; isplitr; swap; · iexact H2
  ipureintro
  refine (store_whole _ _ _ _ _ (by decide)).trans ?_
  rw [load_whole harg0 x0 _ (by decide), load_whole harg1 x1 _ (by decide)]

end Cert.KernelIdeal.Val

end
-- ==== Proof.Dat4.lean ====
/- The proof data of pallas_call 4's pipeline: what each buffer holds after each point. -/
module

public import proofs.«01_k».proof.Proof.Vals
public import proofs.«01_k».proof.Proof.Run4

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- Window `w`'s block at point `t`, read off its array. -/
def iblk4 (W : Valuation τ sig (Elt Ideal)) (c : Dev nD) (w : Fin cfg4.W) (t : Fin cfg4.N) : ((cfg4.win w).xblock (cfg4.grid.coords t)).Idx → Elt Ideal (cfg4.win w).elt :=
  ((cfg4.win w).blk t).view.read (Elt Ideal) (bufs W c (Pipeline.arrRef spec4 w))

/-- What the points share: the scoped buffers no window stages. -/
def Φc4 (c : Dev nD) : sProp 𝕄 := Pipeline.scopedRest (Ix:=Unit) (Name:=ℕ) (U:=UR sig nD τ) (Lvl:=ℕ) (Val:=Elt Ideal) spec4 c

/-- The proof data: the arrays as found, and each buffer after each point. -/
def dat4 (W : Valuation τ sig (Elt Ideal)) (c : Dev nD) : Dat τ (Elt Ideal) Unit ℕ (UR sig nD τ) ℕ cfg4 c where
  A w := bufs W c (Pipeline.arrRef spec4 w)
  after w t := match w with
    | ⟨0, _⟩ => iblk4 W c 0 t
    | ⟨1, _⟩ => iblk4 W c 1 t
    | ⟨2, _⟩ => k4_pay1 (iblk4 W c 0 t) (iblk4 W c 1 t)
  Φ _ := Φc4 c
  q w := fullShare
  owed _ := 0

/-- The array behind a window starts with what its buffer holds. -/
theorem A_eq4 (W : Valuation τ sig (Elt Ideal)) (c : Dev nD) (w : Fin cfg4.W) : (dat4 W c).A w = bufs W c (Pipeline.arrRef spec4 w) := by
  dsimp only [dat4]
/-- After step `t` the block of input window 0 is unchanged. -/
theorem after4_0 (W : Valuation τ sig (Elt Ideal)) (c : Dev nD) (t : Fin cfg4.N) : (dat4 W c).after 0 t = iblk4 W c 0 t := by dsimp only [dat4]; try rfl
/-- After step `t` the block of input window 1 is unchanged. -/
theorem after4_1 (W : Valuation τ sig (Elt Ideal)) (c : Dev nD) (t : Fin cfg4.N) : (dat4 W c).after 1 t = iblk4 W c 1 t := by dsimp only [dat4]; try rfl
/-- After the step the output block holds the product of the two input blocks. -/
theorem after4_2 (W : Valuation τ sig (Elt Ideal)) (c : Dev nD) (t : Fin cfg4.N) : (dat4 W c).after 2 t = k4_pay1 (iblk4 W c 0 t) (iblk4 W c 1 t) := by dsimp only [dat4]; try rfl
/-- Before step `t` the block of input window 0 is the part of the array that the step reads. -/
theorem before4_0 (W : Valuation τ sig (Elt Ideal)) (c : Dev nD) (t : Fin cfg4.N) (d) : (dat4 W c).before 0 t d = iblk4 W c 0 t :=
  ((dat4 W c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
/-- Before step `t` the block of input window 1 is the part of the array that the step reads. -/
theorem before4_1 (W : Valuation τ sig (Elt Ideal)) (c : Dev nD) (t : Fin cfg4.N) (d) : (dat4 W c).before 1 t d = iblk4 W c 1 t :=
  ((dat4 W c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)

/-- What the body finds at point `t`. -/
def bodyPre4 (W : Valuation τ sig (Elt Ideal)) (c : Dev nD) (t : Fin cfg4.N) : sProp 𝕄 :=
  iprop((dat4 W c).Φ t.castSucc
    ∗ (dat4 W c).owesAt () t.castSucc
    ∗ (∃ d, owns (c : Thread nD τ) (win4_0.stage (cfg4.slots t 0)) fullShare ((dat4 W c).before 0 t d))
    ∗ (∃ d, owns (c : Thread nD τ) (win4_1.stage (cfg4.slots t 1)) fullShare ((dat4 W c).before 1 t d))
    ∗ (∃ d, owns (c : Thread nD τ) (win4_2.stage (cfg4.slots t 2)) fullShare ((dat4 W c).before 2 t d)))

/-- What it leaves. -/
def bodyPost4 (W : Valuation τ sig (Elt Ideal)) (c : Dev nD) (t : Fin cfg4.N) : sProp 𝕄 :=
  iprop((dat4 W c).Φ t.succ
    ∗ (dat4 W c).owesAt () t.succ
    ∗ owns (c : Thread nD τ) (win4_0.stage (cfg4.slots t 0)) fullShare ((dat4 W c).after 0 t)
    ∗ owns (c : Thread nD τ) (win4_1.stage (cfg4.slots t 1)) fullShare ((dat4 W c).after 1 t)
    ∗ owns (c : Thread nD τ) (win4_2.stage (cfg4.slots t 2)) fullShare ((dat4 W c).after 2 t))

set_option maxHeartbeats 1000000 in
/-- The body at point `t`, from what it finds to what it leaves. -/
theorem sound4 (W : Valuation τ sig (Elt Ideal)) (c : Dev nD) (t : Fin cfg4.N) :
    bodyPre4 W c t ⊢ wp frame (wpE (defs₀ (F := Ideal)) Variants.none c none) Set.univ (bodyAt4 (F := Ideal) t) (fun _ => bodyPost4 W c t) := by
  unfold bodyPre4 bodyPost4 bodyAt4
  simp only [before4_0, before4_1]
  rw [show (dat4 W c).Φ t.succ = (dat4 W c).Φ t.castSucc from rfl,
    show (dat4 W c).owesAt () t.succ = (dat4 W c).owesAt () t.castSucc from rfl,
    after4_0, after4_1, after4_2]
  iintro ⟨HΦ, Ho, ⟨%d0, H0⟩, ⟨%d1, H1⟩, ⟨%d2, H2⟩⟩
  iapply (run4 c _ _ _ _ _ _ (iblk4 W c 0 t) (iblk4 W c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body that the pipeline runs at step `t` is the kernel body with the blocks of that step put in. -/
theorem bodyRow4 (t : Fin cfg4.N) :
    defs₀ (F := Ideal) .tc cfg4.body (cfg4.bodyArgs t (cfg4.slots t)) = (bodyAt4 (F := Ideal) t) := by
  unfold defs₀; rw [Defs.onTc_tc]

/-- The body obligation of the pipeline. -/
theorem oblS4 (W : Valuation τ sig (Elt Ideal)) (c : Dev nD) : BodyObligation (dat4 W c) (defs₀ (F := Ideal)) Variants.none () Set.univ := fun t => by
  rw [bigSep_W4, bigSep_W4, bodyRow4]
  exact triple_restated (sound4 W c t) rfl .rfl fun _ => .rfl

/-- The same, each buffer's contents named only where the window moves them. -/
theorem obl4 (W : Valuation τ sig (Elt Ideal)) (c : Dev nD) : Pipeline.BodyObligationLoose (dat4 W c) (defs₀ (F := Ideal)) Variants.none () Set.univ := (oblS4 W c).loose

end Cert.KernelIdeal.Val

end
-- ==== Proof.Family.lean ====
/- The five pipelines' proof data as one family. -/
module

public import proofs.«01_k».proof.Proof.Dat0
public import proofs.«01_k».proof.Proof.Dat1
public import proofs.«01_k».proof.Proof.Dat2
public import proofs.«01_k».proof.Proof.Dat3
public import proofs.«01_k».proof.Proof.Dat4
public import Idealize.ShloMosaic.Lib.Pipeline.Regions
public import Idealize.ShloMosaic.Lib.Pipeline.RegionsLoop

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- A valuation on every device. -/
abbrev Vals : Type := Dev nD → Valuation τ sig (Elt Ideal)

/-- The prefetched tables of the pipelines: only pallas_calls 2 and 3 have any. -/
def adms (a2 : (pcfg2 (F := Ideal)).Adm) (a3 : (pcfg3 (F := Ideal)).Adm) : (p : Fin 5) → (pcfgs (F := Ideal) p).Adm
  | ⟨0, _⟩ => cfg0.toPCfg_adm
  | ⟨1, _⟩ => cfg1.toPCfg_adm
  | ⟨2, _⟩ => a2
  | ⟨3, _⟩ => a3
  | ⟨4, _⟩ => cfg4.toPCfg_adm

/-- The proof data, each pipeline entered at its own valuation. -/
def fam (X : Fin 5 → Vals) (a2 : (pcfg2 (F := Ideal)).Adm) (a3 : (pcfg3 (F := Ideal)).Adm) :
    (p : Fin 5) → (c : Dev nD) → Dat τ (Elt Ideal) Unit ℕ (UR sig nD τ) ℕ (Pipeline.pin (pcfgs (F := Ideal)) (adms a2 a3) p) c
  | ⟨0, _⟩ => fun c => dat0 (X 0 c) c
  | ⟨1, _⟩ => fun c => dat1 (X 1 c) c
  | ⟨2, _⟩ => fun c => dat2 (X 2 c) a2 c
  | ⟨3, _⟩ => fun c => dat3 (X 3 c) a3 c
  | ⟨4, _⟩ => fun c => dat4 (X 4 c) c

/-- What a core holds between the segments: its unscoped buffers at a valuation, and nothing owed. -/
def thr (W : Vals) (c : Dev nD) : sProp 𝕄 :=
  iprop(unscopedBufs c (bufs (W c) c) ∗ ∃ O, owes (c : Thread nD τ) (0 : CellTallies nD τ sig Unit) O)

end Cert.KernelIdeal.Val

end
-- ==== Proof.Seg0.lean ====
/- Pallas_call 0 as a segment of the program. -/
module

public import proofs.«01_k».proof.Proof.Family

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- the library's splitting lemmas are stated at the pinned family of pipelines
set_option backward.isDefEq.respectTransparency.types false in
set_option maxHeartbeats 1000000 in
/-- The segment: entered with every unscoped buffer at one valuation, left with them at another, which differs only
    in the results, there at what the pipeline writes. -/
def seg0' (X : Fin 5 → Vals) (a2 : (pcfg2 (F := Ideal)).Adm) (a3 : (pcfg3 (F := Ideal)).Adm) (W' : Vals)
    (hout2 : ∀ c, bufs (W' c) c main_v3 = (dat0 (X 0 c) c).arrAt 2 cfg0.N)
    (hne : ∀ c (b : Ref sig .tc), b ≠ main_v3 → bufs (W' c) c b = bufs (X 0 c) c b)
    (hfree : ∀ c t d, out0 (grid0.coords t) ((cfg0.win 1).fill (cfg0.grid.coords t) d (iblk0 (X 0 c) c 1 t)) (iblk0 (X 0 c) c 0 t) = out0 (grid0.coords t) (keys0 (X 0 c) c t) (iblk0 (X 0 c) c 0 t)) :
    Pipeline.RegionSeg (pcfgs (F := Ideal)) (adms a2 a3) (fam X a2 a3) () defs₀ Variants.none (fun _ => ∅) (fun _ _ => 0) 0 where
  win := (launch0 (F := Ideal)).win.to₀
  block_pos := (launch0 (F := Ideal)).block_pos
  stage_whole := (launch0 (F := Ideal)).stage_whole
  K := PEmpty
  osem k := k.elim
  ho := Pipeline.OwnSemFacts.none _
  hbody c := obl0 (X 0 c) c (hfree c)
  hwaits := Pipeline.hwaits_of_owed_zero _ _ _ _ _ _ 0 fun _ _ => rfl
  pre c := thr (X 0) c
  post c := thr W' c
  X _ := BI.emp
  Y c := BI.emp
  Z c := Pipeline.unscopedRest (Ix:=Unit) (Name:=ℕ) (U:=UR sig nD τ) (Lvl:=ℕ) spec0 c (bufs (X 0 c) c)
  hentry c := by
    rw [Pipeline.ownSems0_none]
    have hsplit := Pipeline.arrays_of_unscopedBufs (p := 0) (pcfgs (F := Ideal)) (adms a2 a3) (fam X a2 a3) (launch0 (F := Ideal)).win (launch0 (F := Ideal)).arr_whole c (((fam X a2 a3) 0 c).share_full fun _ => rfl) (bufs (X 0 c) c) fun _ => rfl
    unfold thr
    iintro ⟨⟨Hub, HO⟩, -, -⟩
    ihave H := hsplit $$ Hub
    icases H with ⟨Ha, Hrest⟩
    imodintro
    isplitl [Ha]; · iexact Ha
    isplitr
    · unfold Pipeline.prefHeld
      rw [show (Finset.univ : Finset (Fin 0)) = ∅ from rfl, BI.bigSep_empty]
      iempintro
    isplitl [HO]
    · unfold Pipeline.Dat.owesAt Pipeline.owesWithin
      icases HO with ⟨%O, HO⟩
      iexists O
      isplitr
      · ipureintro; exact fun _ _ => Or.inl trivial
      iexact HO
    isplitr; · iempintro
    iexact Hrest
  hin c := by
    have h : (iprop(BI.emp ∗ Pipeline.prefHeld (pcfgs (F := Ideal) 0).pre c (fun _ => fullShare) (adms a2 a3 0).1 ∗ Φc0 c) : sProp 𝕄) ⊢ Φc0 c := by
      iintro ⟨-, -, Hr⟩
      iexact Hr
    exact h
  hout c := by
    rw [Pipeline.ownSems0_none]
    have h : (Φc0 c : sProp 𝕄) ⊢ iprop(BI.emp ∗ BI.emp ∗ Φc0 c) := by
      iintro Hr
      isplitr; · iempintro
      isplitr; · iempintro
      iexact Hr
    exact h
  hexit c := by
    have hF : ∀ w : Fin 3, (((fam X a2 a3) 0 c).arrAt w cfg0.N : _) = bufs (W' c) c (Pipeline.arrRef spec0 w) := by
      intro w
      fin_cases w
      · exact ((dat0 (X 0 c) c).arrAt_in 0 rfl _).trans (hne c _ (show Pipeline.arrRef spec0 (0 : Fin 3) ≠ main_v3 by decide)).symm
      · exact ((dat0 (X 0 c) c).arrAt_in 1 rfl _).trans (hne c _ (show Pipeline.arrRef spec0 (1 : Fin 3) ≠ main_v3 by decide)).symm
      · exact (hout2 c).symm
    have hjoin := Pipeline.unscopedBufs_of_arrays (p := 0) (pcfgs (F := Ideal)) (adms a2 a3) (Ix:=Unit) (Name:=ℕ) (U:=UR sig nD τ) (Lvl:=ℕ) (launch0 (F := Ideal)).win (launch0 (F := Ideal)).arr_whole c (fam X a2 a3) (((fam X a2 a3) 0 c).share_full fun _ => rfl) (bufs (X 0 c) c) (bufs (W' c) c) (((fam X a2 a3) 0 c).arrAt · cfg0.N) hF (fun b hb => hne c b (fun h => hb (h ▸ Finset.mem_image.mpr ⟨2, Finset.mem_univ _, rfl⟩)))
    unfold thr
    iintro ⟨Ha, HO, -, Hrest⟩
    imodintro
    isplitl [Ha Hrest]
    · iapply hjoin
      isplitl [Ha] <;> iassumption
    unfold Pipeline.Dat.owesAt Pipeline.owesWithin
    icases HO with ⟨%O, -, HO⟩
    iexists O
    iexact HO

end Cert.KernelIdeal.Val

end
-- ==== Proof.Seg1.lean ====
/- Pallas_call 1 as a segment of the program. -/
module

public import proofs.«01_k».proof.Proof.Family

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- the library's splitting lemmas are stated at the pinned family of pipelines
set_option backward.isDefEq.respectTransparency.types false in
set_option maxHeartbeats 1000000 in
/-- The segment: entered with every unscoped buffer at one valuation, left with them at another, which differs only
    in the results, there at what the pipeline writes. -/
def seg1' (X : Fin 5 → Vals) (a2 : (pcfg2 (F := Ideal)).Adm) (a3 : (pcfg3 (F := Ideal)).Adm) (W' : Vals)
    (hout1 : ∀ c, bufs (W' c) c main_v4 = (dat1 (X 1 c) c).arrAt 1 cfg1.N)
    (hne : ∀ c (b : Ref sig .tc), b ≠ main_v4 → bufs (W' c) c b = bufs (X 1 c) c b) :
    Pipeline.RegionSeg (pcfgs (F := Ideal)) (adms a2 a3) (fam X a2 a3) () defs₀ Variants.none (fun _ => ∅) (fun _ _ => 0) 1 where
  win := (launch1 (F := Ideal)).win.to₀
  block_pos := (launch1 (F := Ideal)).block_pos
  stage_whole := (launch1 (F := Ideal)).stage_whole
  K := PEmpty
  osem k := k.elim
  ho := Pipeline.OwnSemFacts.none _
  hbody c := obl1 (X 1 c) c
  hwaits := Pipeline.hwaits_of_owed_zero _ _ _ _ _ _ 1 fun _ _ => rfl
  pre c := thr (X 1) c
  post c := thr W' c
  X _ := BI.emp
  Y c := BI.emp
  Z c := Pipeline.unscopedRest (Ix:=Unit) (Name:=ℕ) (U:=UR sig nD τ) (Lvl:=ℕ) spec1 c (bufs (X 1 c) c)
  hentry c := by
    rw [Pipeline.ownSems0_none]
    have hsplit := Pipeline.arrays_of_unscopedBufs (p := 1) (pcfgs (F := Ideal)) (adms a2 a3) (fam X a2 a3) (launch1 (F := Ideal)).win (launch1 (F := Ideal)).arr_whole c (((fam X a2 a3) 1 c).share_full fun _ => rfl) (bufs (X 1 c) c) fun _ => rfl
    unfold thr
    iintro ⟨⟨Hub, HO⟩, -, -⟩
    ihave H := hsplit $$ Hub
    icases H with ⟨Ha, Hrest⟩
    imodintro
    isplitl [Ha]; · iexact Ha
    isplitr
    · unfold Pipeline.prefHeld
      rw [show (Finset.univ : Finset (Fin 0)) = ∅ from rfl, BI.bigSep_empty]
      iempintro
    isplitl [HO]
    · unfold Pipeline.Dat.owesAt Pipeline.owesWithin
      icases HO with ⟨%O, HO⟩
      iexists O
      isplitr
      · ipureintro; exact fun _ _ => Or.inl trivial
      iexact HO
    isplitr; · iempintro
    iexact Hrest
  hin c := by
    have h : (iprop(BI.emp ∗ Pipeline.prefHeld (pcfgs (F := Ideal) 1).pre c (fun _ => fullShare) (adms a2 a3 1).1 ∗ Φc1 c) : sProp 𝕄) ⊢ Φc1 c := by
      iintro ⟨-, -, Hr⟩
      iexact Hr
    exact h
  hout c := by
    rw [Pipeline.ownSems0_none]
    have h : (Φc1 c : sProp 𝕄) ⊢ iprop(BI.emp ∗ BI.emp ∗ Φc1 c) := by
      iintro Hr
      isplitr; · iempintro
      isplitr; · iempintro
      iexact Hr
    exact h
  hexit c := by
    have hF : ∀ w : Fin 2, (((fam X a2 a3) 1 c).arrAt w cfg1.N : _) = bufs (W' c) c (Pipeline.arrRef spec1 w) := by
      intro w
      fin_cases w
      · exact ((dat1 (X 1 c) c).arrAt_in 0 rfl _).trans (hne c _ (show Pipeline.arrRef spec1 (0 : Fin 2) ≠ main_v4 by decide)).symm
      · exact (hout1 c).symm
    have hjoin := Pipeline.unscopedBufs_of_arrays (p := 1) (pcfgs (F := Ideal)) (adms a2 a3) (Ix:=Unit) (Name:=ℕ) (U:=UR sig nD τ) (Lvl:=ℕ) (launch1 (F := Ideal)).win (launch1 (F := Ideal)).arr_whole c (fam X a2 a3) (((fam X a2 a3) 1 c).share_full fun _ => rfl) (bufs (X 1 c) c) (bufs (W' c) c) (((fam X a2 a3) 1 c).arrAt · cfg1.N) hF (fun b hb => hne c b (fun h => hb (h ▸ Finset.mem_image.mpr ⟨1, Finset.mem_univ _, rfl⟩)))
    unfold thr
    iintro ⟨Ha, HO, -, Hrest⟩
    imodintro
    isplitl [Ha Hrest]
    · iapply hjoin
      isplitl [Ha] <;> iassumption
    unfold Pipeline.Dat.owesAt Pipeline.owesWithin
    icases HO with ⟨%O, -, HO⟩
    iexists O
    iexact HO

end Cert.KernelIdeal.Val

end
-- ==== Proof.Seg2.lean ====
/- Pallas_call 2 as a segment of the program. -/
module

public import proofs.«01_k».proof.Proof.Family

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- the library's splitting lemmas are stated at the pinned family of pipelines
set_option backward.isDefEq.respectTransparency.types false in
set_option maxHeartbeats 1000000 in
/-- The segment: entered with every unscoped buffer at one valuation, left with them at another, which differs only
    in the results, there at what the pipeline writes. -/
def seg2' (X : Fin 5 → Vals) (a2 : (pcfg2 (F := Ideal)).Adm) (a3 : (pcfg3 (F := Ideal)).Adm) (W' : Vals)
    (hout9 : ∀ c, bufs (W' c) c main_v7_0 = (dat2 (X 2 c) a2 c).arrAt 9 (cfg2 a2).N)
    (hout10 : ∀ c, bufs (W' c) c main_v7_1 = (dat2 (X 2 c) a2 c).arrAt 10 (cfg2 a2).N)
    (hne : ∀ c (b : Ref sig .tc), b ≠ main_v7_0 → b ≠ main_v7_1 → bufs (W' c) c b = bufs (X 2 c) c b)
    (htbl : ∀ c k, bufs (X 2 c) c (pre2.ref k) = a2.1 k) :
    Pipeline.RegionSeg (pcfgs (F := Ideal)) (adms a2 a3) (fam X a2 a3) () defs₀ Variants.none (fun _ => ∅) (fun _ _ => 0) 2 where
  win := (launch₀2 (F := Ideal)).win
  block_pos := (launch₀2 (F := Ideal)).block_pos
  stage_whole := (launch₀2 (F := Ideal)).stage_whole
  K := PEmpty
  osem k := k.elim
  ho := Pipeline.OwnSemFacts.none _
  hbody c := obl2 (X 2 c) a2 c
  hwaits := Pipeline.hwaits_of_owed_zero _ _ _ _ _ _ 2 fun _ _ => rfl
  pre c := thr (X 2) c
  post c := thr W' c
  X _ := BI.emp
  Y c := Pipeline.prefHeld (Ix:=Unit) (Name:=ℕ) (U:=UR sig nD τ) (Lvl:=ℕ) pre2 c (fun _ => fullShare) a2.1
  Z c := Pipeline.unscopedRestP (Ix:=Unit) (Name:=ℕ) (U:=UR sig nD τ) (Lvl:=ℕ) pre2 spec2 c (bufs (X 2 c) c)
  hentry c := by
    rw [Pipeline.ownSems0_none]
    have hsplit := Pipeline.arrays_of_unscopedBufs_shared (p := 2) (pcfgs (F := Ideal)) (adms a2 a3) (fam X a2 a3) (launch₀2 (F := Ideal)).win sharedIn2 (launch₀2 (F := Ideal)).arr_whole c (fun _ _ => rfl) (bufs (X 2 c) c) fun _ => rfl
    unfold thr
    iintro ⟨⟨Hub, HO⟩, -, -⟩
    ihave H := hsplit $$ Hub
    icases H with ⟨Ha, Hrest⟩
    have hs := Pipeline.unscopedRest_split (Ix:=Unit) (Name:=ℕ) (U:=UR sig nD τ) (Lvl:=ℕ) preFacts2 c (bufs (X 2 c) c)
    rw [show (fun k => bufs (X 2 c) c (pre2.ref k)) = a2.1 from funext fun k => htbl c k] at hs
    have hs' : Pipeline.unscopedRest (Ix:=Unit) (Name:=ℕ) (U:=UR sig nD τ) (Lvl:=ℕ) spec2 c (bufs (X 2 c) c)
        ⊢ (iprop(Pipeline.prefHeld (Ix:=Unit) (Name:=ℕ) (U:=UR sig nD τ) (Lvl:=ℕ) pre2 c (fun _ => fullShare) a2.1 ∗ Pipeline.unscopedRestP (Ix:=Unit) (Name:=ℕ) (U:=UR sig nD τ) (Lvl:=ℕ) pre2 spec2 c (bufs (X 2 c) c)) : sProp 𝕄) := hs ▸ .rfl
    ihave H := hs' $$ Hrest
    icases H with ⟨Ht, Hrest⟩
    imodintro
    isplitl [Ha]; · iexact Ha
    isplitl [Ht]; · iexact Ht
    isplitl [HO]
    · unfold Pipeline.Dat.owesAt Pipeline.owesWithin
      icases HO with ⟨%O, HO⟩
      iexists O
      isplitr
      · ipureintro; exact fun _ _ => Or.inl trivial
      iexact HO
    isplitr; · iempintro
    iexact Hrest
  hin c := by
    have hsh := (Pipeline.prefHeld_share (τ := τ) (Ix:=Unit) (Name:=ℕ) (U:=UR sig nD τ) (Lvl:=ℕ) pre2 c (PosShare.mem_left_op_right fullShare) a2.1).1
    have h : (iprop(BI.emp ∗ Pipeline.prefHeld (Ix:=Unit) (Name:=ℕ) (U:=UR sig nD τ) (Lvl:=ℕ) pre2 c (fun _ => fullShare) a2.1 ∗ Φc2 c) : sProp 𝕄) ⊢ iprop(Φc2 c ∗ ΦT2 a2 c fullShare.left ∗ ΦT2 a2 c fullShare.right) := by
      unfold ΦT2
      iintro ⟨-, Ht, Hr⟩
      ihave H := hsh $$ Ht
      icases H with ⟨Hl, Hr'⟩
      isplitl [Hr]; · iexact Hr
      isplitl [Hl]; · iexact Hl
      iexact Hr'
    exact h
  hout c := by
    rw [Pipeline.ownSems0_none]
    have hsh := (Pipeline.prefHeld_share (τ := τ) (Ix:=Unit) (Name:=ℕ) (U:=UR sig nD τ) (Lvl:=ℕ) pre2 c (PosShare.mem_left_op_right fullShare) a2.1).2
    have h : (iprop(Φc2 c ∗ ΦT2 a2 c fullShare.left ∗ ΦT2 a2 c fullShare.right) : sProp 𝕄) ⊢ iprop(Pipeline.prefHeld (Ix:=Unit) (Name:=ℕ) (U:=UR sig nD τ) (Lvl:=ℕ) pre2 c (fun _ => fullShare) a2.1 ∗ BI.emp ∗ Φc2 c) := by
      unfold ΦT2
      iintro ⟨Hr, Hl, Hr'⟩
      isplitl [Hl Hr']
      · iapply hsh
        isplitl [Hl]; · iexact Hl
        iexact Hr'
      isplitr; · iempintro
      iexact Hr
    exact h
  hexit c := by
    have hF : ∀ w : Fin 11, (((fam X a2 a3) 2 c).arrAt w (cfg2 a2).N : _) = bufs (W' c) c (Pipeline.arrRef spec2 w) := by
      intro w
      fin_cases w
      · exact ((dat2 (X 2 c) a2 c).arrAt_in 0 rfl _).trans (hne c _ (show Pipeline.arrRef spec2 (0 : Fin 11) ≠ main_v7_0 by decide) (show Pipeline.arrRef spec2 (0 : Fin 11) ≠ main_v7_1 by decide)).symm
      · exact ((dat2 (X 2 c) a2 c).arrAt_in 1 rfl _).trans (hne c _ (show Pipeline.arrRef spec2 (1 : Fin 11) ≠ main_v7_0 by decide) (show Pipeline.arrRef spec2 (1 : Fin 11) ≠ main_v7_1 by decide)).symm
      · exact ((dat2 (X 2 c) a2 c).arrAt_in 2 rfl _).trans (hne c _ (show Pipeline.arrRef spec2 (2 : Fin 11) ≠ main_v7_0 by decide) (show Pipeline.arrRef spec2 (2 : Fin 11) ≠ main_v7_1 by decide)).symm
      · exact ((dat2 (X 2 c) a2 c).arrAt_in 3 rfl _).trans (hne c _ (show Pipeline.arrRef spec2 (3 : Fin 11) ≠ main_v7_0 by decide) (show Pipeline.arrRef spec2 (3 : Fin 11) ≠ main_v7_1 by decide)).symm
      · exact ((dat2 (X 2 c) a2 c).arrAt_in 4 rfl _).trans (hne c _ (show Pipeline.arrRef spec2 (4 : Fin 11) ≠ main_v7_0 by decide) (show Pipeline.arrRef spec2 (4 : Fin 11) ≠ main_v7_1 by decide)).symm
      · exact ((dat2 (X 2 c) a2 c).arrAt_in 5 rfl _).trans (hne c _ (show Pipeline.arrRef spec2 (5 : Fin 11) ≠ main_v7_0 by decide) (show Pipeline.arrRef spec2 (5 : Fin 11) ≠ main_v7_1 by decide)).symm
      · exact ((dat2 (X 2 c) a2 c).arrAt_in 6 rfl _).trans (hne c _ (show Pipeline.arrRef spec2 (6 : Fin 11) ≠ main_v7_0 by decide) (show Pipeline.arrRef spec2 (6 : Fin 11) ≠ main_v7_1 by decide)).symm
      · exact ((dat2 (X 2 c) a2 c).arrAt_in 7 rfl _).trans (hne c _ (show Pipeline.arrRef spec2 (7 : Fin 11) ≠ main_v7_0 by decide) (show Pipeline.arrRef spec2 (7 : Fin 11) ≠ main_v7_1 by decide)).symm
      · exact ((dat2 (X 2 c) a2 c).arrAt_in 8 rfl _).trans (hne c _ (show Pipeline.arrRef spec2 (8 : Fin 11) ≠ main_v7_0 by decide) (show Pipeline.arrRef spec2 (8 : Fin 11) ≠ main_v7_1 by decide)).symm
      · exact (hout9 c).symm
      · exact (hout10 c).symm
    have hjoin := Pipeline.unscopedBufs_of_arrays_shared (p := 2) (pcfgs (F := Ideal)) (adms a2 a3) (launch₀2 (F := Ideal)).win sharedIn2 (launch₀2 (F := Ideal)).arr_whole c (fam X a2 a3) (fun _ _ => rfl) (bufs (X 2 c) c) (bufs (W' c) c) (((fam X a2 a3) 2 c).arrAt · (cfg2 a2).N) hF (fun b hb => hne c b (fun h => hb (h ▸ Finset.mem_image.mpr ⟨9, Finset.mem_univ _, rfl⟩)) (fun h => hb (h ▸ Finset.mem_image.mpr ⟨10, Finset.mem_univ _, rfl⟩)))
    unfold thr
    have hs := Pipeline.unscopedRest_split (Ix:=Unit) (Name:=ℕ) (U:=UR sig nD τ) (Lvl:=ℕ) preFacts2 c (bufs (X 2 c) c)
    rw [show (fun k => bufs (X 2 c) c (pre2.ref k)) = a2.1 from funext fun k => htbl c k] at hs
    have hs' : (iprop(Pipeline.prefHeld (Ix:=Unit) (Name:=ℕ) (U:=UR sig nD τ) (Lvl:=ℕ) pre2 c (fun _ => fullShare) a2.1 ∗ Pipeline.unscopedRestP (Ix:=Unit) (Name:=ℕ) (U:=UR sig nD τ) (Lvl:=ℕ) pre2 spec2 c (bufs (X 2 c) c)) : sProp 𝕄) ⊢ Pipeline.unscopedRest (Ix:=Unit) (Name:=ℕ) (U:=UR sig nD τ) (Lvl:=ℕ) spec2 c (bufs (X 2 c) c) := hs ▸ .rfl
    iintro ⟨Ha, HO, Ht, Hrest⟩
    ihave Hrest := hs' $$ [Ht Hrest]
    · isplitl [Ht]; · iexact Ht
      iexact Hrest
    imodintro
    isplitl [Ha Hrest]
    · iapply hjoin
      isplitl [Ha] <;> iassumption
    unfold Pipeline.Dat.owesAt Pipeline.owesWithin
    icases HO with ⟨%O, -, HO⟩
    iexists O
    iexact HO

end Cert.KernelIdeal.Val

end
-- ==== Proof.Seg3.lean ====
/- Pallas_call 3 as a segment of the program. -/
module

public import proofs.«01_k».proof.Proof.Family

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- the library's splitting lemmas are stated at the pinned family of pipelines
set_option backward.isDefEq.respectTransparency.types false in
set_option maxHeartbeats 1000000 in
/-- The segment: entered with every unscoped buffer at one valuation, left with them at another, which differs only
    in the results, there at what the pipeline writes. -/
def seg3' (X : Fin 5 → Vals) (a2 : (pcfg2 (F := Ideal)).Adm) (a3 : (pcfg3 (F := Ideal)).Adm) (W' : Vals)
    (hout9 : ∀ c, bufs (W' c) c main_v14 = (dat3 (X 3 c) a3 c).arrAt 9 (cfg3 a3).N)
    (hne : ∀ c (b : Ref sig .tc), b ≠ main_v14 → bufs (W' c) c b = bufs (X 3 c) c b)
    (hw : ∀ c t j, (words3 c (a3.1 1) (grid3.coords t) j).toNat < 8)
    (htbl : ∀ c k, bufs (X 3 c) c (pre3.ref k) = a3.1 k) :
    Pipeline.RegionSeg (pcfgs (F := Ideal)) (adms a2 a3) (fam X a2 a3) () defs₀ Variants.none (fun _ => ∅) (fun _ _ => 0) 3 where
  win := (launch₀3 (F := Ideal)).win
  block_pos := (launch₀3 (F := Ideal)).block_pos
  stage_whole := (launch₀3 (F := Ideal)).stage_whole
  K := PEmpty
  osem k := k.elim
  ho := Pipeline.OwnSemFacts.none _
  hbody c := obl3 (X 3 c) a3 c (hw c)
  hwaits := Pipeline.hwaits_of_owed_zero _ _ _ _ _ _ 3 fun _ _ => rfl
  pre c := thr (X 3) c
  post c := thr W' c
  X _ := BI.emp
  Y c := Pipeline.prefHeld (Ix:=Unit) (Name:=ℕ) (U:=UR sig nD τ) (Lvl:=ℕ) pre3 c (fun _ => fullShare) a3.1
  Z c := Pipeline.unscopedRestP (Ix:=Unit) (Name:=ℕ) (U:=UR sig nD τ) (Lvl:=ℕ) pre3 spec3 c (bufs (X 3 c) c)
  hentry c := by
    rw [Pipeline.ownSems0_none]
    have hsplit := Pipeline.arrays_of_unscopedBufs_shared (p := 3) (pcfgs (F := Ideal)) (adms a2 a3) (fam X a2 a3) (launch₀3 (F := Ideal)).win sharedIn3 (launch₀3 (F := Ideal)).arr_whole c (fun _ _ => rfl) (bufs (X 3 c) c) fun _ => rfl
    unfold thr
    iintro ⟨⟨Hub, HO⟩, -, -⟩
    ihave H := hsplit $$ Hub
    icases H with ⟨Ha, Hrest⟩
    have hs := Pipeline.unscopedRest_split (Ix:=Unit) (Name:=ℕ) (U:=UR sig nD τ) (Lvl:=ℕ) preFacts3 c (bufs (X 3 c) c)
    rw [show (fun k => bufs (X 3 c) c (pre3.ref k)) = a3.1 from funext fun k => htbl c k] at hs
    have hs' : Pipeline.unscopedRest (Ix:=Unit) (Name:=ℕ) (U:=UR sig nD τ) (Lvl:=ℕ) spec3 c (bufs (X 3 c) c)
        ⊢ (iprop(Pipeline.prefHeld (Ix:=Unit) (Name:=ℕ) (U:=UR sig nD τ) (Lvl:=ℕ) pre3 c (fun _ => fullShare) a3.1 ∗ Pipeline.unscopedRestP (Ix:=Unit) (Name:=ℕ) (U:=UR sig nD τ) (Lvl:=ℕ) pre3 spec3 c (bufs (X 3 c) c)) : sProp 𝕄) := hs ▸ .rfl
    ihave H := hs' $$ Hrest
    icases H with ⟨Ht, Hrest⟩
    imodintro
    isplitl [Ha]; · iexact Ha
    isplitl [Ht]; · iexact Ht
    isplitl [HO]
    · unfold Pipeline.Dat.owesAt Pipeline.owesWithin
      icases HO with ⟨%O, HO⟩
      iexists O
      isplitr
      · ipureintro; exact fun _ _ => Or.inl trivial
      iexact HO
    isplitr; · iempintro
    iexact Hrest
  hin c := by
    have hsh := (Pipeline.prefHeld_share (τ := τ) (Ix:=Unit) (Name:=ℕ) (U:=UR sig nD τ) (Lvl:=ℕ) pre3 c (PosShare.mem_left_op_right fullShare) a3.1).1
    have h : (iprop(BI.emp ∗ Pipeline.prefHeld (Ix:=Unit) (Name:=ℕ) (U:=UR sig nD τ) (Lvl:=ℕ) pre3 c (fun _ => fullShare) a3.1 ∗ Φc3 c) : sProp 𝕄) ⊢ iprop(Φc3 c ∗ ΦT3 a3 c fullShare.left ∗ ΦT3 a3 c fullShare.right) := by
      unfold ΦT3
      iintro ⟨-, Ht, Hr⟩
      ihave H := hsh $$ Ht
      icases H with ⟨Hl, Hr'⟩
      isplitl [Hr]; · iexact Hr
      isplitl [Hl]; · iexact Hl
      iexact Hr'
    exact h
  hout c := by
    rw [Pipeline.ownSems0_none]
    have hsh := (Pipeline.prefHeld_share (τ := τ) (Ix:=Unit) (Name:=ℕ) (U:=UR sig nD τ) (Lvl:=ℕ) pre3 c (PosShare.mem_left_op_right fullShare) a3.1).2
    have h : (iprop(Φc3 c ∗ ΦT3 a3 c fullShare.left ∗ ΦT3 a3 c fullShare.right) : sProp 𝕄) ⊢ iprop(Pipeline.prefHeld (Ix:=Unit) (Name:=ℕ) (U:=UR sig nD τ) (Lvl:=ℕ) pre3 c (fun _ => fullShare) a3.1 ∗ BI.emp ∗ Φc3 c) := by
      unfold ΦT3
      iintro ⟨Hr, Hl, Hr'⟩
      isplitl [Hl Hr']
      · iapply hsh
        isplitl [Hl]; · iexact Hl
        iexact Hr'
      isplitr; · iempintro
      iexact Hr
    exact h
  hexit c := by
    have hF : ∀ w : Fin 10, (((fam X a2 a3) 3 c).arrAt w (cfg3 a3).N : _) = bufs (W' c) c (Pipeline.arrRef spec3 w) := by
      intro w
      fin_cases w
      · exact ((dat3 (X 3 c) a3 c).arrAt_in 0 rfl _).trans (hne c _ (show Pipeline.arrRef spec3 (0 : Fin 10) ≠ main_v14 by decide)).symm
      · exact ((dat3 (X 3 c) a3 c).arrAt_in 1 rfl _).trans (hne c _ (show Pipeline.arrRef spec3 (1 : Fin 10) ≠ main_v14 by decide)).symm
      · exact ((dat3 (X 3 c) a3 c).arrAt_in 2 rfl _).trans (hne c _ (show Pipeline.arrRef spec3 (2 : Fin 10) ≠ main_v14 by decide)).symm
      · exact ((dat3 (X 3 c) a3 c).arrAt_in 3 rfl _).trans (hne c _ (show Pipeline.arrRef spec3 (3 : Fin 10) ≠ main_v14 by decide)).symm
      · exact ((dat3 (X 3 c) a3 c).arrAt_in 4 rfl _).trans (hne c _ (show Pipeline.arrRef spec3 (4 : Fin 10) ≠ main_v14 by decide)).symm
      · exact ((dat3 (X 3 c) a3 c).arrAt_in 5 rfl _).trans (hne c _ (show Pipeline.arrRef spec3 (5 : Fin 10) ≠ main_v14 by decide)).symm
      · exact ((dat3 (X 3 c) a3 c).arrAt_in 6 rfl _).trans (hne c _ (show Pipeline.arrRef spec3 (6 : Fin 10) ≠ main_v14 by decide)).symm
      · exact ((dat3 (X 3 c) a3 c).arrAt_in 7 rfl _).trans (hne c _ (show Pipeline.arrRef spec3 (7 : Fin 10) ≠ main_v14 by decide)).symm
      · exact ((dat3 (X 3 c) a3 c).arrAt_in 8 rfl _).trans (hne c _ (show Pipeline.arrRef spec3 (8 : Fin 10) ≠ main_v14 by decide)).symm
      · exact (hout9 c).symm
    have hjoin := Pipeline.unscopedBufs_of_arrays_shared (p := 3) (pcfgs (F := Ideal)) (adms a2 a3) (launch₀3 (F := Ideal)).win sharedIn3 (launch₀3 (F := Ideal)).arr_whole c (fam X a2 a3) (fun _ _ => rfl) (bufs (X 3 c) c) (bufs (W' c) c) (((fam X a2 a3) 3 c).arrAt · (cfg3 a3).N) hF (fun b hb => hne c b (fun h => hb (h ▸ Finset.mem_image.mpr ⟨9, Finset.mem_univ _, rfl⟩)))
    unfold thr
    have hs := Pipeline.unscopedRest_split (Ix:=Unit) (Name:=ℕ) (U:=UR sig nD τ) (Lvl:=ℕ) preFacts3 c (bufs (X 3 c) c)
    rw [show (fun k => bufs (X 3 c) c (pre3.ref k)) = a3.1 from funext fun k => htbl c k] at hs
    have hs' : (iprop(Pipeline.prefHeld (Ix:=Unit) (Name:=ℕ) (U:=UR sig nD τ) (Lvl:=ℕ) pre3 c (fun _ => fullShare) a3.1 ∗ Pipeline.unscopedRestP (Ix:=Unit) (Name:=ℕ) (U:=UR sig nD τ) (Lvl:=ℕ) pre3 spec3 c (bufs (X 3 c) c)) : sProp 𝕄) ⊢ Pipeline.unscopedRest (Ix:=Unit) (Name:=ℕ) (U:=UR sig nD τ) (Lvl:=ℕ) spec3 c (bufs (X 3 c) c) := hs ▸ .rfl
    iintro ⟨Ha, HO, Ht, Hrest⟩
    ihave Hrest := hs' $$ [Ht Hrest]
    · isplitl [Ht]; · iexact Ht
      iexact Hrest
    imodintro
    isplitl [Ha Hrest]
    · iapply hjoin
      isplitl [Ha] <;> iassumption
    unfold Pipeline.Dat.owesAt Pipeline.owesWithin
    icases HO with ⟨%O, -, HO⟩
    iexists O
    iexact HO

end Cert.KernelIdeal.Val

end
-- ==== Proof.Seg4.lean ====
/- Pallas_call 4 as a segment of the program. -/
module

public import proofs.«01_k».proof.Proof.Family

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- the library's splitting lemmas are stated at the pinned family of pipelines
set_option backward.isDefEq.respectTransparency.types false in
set_option maxHeartbeats 1000000 in
/-- The segment: entered with every unscoped buffer at one valuation, left with them at another, which differs only
    in the results, there at what the pipeline writes. -/
def seg4' (X : Fin 5 → Vals) (a2 : (pcfg2 (F := Ideal)).Adm) (a3 : (pcfg3 (F := Ideal)).Adm) (W' : Vals)
    (hout2 : ∀ c, bufs (W' c) c main_v16 = (dat4 (X 4 c) c).arrAt 2 cfg4.N)
    (hne : ∀ c (b : Ref sig .tc), b ≠ main_v16 → bufs (W' c) c b = bufs (X 4 c) c b) :
    Pipeline.RegionSeg (pcfgs (F := Ideal)) (adms a2 a3) (fam X a2 a3) () defs₀ Variants.none (fun _ => ∅) (fun _ _ => 0) 4 where
  win := (launch4 (F := Ideal)).win.to₀
  block_pos := (launch4 (F := Ideal)).block_pos
  stage_whole := (launch4 (F := Ideal)).stage_whole
  K := PEmpty
  osem k := k.elim
  ho := Pipeline.OwnSemFacts.none _
  hbody c := obl4 (X 4 c) c
  hwaits := Pipeline.hwaits_of_owed_zero _ _ _ _ _ _ 4 fun _ _ => rfl
  pre c := thr (X 4) c
  post c := thr W' c
  X _ := BI.emp
  Y c := BI.emp
  Z c := Pipeline.unscopedRest (Ix:=Unit) (Name:=ℕ) (U:=UR sig nD τ) (Lvl:=ℕ) spec4 c (bufs (X 4 c) c)
  hentry c := by
    rw [Pipeline.ownSems0_none]
    have hsplit := Pipeline.arrays_of_unscopedBufs (p := 4) (pcfgs (F := Ideal)) (adms a2 a3) (fam X a2 a3) (launch4 (F := Ideal)).win (launch4 (F := Ideal)).arr_whole c (((fam X a2 a3) 4 c).share_full fun _ => rfl) (bufs (X 4 c) c) fun _ => rfl
    unfold thr
    iintro ⟨⟨Hub, HO⟩, -, -⟩
    ihave H := hsplit $$ Hub
    icases H with ⟨Ha, Hrest⟩
    imodintro
    isplitl [Ha]; · iexact Ha
    isplitr
    · unfold Pipeline.prefHeld
      rw [show (Finset.univ : Finset (Fin 0)) = ∅ from rfl, BI.bigSep_empty]
      iempintro
    isplitl [HO]
    · unfold Pipeline.Dat.owesAt Pipeline.owesWithin
      icases HO with ⟨%O, HO⟩
      iexists O
      isplitr
      · ipureintro; exact fun _ _ => Or.inl trivial
      iexact HO
    isplitr; · iempintro
    iexact Hrest
  hin c := by
    have h : (iprop(BI.emp ∗ Pipeline.prefHeld (pcfgs (F := Ideal) 4).pre c (fun _ => fullShare) (adms a2 a3 4).1 ∗ Φc4 c) : sProp 𝕄) ⊢ Φc4 c := by
      iintro ⟨-, -, Hr⟩
      iexact Hr
    exact h
  hout c := by
    rw [Pipeline.ownSems0_none]
    have h : (Φc4 c : sProp 𝕄) ⊢ iprop(BI.emp ∗ BI.emp ∗ Φc4 c) := by
      iintro Hr
      isplitr; · iempintro
      isplitr; · iempintro
      iexact Hr
    exact h
  hexit c := by
    have hF : ∀ w : Fin 3, (((fam X a2 a3) 4 c).arrAt w cfg4.N : _) = bufs (W' c) c (Pipeline.arrRef spec4 w) := by
      intro w
      fin_cases w
      · exact ((dat4 (X 4 c) c).arrAt_in 0 rfl _).trans (hne c _ (show Pipeline.arrRef spec4 (0 : Fin 3) ≠ main_v16 by decide)).symm
      · exact ((dat4 (X 4 c) c).arrAt_in 1 rfl _).trans (hne c _ (show Pipeline.arrRef spec4 (1 : Fin 3) ≠ main_v16 by decide)).symm
      · exact (hout2 c).symm
    have hjoin := Pipeline.unscopedBufs_of_arrays (p := 4) (pcfgs (F := Ideal)) (adms a2 a3) (Ix:=Unit) (Name:=ℕ) (U:=UR sig nD τ) (Lvl:=ℕ) (launch4 (F := Ideal)).win (launch4 (F := Ideal)).arr_whole c (fam X a2 a3) (((fam X a2 a3) 4 c).share_full fun _ => rfl) (bufs (X 4 c) c) (bufs (W' c) c) (((fam X a2 a3) 4 c).arrAt · cfg4.N) hF (fun b hb => hne c b (fun h => hb (h ▸ Finset.mem_image.mpr ⟨2, Finset.mem_univ _, rfl⟩)))
    unfold thr
    iintro ⟨Ha, HO, -, Hrest⟩
    imodintro
    isplitl [Ha Hrest]
    · iapply hjoin
      isplitl [Ha] <;> iassumption
    unfold Pipeline.Dat.owesAt Pipeline.owesWithin
    icases HO with ⟨%O, -, HO⟩
    iexists O
    iexact HO

end Cert.KernelIdeal.Val

end
-- ==== Proof.Stages.lean ====
/- The program's valuations, one after each segment. -/
module

public import proofs.«01_k».proof.Proof.Family

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)
variable (a2 : (pcfg2 (F := Ideal)).Adm) (a3 : (pcfg3 (F := Ideal)).Adm)

/-- After the host's first segment. -/
def W1 : Vals := fun c => StableHlo.after hostOps0 (V0 m c)
/-- After pallas_call 0: the segment maxima. -/
def W2 : Vals := fun c => Function.update (W1 m c) main_v3 ((dat0 (W1 m c) c).arrAt 2 cfg0.N)
/-- After pallas_call 1: the segments picked. -/
def W3 : Vals := fun c => Function.update (W2 m c) main_v4 ((dat1 (W2 m c) c).arrAt 1 cfg1.N)
/-- The buffers after the group of host operations that comes next. -/
def W4 : Vals := fun c => StableHlo.after hostOps2 (W3 m c)
/-- After pallas_call 2: the positions picked and their weights. -/
def W5 : Vals := fun c => Function.update (Function.update (W4 m c) main_v7_0 ((dat2 (W4 m c) a2 c).arrAt 9 (cfg2 a2).N)) main_v7_1 ((dat2 (W4 m c) a2 c).arrAt 10 (cfg2 a2).N)
/-- The buffers after the group of host operations that comes next. -/
def W6 : Vals := fun c => StableHlo.after hostOps3 (W5 m a2 c)
/-- The buffers after the group of host operations that comes next. -/
def W7 : Vals := fun c => StableHlo.after hostOps3_1 (W6 m a2 c)
/-- The buffers after the group of host operations that comes next. -/
def W8 : Vals := fun c => StableHlo.after hostOps3_2 (W7 m a2 c)
/-- The buffers after the group of host operations that comes next. -/
def W9 : Vals := fun c => StableHlo.after hostOps3_3 (W8 m a2 c)
/-- The buffers after the group of host operations that comes next. -/
def W10 : Vals := fun c => StableHlo.after hostOps3_4 (W9 m a2 c)
/-- After pallas_call 3: the weighted sums. -/
def W11 : Vals := fun c => Function.update (W10 m a2 c) main_v14 ((dat3 (W10 m a2 c) a3 c).arrAt 9 (cfg3 a3).N)
/-- The buffers after the group of host operations that comes next. -/
def W12 : Vals := fun c => StableHlo.after hostOps4 (W11 m a2 a3 c)
/-- After pallas_call 4: the product. -/
def W13 : Vals := fun c => Function.update (W12 m a2 a3 c) main_v16 ((dat4 (W12 m a2 a3 c) c).arrAt 2 cfg4.N)
/-- The buffers after the group of host operations that comes next. -/
def W14 : Vals := fun c => StableHlo.after hostOps5 (W13 m a2 a3 c)

/-- What the pallas_calls leave in their results. -/
def louts : Outs (F := Ideal) := fun J r c =>
  match J with
  | 2 => W2 m c r
  | 3 => W3 m c r
  | 5 => W5 m a2 c r
  | 11 => W11 m a2 a3 c r
  | _ => W13 m a2 a3 c r

/-- The valuation pallas_call `p` is entered at. -/
def entry : Fin 5 → Vals
  | ⟨0, _⟩ => W1 m
  | ⟨1, _⟩ => W2 m
  | ⟨2, _⟩ => W4 m
  | ⟨3, _⟩ => W10 m a2
  | ⟨4, _⟩ => W12 m a2 a3

/-- The output buffer of this kernel holds the array that its last step leaves. -/
theorem W2_out (c : Dev nD) : W2 m c main_v3 = (dat0 (W1 m c) c).arrAt 2 cfg0.N := Function.update_self ..
/-- The output buffer of this kernel holds the array that its last step leaves. -/
theorem W3_out (c : Dev nD) : W3 m c main_v4 = (dat1 (W2 m c) c).arrAt 1 cfg1.N := Function.update_self ..
/-- The output buffer of this kernel holds the array that its last step leaves. -/
theorem W5_out0 (c : Dev nD) : W5 m a2 c main_v7_0 = (dat2 (W4 m c) a2 c).arrAt 9 (cfg2 a2).N :=
  (Function.update_of_ne (StableHlo.devRef_ne_of_ne (by decide) : (Proc.devRef .tc main_v7_0 : DevRef τ sig) ≠ Proc.devRef .tc main_v7_1) _ _).trans (Function.update_self ..)
/-- The output buffer of this kernel holds the array that its last step leaves. -/
theorem W5_out1 (c : Dev nD) : W5 m a2 c main_v7_1 = (dat2 (W4 m c) a2 c).arrAt 10 (cfg2 a2).N := Function.update_self ..
/-- The output buffer of this kernel holds the array that its last step leaves. -/
theorem W11_out (c : Dev nD) : W11 m a2 a3 c main_v14 = (dat3 (W10 m a2 c) a3 c).arrAt 9 (cfg3 a3).N := Function.update_self ..
/-- The output buffer of this kernel holds the array that its last step leaves. -/
theorem W13_out (c : Dev nD) : W13 m a2 a3 c main_v16 = (dat4 (W12 m a2 a3 c) c).arrAt 2 cfg4.N := Function.update_self ..

/-- The kernel leaves every buffer other than its output alone. -/
theorem W2_of (c : Dev nD) (r : Ref sig .tc) (h : r ≠ main_v3) : W2 m c r = W1 m c r :=
  Function.update_of_ne (StableHlo.devRef_ne_of_ne h : (Proc.devRef .tc r : DevRef τ sig) ≠ Proc.devRef .tc main_v3) _ _
/-- The kernel leaves every buffer other than its output alone. -/
theorem W3_of (c : Dev nD) (r : Ref sig .tc) (h : r ≠ main_v4) : W3 m c r = W2 m c r :=
  Function.update_of_ne (StableHlo.devRef_ne_of_ne h : (Proc.devRef .tc r : DevRef τ sig) ≠ Proc.devRef .tc main_v4) _ _
/-- The kernel leaves every buffer other than its output alone. -/
theorem W5_of (c : Dev nD) (r : Ref sig .tc) (h : r ≠ main_v7_0) (h' : r ≠ main_v7_1) : W5 m a2 c r = W4 m c r :=
  (Function.update_of_ne (StableHlo.devRef_ne_of_ne h' : (Proc.devRef .tc r : DevRef τ sig) ≠ Proc.devRef .tc main_v7_1) _ _).trans
    (Function.update_of_ne (StableHlo.devRef_ne_of_ne h : (Proc.devRef .tc r : DevRef τ sig) ≠ Proc.devRef .tc main_v7_0) _ _)
/-- The kernel leaves every buffer other than its output alone. -/
theorem W11_of (c : Dev nD) (r : Ref sig .tc) (h : r ≠ main_v14) : W11 m a2 a3 c r = W10 m a2 c r :=
  Function.update_of_ne (StableHlo.devRef_ne_of_ne h : (Proc.devRef .tc r : DevRef τ sig) ≠ Proc.devRef .tc main_v14) _ _
/-- The kernel leaves every buffer other than its output alone. -/
theorem W13_of (c : Dev nD) (r : Ref sig .tc) (h : r ≠ main_v16) : W13 m a2 a3 c r = W12 m a2 a3 c r :=
  Function.update_of_ne (StableHlo.devRef_ne_of_ne h : (Proc.devRef .tc r : DevRef τ sig) ≠ Proc.devRef .tc main_v16) _ _

/-- The buffers of the program at this stage, with the outputs of the kernels put in, are the contents written here. -/
theorem V2_eq (c : Dev nD) : V2 m (louts m a2 a3) c = W2 m c := by
  show Function.update (W1 m c) main_v3 (W2 m c main_v3) = _
  rw [W2_out]; rfl
/-- The buffers of the program at this stage, with the outputs of the kernels put in, are the contents written here. -/
theorem V3_eq (c : Dev nD) : V3 m (louts m a2 a3) c = W3 m c := by
  show Function.update (V2 m (louts m a2 a3) c) main_v4 (W3 m c main_v4) = _
  rw [V2_eq, W3_out]; rfl
/-- The buffers of the program at this stage, with the outputs of the kernels put in, are the contents written here. -/
theorem V4_eq (c : Dev nD) : V4 m (louts m a2 a3) c = W4 m c := by
  unfold V4 W4; rw [V3_eq]
/-- The buffers of the program at this stage, with the outputs of the kernels put in, are the contents written here. -/
theorem V5_eq (c : Dev nD) : V5 m (louts m a2 a3) c = W5 m a2 c := by
  show Function.update (Function.update (V4 m (louts m a2 a3) c) main_v7_0 (W5 m a2 c main_v7_0)) main_v7_1 (W5 m a2 c main_v7_1) = _
  rw [V4_eq, W5_out0, W5_out1]; rfl
/-- The buffers of the program at this stage, with the outputs of the kernels put in, are the contents written here. -/
theorem V10_eq (c : Dev nD) : V10 m (louts m a2 a3) c = W10 m a2 c := by
  unfold V10 V9 V8 V7 V6 W10 W9 W8 W7 W6; rw [V5_eq]
/-- The buffers of the program at this stage, with the outputs of the kernels put in, are the contents written here. -/
theorem V11_eq (c : Dev nD) : V11 m (louts m a2 a3) c = W11 m a2 a3 c := by
  show Function.update (V10 m (louts m a2 a3) c) main_v14 (W11 m a2 a3 c main_v14) = _
  rw [V10_eq, W11_out]; rfl
/-- The buffers of the program at this stage, with the outputs of the kernels put in, are the contents written here. -/
theorem V12_eq (c : Dev nD) : V12 m (louts m a2 a3) c = W12 m a2 a3 c := by
  unfold V12 W12; rw [V11_eq]
/-- The buffers of the program at this stage, with the outputs of the kernels put in, are the contents written here. -/
theorem V13_eq (c : Dev nD) : V13 m (louts m a2 a3) c = W13 m a2 a3 c := by
  show Function.update (V12 m (louts m a2 a3) c) main_v16 (W13 m a2 a3 c main_v16) = _
  rw [V12_eq, W13_out]; rfl
/-- The buffers of the program at this stage, with the outputs of the kernels put in, are the contents written here. -/
theorem V14_eq (c : Dev nD) : V14 m (louts m a2 a3) c = W14 m a2 a3 c := by
  unfold V14 W14; rw [V13_eq]

end Cert.KernelIdeal.Val

end
-- ==== Proof.Compose.lean ====
/- The program's segments composed: the run from the launch to the last valuation. -/
module

public import proofs.«01_k».proof.Proof.Family

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- A core owes nothing. -/
def nowed (c : Dev nD) : sProp 𝕄 := iprop(∃ O, owes (c : Thread nD τ) (0 : CellTallies nD τ sig Unit) O)

-- the composition's side conditions are stated at the pinned family of pipelines
set_option backward.isDefEq.respectTransparency.types false in
set_option maxHeartbeats 4000000 in
/-- Five segments for the pallas_calls, each from one valuation to the next, make the program's run: it terminates
    with the arguments as launched, its result at the last valuation and every counter zero. -/
theorem compose (outs : Outs (F := Ideal)) (a : (p : Fin 5) → (pcfgs (F := Ideal) p).Adm)
    (pdats : (p : Fin 5) → (c : Dev nD) → Dat τ (Elt Ideal) Unit ℕ (UR sig nD τ) ℕ (Pipeline.pin (pcfgs (F := Ideal)) a p) c)
    (R0 : Pipeline.RegionSeg (pcfgs (F := Ideal)) a pdats () defs₀ Variants.none (fun _ => ∅) (fun _ _ => 0) 0)
    (hpre0 : ∀ c : Dev nD, iprop(StableHlo.held (c : Thread nD τ) (Pipeline.ucRefs τ sig) (V1 m c) ∗ nowed c) ⊢ R0.pre c)
    (hpost0 : ∀ c : Dev nD, R0.post c ⊢ iprop(StableHlo.held (c : Thread nD τ) (Pipeline.ucRefs τ sig) (V2 m outs c) ∗ nowed c))
    (R1 : Pipeline.RegionSeg (pcfgs (F := Ideal)) a pdats () defs₀ Variants.none (fun _ => ∅) (fun _ _ => 0) 1)
    (hpre1 : ∀ c : Dev nD, iprop(StableHlo.held (c : Thread nD τ) (Pipeline.ucRefs τ sig) (V2 m outs c) ∗ nowed c) ⊢ R1.pre c)
    (hpost1 : ∀ c : Dev nD, R1.post c ⊢ iprop(StableHlo.held (c : Thread nD τ) (Pipeline.ucRefs τ sig) (V3 m outs c) ∗ nowed c))
    (R2 : Pipeline.RegionSeg (pcfgs (F := Ideal)) a pdats () defs₀ Variants.none (fun _ => ∅) (fun _ _ => 0) 2)
    (hpre2 : ∀ c : Dev nD, iprop(StableHlo.held (c : Thread nD τ) (Pipeline.ucRefs τ sig) (V4 m outs c) ∗ nowed c) ⊢ R2.pre c)
    (hpost2 : ∀ c : Dev nD, R2.post c ⊢ iprop(StableHlo.held (c : Thread nD τ) (Pipeline.ucRefs τ sig) (V5 m outs c) ∗ nowed c))
    (R3 : Pipeline.RegionSeg (pcfgs (F := Ideal)) a pdats () defs₀ Variants.none (fun _ => ∅) (fun _ _ => 0) 3)
    (hpre3 : ∀ c : Dev nD, iprop(StableHlo.held (c : Thread nD τ) (Pipeline.ucRefs τ sig) (V10 m outs c) ∗ nowed c) ⊢ R3.pre c)
    (hpost3 : ∀ c : Dev nD, R3.post c ⊢ iprop(StableHlo.held (c : Thread nD τ) (Pipeline.ucRefs τ sig) (V11 m outs c) ∗ nowed c))
    (R4 : Pipeline.RegionSeg (pcfgs (F := Ideal)) a pdats () defs₀ Variants.none (fun _ => ∅) (fun _ _ => 0) 4)
    (hpre4 : ∀ c : Dev nD, iprop(StableHlo.held (c : Thread nD τ) (Pipeline.ucRefs τ sig) (V12 m outs c) ∗ nowed c) ⊢ R4.pre c)
    (hpost4 : ∀ c : Dev nD, R4.post c ⊢ iprop(StableHlo.held (c : Thread nD τ) (Pipeline.ucRefs τ sig) (V13 m outs c) ∗ nowed c)) :
    θ_run defs (onTc (τ := τ) (main (F := Ideal))) ⟨m, fun _ => 0, ρ⟩ (fun r => (∀ c : Dev nD,
      r.2.mem ((c.tc : Thread nD τ).loc main_v17) = V14 m outs c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine Pipeline.θ_run_regions_kit_dev_sems (pcfgs (F := Ideal)) a pdats () (cellOf_inj a) emb₁ defs₀ Variants.none (fun _ => ∅) (fun _ _ => 0) m ρ main
    (segs m outs Variants.none (fun _ => ∅) (fun _ _ => 0) (fun _ => nowed) () a pdats R0 R1 R2 R3 R4)
    (fun c Q => by
      rewrite [main_chain c, Pipeline.Seg.run_eq_chain,
        show (segs m outs Variants.none (fun _ => ∅) (fun _ _ => 0) (fun _ => nowed) () a pdats R0 R1 R2 R3 R4 c).map Pipeline.Seg.prog = [
          StableHlo.seq hostOps0, Prog.lift (.customCall (Pipeline.entry 0) ()), Prog.lift (.customCall (Pipeline.entry 1) ()),
          StableHlo.seq hostOps2, Prog.lift (.customCall (Pipeline.entry 2) ()),
          StableHlo.seq hostOps3, StableHlo.seq hostOps3_1, StableHlo.seq hostOps3_2, StableHlo.seq hostOps3_3, StableHlo.seq hostOps3_4,
          Prog.lift (.customCall (Pipeline.entry 3) ()), StableHlo.seq hostOps4, Prog.lift (.customCall (Pipeline.entry 4) ()),
          StableHlo.seq hostOps5 ] from rfl]
      dsimp (config := { failIfUnchanged := false }) only
      exact .rfl)
    (fun c => by simp only [segs, Pipeline.Seg.pipes_host, Pipeline.Seg.pipes_region, Pipeline.Seg.pipes_nil]; decide) (fun _ => 0) (fun _ _ => rfl)
    (fun _ => iprop(emp)) (initOf (Pipeline.cells (Pipeline.pin (pcfgs (F := Ideal)) a) (cellOf_inj a)) (Pipeline.launchToks (Pipeline.pin (pcfgs (F := Ideal)) a) (cellOf_inj a)))
    (by
      iintro Hu
      imodintro
      isplitl [Hu]
      · iapply (show (ownU _ : sProp 𝕄) ⊢ BI.own (emb₁ (initOf (Pipeline.cells (Pipeline.pin (pcfgs (F := Ideal)) a) (cellOf_inj a)) (Pipeline.launchToks (Pipeline.pin (pcfgs (F := Ideal)) a) (cellOf_inj a)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ nowed c))
    (Tₙ := fun c => StableHlo.held (c : Thread nD τ) (Pipeline.ucRefs τ sig) (V14 m outs c))
    (hch := fun c => ⟨.rfl, hpre0 c, (hpost0 c).trans (hpre1 c), hpost1 c, hpre2 c, hpost2 c, .rfl, .rfl, .rfl, .rfl, hpre3 c, hpost3 c, hpre4 c, hpost4 c, sep_mono .rfl .rfl⟩)
    (hinit := ?_) (QY := fun c s => s.mem ((c.tc : Thread nD τ).loc main_v17) = V14 m outs c main_v17 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h hz => ⟨h, funext fun g => hz g (.inr (regions_no_unscoped g.2))⟩)
  · refine Pipeline.initEach (fun _ => ∅) (fun _ _ => 0) fun c => ?_
    rw [show unscopedBufs c (fun b => m ((c : Thread nD τ).loc b)) = StableHlo.held (c : Thread nD τ) (Pipeline.ucRefs τ sig) (V0 m c) from Pipeline.unscopedBufs_held c (V0 m c)]
    unfold nowed
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V14 m outs c) s') $$ [Hh HSI]
    · isplitl [Hh] <;> iassumption
    icases Hr with ⟨%h, HSI⟩
    imodintro
    isplitr
    · ipureintro
      exact ⟨(h (Proc.devRef .tc main_v17) (Finset.mem_filter.mpr ⟨StableHlo.devRef_mem_tcRefs main_v17, by decide⟩)), (h (Proc.devRef .tc main_arg0) (Finset.mem_filter.mpr ⟨StableHlo.devRef_mem_tcRefs main_arg0, by decide⟩)).trans (V14_main_arg0 m outs c), (h (Proc.devRef .tc main_arg1) (Finset.mem_filter.mpr ⟨StableHlo.devRef_mem_tcRefs main_arg1, by decide⟩)).trans (V14_main_arg1 m outs c), (h (Proc.devRef .tc main_arg2) (Finset.mem_filter.mpr ⟨StableHlo.devRef_mem_tcRefs main_arg2, by decide⟩)).trans (V14_main_arg2 m outs c), (h (Proc.devRef .tc main_arg3) (Finset.mem_filter.mpr ⟨StableHlo.devRef_mem_tcRefs main_arg3, by decide⟩)).trans (V14_main_arg3 m outs c)⟩
    · iexact HSI

end Cert.KernelIdeal.Val

end
-- ==== Proof.Whole.lean ====
/- The whole program's run. -/
module

public import proofs.«01_k».proof.Proof.Seg0
public import proofs.«01_k».proof.Proof.Seg1
public import proofs.«01_k».proof.Proof.Seg2
public import proofs.«01_k».proof.Proof.Seg3
public import proofs.«01_k».proof.Proof.Seg4
public import proofs.«01_k».proof.Proof.Stages
public import proofs.«01_k».proof.Proof.Compose

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Holding the buffers at `V` with nothing owed is the state at `W`, when `V` is what `W` gives the device. -/
theorem thr_eq (W : Vals) (c : Dev nD) (V : Valuation τ sig (Elt Ideal)) (h : V = W c) :
    (iprop(StableHlo.held (c : Thread nD τ) (Pipeline.ucRefs τ sig) V ∗ nowed c) : sProp 𝕄) = thr W c := by
  subst h
  unfold thr nowed
  rw [← Pipeline.unscopedBufs_held (Ix := Unit) (Name := ℕ) (U := UR sig nD τ) (Lvl := ℕ) c (W c)]

/-- Equal assertions entail each other. -/
theorem ent_of_eq {P Q : sProp 𝕄} (h : P = Q) : P ⊢ Q := h ▸ .rfl

set_option maxHeartbeats 4000000 in
/-- Every run from launch memory `m`, every counter zero, terminates with each argument as launched, the program's
    result at the last valuation and every counter zero, when the tables of pallas_calls 2 and 3 are admissible,
    the row offsets of pallas_call 3 in range, and the first call's result free of what lies past the keys. -/
theorem run_whole (a2 : (pcfg2 (F := Ideal)).Adm) (a3 : (pcfg3 (F := Ideal)).Adm)
    (hfree : ∀ c t d, out0 (grid0.coords t) ((cfg0.win 1).fill (cfg0.grid.coords t) d (iblk0 (W1 m c) c 1 t)) (iblk0 (W1 m c) c 0 t) = out0 (grid0.coords t) (keys0 (W1 m c) c t) (iblk0 (W1 m c) c 0 t))
    (ht2 : ∀ c k, bufs (W4 m c) c (pre2.ref k) = a2.1 k)
    (ht3 : ∀ c k, bufs (W10 m a2 c) c (pre3.ref k) = a3.1 k)
    (hw : ∀ c t j, (words3 c (a3.1 1) (grid3.coords t) j).toNat < 8) :
    θ_run defs (onTc (τ := τ) (main (F := Ideal))) ⟨m, fun _ => 0, ρ⟩ (fun r => (∀ c : Dev nD,
      r.2.mem ((c.tc : Thread nD τ).loc main_v17) = W14 m a2 a3 c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  have h := compose m ρ (louts m a2 a3) (adms a2 a3) (fam (entry m a2 a3) a2 a3)
    (seg0' (entry m a2 a3) a2 a3 (W2 m) (W2_out m) (fun c b h => W2_of m c b h) hfree)
    (fun c => ent_of_eq (thr_eq (W1 m) c _ (rfl)))
    (fun c => ent_of_eq (thr_eq (W2 m) c _ (V2_eq m a2 a3 c)).symm)
    (seg1' (entry m a2 a3) a2 a3 (W3 m) (W3_out m) (fun c b h => W3_of m c b h))
    (fun c => ent_of_eq (thr_eq (W2 m) c _ (V2_eq m a2 a3 c)))
    (fun c => ent_of_eq (thr_eq (W3 m) c _ (V3_eq m a2 a3 c)).symm)
    (seg2' (entry m a2 a3) a2 a3 (W5 m a2) (W5_out0 m a2) (W5_out1 m a2) (fun c b h h' => W5_of m a2 c b h h') ht2)
    (fun c => ent_of_eq (thr_eq (W4 m) c _ (V4_eq m a2 a3 c)))
    (fun c => ent_of_eq (thr_eq (W5 m a2) c _ (V5_eq m a2 a3 c)).symm)
    (seg3' (entry m a2 a3) a2 a3 (W11 m a2 a3) (W11_out m a2 a3) (fun c b h => W11_of m a2 a3 c b h) hw ht3)
    (fun c => ent_of_eq (thr_eq (W10 m a2) c _ (V10_eq m a2 a3 c)))
    (fun c => ent_of_eq (thr_eq (W11 m a2 a3) c _ (V11_eq m a2 a3 c)).symm)
    (seg4' (entry m a2 a3) a2 a3 (W13 m a2 a3) (W13_out m a2 a3) (fun c b h => W13_of m a2 a3 c b h))
    (fun c => ent_of_eq (thr_eq (W12 m a2 a3) c _ (V12_eq m a2 a3 c)))
    (fun c => ent_of_eq (thr_eq (W13 m a2 a3) c _ (V13_eq m a2 a3 c)).symm)
  simp only [V14_eq] at h
  exact h

end Cert.KernelIdeal.Val

end
-- ==== Proof.Picks.lean ====
/- Picking the greatest of what is left, round after round: the eight picks of the segments' maxima hold the eight
   top entries, and the eight picks among the picked segments' entries are these. -/
module

public import Idealize.ShloMosaic.PureOps.Ideal
public import Idealize.ShloMosaic.PureOps.Reduce

@[expose] public section

noncomputable section

namespace Cert.KernelIdeal.Val

variable {ι : Type} [Fintype ι] [Nonempty ι]

/-- `n` is the least label of an entry that holds the greatest value. -/
def IsPick (c : ι → ℕ) (x : ι → EReal) (n : ℕ) : Prop :=
  (∃ p, x p = (⨆ q, x q) ∧ c p = n) ∧ ∀ p, x p = (⨆ q, x q) → n ≤ c p

/-- The values with the entries of the first `k` labels struck out. -/
def rest (c : ι → ℕ) (x : ι → EReal) (g : ℕ → ℕ) (k : ℕ) (p : ι) : EReal :=
  open Classical in if ∃ j, j < k ∧ c p = g j then ⊥ else x p

/-- The first eight labels are the eight picks, each among what the earlier ones left. -/
def Picks (c : ι → ℕ) (x : ι → EReal) (g : ℕ → ℕ) : Prop := ∀ k, k < 8 → IsPick c (rest c x g k) (g k)

omit [Fintype ι] [Nonempty ι] in
/-- Before the first round nothing is removed. -/
theorem rest_zero (c : ι → ℕ) (x : ι → EReal) (g : ℕ → ℕ) : rest c x g 0 = x := by
  funext p; simp [rest]

omit [Fintype ι] [Nonempty ι] in
/-- One more round removes the label picked in that round. -/
theorem rest_succ (c : ι → ℕ) (x : ι → EReal) (g : ℕ → ℕ) (k : ℕ) :
    rest c x g (k + 1) = fun p => if c p = g k then ⊥ else rest c x g k p := by
  funext p
  unfold rest
  by_cases h : c p = g k
  · rw [if_pos h, if_pos ⟨k, Nat.lt_succ_self k, h⟩]
  · rw [if_neg h]
    refine if_congr ⟨?_, ?_⟩ rfl rfl
    · rintro ⟨j, hj, e⟩
      exact ⟨j, lt_of_le_of_ne (Nat.lt_succ_iff.mp hj) fun e' => h (e' ▸ e), e⟩
    · rintro ⟨j, hj, e⟩
      exact ⟨j, Nat.lt_succ_of_lt hj, e⟩

omit [Fintype ι] [Nonempty ι] in
/-- A place whose label was not picked keeps its score. -/
theorem rest_of_not (c : ι → ℕ) (x : ι → EReal) (g : ℕ → ℕ) (k : ℕ) (p : ι) (h : ¬∃ j, j < k ∧ c p = g j) :
    rest c x g k p = x p := if_neg h

omit [Fintype ι] [Nonempty ι] in
/-- A place that still has a score above bottom carries a label not picked so far. -/
theorem not_of_rest (c : ι → ℕ) (x : ι → EReal) (g : ℕ → ℕ) (k : ℕ) (p : ι) (h : ⊥ < rest c x g k p) :
    ¬∃ j, j < k ∧ c p = g j := fun e => by
  unfold rest at h
  rw [if_pos e] at h
  exact lt_irrefl _ h

/-- The picks among the maxima, those past `G` being the least value, are below `G`. -/
theorem pick_lt {T : ℕ} (M : Fin T → EReal) (G : ℕ) (hG : 0 < G) (hT : G ≤ T) (hM : ∀ t, G ≤ t.val → M t = ⊥)
    (g : ℕ → ℕ) (k : ℕ) (hg : IsPick (fun t : Fin T => t.val) (rest (fun t : Fin T => t.val) M g k) (g k)) : g k < G := by
  obtain ⟨⟨p, hp, e⟩, hmin⟩ := hg
  by_contra hlt
  have hpb : rest (fun t : Fin T => t.val) M g k p = ⊥ := by
    unfold rest
    split
    · rfl
    · exact hM p (by have e' : p.val = g k := e; omega)
  have h0 := hmin ⟨0, by omega⟩ (le_antisymm (le_iSup _ _) (by rw [← hp, hpb]; exact bot_le))
  have : g k ≤ 0 := h0
  omega

/-- A pick is one of the labels. -/
theorem pick_label (c : ι → ℕ) (x : ι → EReal) (n : ℕ) (h : IsPick c x n) : ∃ p, c p = n := by
  obtain ⟨⟨p, -, e⟩, -⟩ := h
  exact ⟨p, e⟩

/-- `n` comes before `m` among the scores in falling order, equal scores in rising order of their places. -/
def beats (s : ℕ → EReal) (n m : ℕ) : Prop := s m < s n ∨ (s n = s m ∧ n < m)

/-- No label beats itself. -/
theorem not_beats_self (s : ℕ → EReal) (n : ℕ) : ¬beats s n n := by
  rintro (h | ⟨-, h⟩)
  · exact lt_irrefl _ h
  · exact lt_irrefl _ h

/-- The first eight places of the falling order: exactly the earlier ones come before each. -/
def Ranks (s : ℕ → EReal) (N : ℕ) (i : ℕ → ℕ) : Prop :=
  ∀ k, k < 8 → i k < N ∧ ∀ n, n < N → (beats s n (i k) ↔ ∃ j, j < k ∧ n = i j)

section Segments

variable {T G : ℕ} (s : ℕ → EReal) (hs : ∀ n, n < 64 * G → ⊥ < s n) (hG : 8 < G) (hT : G ≤ T)
variable (M : Fin T → EReal) (hM : ∀ t : Fin T, M t = if t.val < G then ⨆ j : Fin 64, s (64 * t.val + j.val) else ⊥)
variable (g : ℕ → ℕ) (hg : Picks (fun t : Fin T => t.val) M g)

include hs hG hT hM hg

/-- The segment picked in round `k` is a real segment, not picked before, with the largest maximum among those left. -/
theorem seg_top (k : ℕ) (hk : k < 8) : ∃ p : Fin T, p.val = g k ∧ p.val < G ∧ (¬∃ j, j < k ∧ p.val = g j) ∧
    M p = (⨆ q, rest (fun t : Fin T => t.val) M g k q) := by
  obtain ⟨⟨p, hp, e⟩, hmin⟩ := hg k hk
  have hlt := pick_lt M G (by omega) hT (fun t ht => by rw [hM t, if_neg (by omega)]) g k (hg k hk)
  -- a segment none of the earlier picks took
  have hfree : ∃ t : Fin T, t.val < G ∧ ¬∃ j, j < k ∧ t.val = g j := by
    by_contra hno
    push Not at hno
    have hinj : ∃ f : Fin G → Fin k, ∀ t, t.val = g (f t).val := by
      choose f hf1 hf2 using fun t : Fin G => hno ⟨t.val, lt_of_lt_of_le t.isLt hT⟩ t.isLt
      exact ⟨fun t => ⟨f t, hf1 t⟩, fun t => hf2 t⟩
    obtain ⟨f, hf⟩ := hinj
    have : Function.Injective f := fun a b hab => Fin.ext (by rw [hf a, hf b, hab])
    have := Fintype.card_le_of_injective f this
    simp only [Fintype.card_fin] at this
    omega
  obtain ⟨t, htG, htn⟩ := hfree
  have hpos : ⊥ < (⨆ q, rest (fun t : Fin T => t.val) M g k q) := by
    refine lt_of_lt_of_le ?_ (le_iSup _ t)
    rw [rest_of_not _ _ _ _ _ htn, hM t, if_pos htG]
    exact lt_of_lt_of_le (hs (64 * t.val + (0 : Fin 64).val) (by simp only [Fin.val_zero]; omega)) (le_iSup (fun j : Fin 64 => s (64 * t.val + j.val)) 0)
  have hn := not_of_rest _ _ _ _ p (hp ▸ hpos)
  have e' : p.val = g k := e
  exact ⟨p, e, by omega, hn, by rw [← hp, rest_of_not _ _ _ _ _ hn]⟩

/-- No segment is picked twice. -/
theorem seg_inj (j k : ℕ) (hk : k < 8) (hj : j < k) : g j ≠ g k := fun e => by
  obtain ⟨p, hp, -, hn, -⟩ := seg_top s hs hG hT M hM g hg k hk
  exact hn ⟨j, hj, hp.trans e.symm⟩

variable (i : ℕ → ℕ) (hi : Ranks s (64 * G) i)
include hi

/-- Every top entry lies in a picked segment. -/
theorem top_in_seg (k : ℕ) (hk : k < 8) : ∃ j, j < 8 ∧ i k / 64 = g j := by
  by_contra hno
  push Not at hno
  obtain ⟨hikN, hik⟩ := hi k hk
  -- each picked segment holds an entry before the `k`-th
  have hex : ∀ j : Fin 8, ∃ n, n / 64 = g j.val ∧ ∃ l : Fin k, n = i l.val := by
    intro j
    obtain ⟨p, hp, hpG, hn, hmax⟩ := seg_top s hs hG hT M hM g hg j.val j.isLt
    let K : Fin T := ⟨i k / 64, by omega⟩
    have hK : rest (fun t : Fin T => t.val) M g j.val K = M K :=
      rest_of_not _ _ _ _ _ fun ⟨l, hl, e⟩ => hno l (by omega) e
    have hle : M K ≤ M p := by rw [hmax, ← hK]; exact le_iSup _ K
    have hKG : K.val < G := show i k / 64 < G by omega
    have hsK : s (i k) ≤ M K := by
      rw [hM K, if_pos hKG]
      refine le_trans (le_of_eq ?_) (le_iSup (fun j : Fin 64 => s (64 * K.val + j.val)) ⟨i k % 64, Nat.mod_lt _ (by omega)⟩)
      show s (i k) = s (64 * (i k / 64) + i k % 64)
      rw [Nat.div_add_mod]
    obtain ⟨u, hu⟩ : ∃ u : Fin 64, s (64 * p.val + u.val) = ⨆ j : Fin 64, s (64 * p.val + j.val) :=
      exists_eq_ciSup_of_finite
    have hMp : M p = s (64 * p.val + u.val) := by rw [hM p, if_pos hpG, hu]
    have hdiv : (64 * p.val + u.val) / 64 = p.val := by omega
    refine ⟨64 * p.val + u.val, by rw [hdiv, hp], ?_⟩
    have hb : beats s (64 * p.val + u.val) (i k) := by
      rcases lt_or_eq_of_le (hsK.trans (hle.trans hMp.le)) with h | h
      · exact .inl h
      · refine .inr ⟨h.symm, ?_⟩
        have hMK : rest (fun t : Fin T => t.val) M g j.val K = ⨆ q, rest (fun t : Fin T => t.val) M g j.val q := by
          rw [hK, ← hmax]
          exact le_antisymm hle (by rw [hMp, ← h]; exact hsK)
        have h1 : g j.val ≤ i k / 64 := (hg j.val j.isLt).2 K hMK
        have h2 := hno j.val j.isLt
        omega
    obtain ⟨l, hl, e⟩ := (hik _ (by omega)).mp hb
    exact ⟨⟨l, hl⟩, e⟩
  choose n hn l hl using hex
  have hinj : Function.Injective l := fun a b hab => by
    have e : g a.val = g b.val := by rw [← hn a, ← hn b, hl a, hl b, hab]
    by_contra hne
    rcases lt_or_gt_of_ne (fun h => hne (Fin.ext h) : a.val ≠ b.val) with h | h
    · exact seg_inj s hs hG hT M hM g hg a.val b.val b.isLt h e
    · exact seg_inj s hs hG hT M hM g hg b.val a.val a.isLt h e.symm
  have := Fintype.card_le_of_injective l hinj
  simp only [Fintype.card_fin] at this
  omega

/-- The candidates: the entries of the eight picked segments. -/
def cand (g : ℕ → ℕ) (p : Fin 512) : ℕ := 64 * g (p.val / 64) + p.val % 64

/-- The picks among the candidates are the top entries, and each round's greatest value is the entry's score. -/
theorem picks_eq (h : ℕ → ℕ) (hh : Picks (cand g) (fun p => s (cand g p)) h) (k : ℕ) (hk : k < 8) :
    h k = i k ∧ (⨆ p, rest (cand g) (fun p => s (cand g p)) h k p) = s (i k) := by
  induction k using Nat.strong_induction_on with
  | _ k ih =>
    obtain ⟨hikN, hik⟩ := hi k hk
    have hrest : rest (cand g) (fun p => s (cand g p)) h k = rest (cand g) (fun p => s (cand g p)) i k := by
      funext p
      refine if_congr ⟨?_, ?_⟩ rfl rfl
      · rintro ⟨j, hj, e⟩
        exact ⟨j, hj, e.trans (ih j hj (by omega)).1⟩
      · rintro ⟨j, hj, e⟩
        exact ⟨j, hj, e.trans (ih j hj (by omega)).1.symm⟩
    obtain ⟨j, hj, ej⟩ := top_in_seg s hs hG hT M hM g hg i hi k hk
    let p₀ : Fin 512 := ⟨64 * j + i k % 64, by omega⟩
    have hp₀ : cand g p₀ = i k := by
      have h1 : (64 * j + i k % 64) / 64 = j := by omega
      have h2 : (64 * j + i k % 64) % 64 = i k % 64 := by omega
      show 64 * g ((64 * j + i k % 64) / 64) + (64 * j + i k % 64) % 64 = i k
      rw [h1, h2, ← ej, Nat.div_add_mod]
    have hcN : ∀ p : Fin 512, cand g p < 64 * G := fun p => by
      obtain ⟨q, hq, hqG, -⟩ := seg_top s hs hG hT M hM g hg (p.val / 64) (by omega)
      unfold cand
      omega
    have hself : ¬∃ j, j < k ∧ cand g p₀ = i j := fun hc => by
      rw [hp₀] at hc
      exact not_beats_self s (i k) ((hik _ hikN).mpr hc)
    have hv₀ : rest (cand g) (fun p => s (cand g p)) i k p₀ = s (i k) := by
      rw [rest_of_not _ _ _ _ _ hself, hp₀]
    have hub : ∀ p, rest (cand g) (fun p => s (cand g p)) i k p ≤ s (i k) := fun p => by
      by_cases hp : ∃ j, j < k ∧ cand g p = i j
      · unfold rest
        rw [if_pos hp]
        exact bot_le
      · rw [rest_of_not _ _ _ _ _ hp]
        by_contra hlt
        exact hp ((hik _ (hcN p)).mp (.inl (not_le.mp hlt)))
    have hsup : (⨆ p, rest (cand g) (fun p => s (cand g p)) i k p) = s (i k) :=
      le_antisymm (iSup_le hub) (hv₀ ▸ le_iSup _ p₀)
    have hpick := hh k hk
    rw [hrest] at hpick ⊢
    refine ⟨?_, hsup⟩
    obtain ⟨⟨p, hp, e⟩, hmin⟩ := hpick
    have h1 : h k ≤ i k := by rw [← hp₀]; exact hmin p₀ (hv₀.trans hsup.symm)
    have hnot := not_of_rest (cand g) (fun p => s (cand g p)) i k p (by rw [hp, hsup]; exact hs _ hikN)
    have hval : s (cand g p) = s (i k) := by
      rw [← hsup, ← hp, rest_of_not _ _ _ _ _ hnot]
    have h2 : ¬cand g p < i k := fun hlt => hnot ((hik _ (hcN p)).mp (.inr ⟨hval, hlt⟩))
    omega

end Segments

end Cert.KernelIdeal.Val

end
-- ==== Proof.Rounds.lean ====
/- One round of picking, as the kernels print it: the largest score, then the smallest label of a score that large. -/
module

public import proofs.«01_k».proof.Proof.Run1
public import proofs.«01_k».proof.Proof.Run2
public import proofs.«01_k».proof.Proof.Picks
public import Idealize.ShloMosaic.Lib.Pointwise
public import Idealize.ShloMosaic.Lib.WordArith

@[expose] public section

set_option maxRecDepth 16384

noncomputable section

namespace Cert.Math

open Cert.KernelIdeal hiding ix2 ix3
open Cert.KernelIdeal.Val
open Cert.KernelIdeal.Gen
open Idealize.ShloMosaic Idealize.ShloMosaic.TcCoe Idealize.ShloMosaic.Tactic

/-- A fold of `max` from the least element is the supremum. -/
theorem fold_max {n : ℕ} (f : Fin n → EReal) : (Finset.univ : Finset (Fin n)).fold max ⊥ f = ⨆ k, f k := by
  apply le_antisymm
  · exact (Finset.fold_max_le (c := ⨆ k, f k)).2 ⟨bot_le, fun i _ => le_iSup f i⟩
  · exact iSup_le fun i => (Finset.le_fold_max (c := f i)).2 (Or.inr ⟨i, Finset.mem_univ i, le_rfl⟩)

/-- The word of minus infinity denotes bottom. -/
theorem ofBits_bot : (FloatOps.ofBits (F := Ideal) .f32 0xFF800000#32 : EReal) = ⊥ := by
  show Ideal.ofBits .f32 0xFF800000#32 = ⊥
  simp [Ideal.ofBits, Ideal.ieee]

/-- The named masking constant denotes bottom. -/
theorem mask_bot : (Named.named (F := Ideal) (φ := .f32) κ "mask" 0xF149F2CA#32 : EReal) = ⊥ := by
  exact IdealRules.named_const.ideal_named_scalar κ "mask" (φ := .f32) _ ⊥ rfl

/-- A choice by equality of words. -/
theorem sel_eq {α : Type} (a b : BitVec 32) (u v : α) : Scalar.select (IntOp.cmpi .eq a b) u v = if a = b then u else v := by
  show (if BitVec.ofBool (a == b) = 1#1 then u else v) = _
  by_cases h : a = b
  · rw [if_pos h, h, beq_self_eq_true]; rfl
  · rw [if_neg h, beq_false_of_ne h]; rfl

/-- A signed minimum of words below half the range, from the largest of them: a lower bound that is one of them. -/
theorem fold_min {n : ℕ} (f : Fin n → BitVec 32) (hf : ∀ i, (f i).toNat < 2 ^ 31) (s : Finset (Fin n)) :
    (s.fold IntOp.minsi 2147483647#32 f).toNat < 2 ^ 31 ∧ (∀ i ∈ s, (s.fold IntOp.minsi 2147483647#32 f).toNat ≤ (f i).toNat)
      ∧ (s.fold IntOp.minsi 2147483647#32 f = 2147483647#32 ∨ ∃ i ∈ s, s.fold IntOp.minsi 2147483647#32 f = f i) := by
  induction s using Finset.induction_on with
  | empty => exact ⟨by simp, by simp, Or.inl rfl⟩
  | insert a s ha ih =>
    rw [Finset.fold_insert ha]
    obtain ⟨h1, h2, h3⟩ := ih
    have h4 := _root_.Idealize.ShloMosaic.WordArith.toNat_minsi_of_lt (f a) _ (hf a) h1
    refine ⟨by rw [h4]; have := hf a; omega, ?_, ?_⟩
    · intro i hi
      rw [h4]
      rcases Finset.mem_insert.1 hi with rfl | hi
      · exact min_le_left _ _
      · exact (min_le_right _ _).trans (h2 i hi)
    · rcases le_total (f a).toNat (s.fold IntOp.minsi 2147483647#32 f).toNat with h | h
      · rw [min_eq_left h] at h4
        exact Or.inr ⟨a, Finset.mem_insert_self _ _, BitVec.eq_of_toNat_eq h4⟩
      · rw [min_eq_right h] at h4
        have h5 := BitVec.eq_of_toNat_eq h4
        rw [h5]
        rcases h3 with h3 | ⟨i, hi, h3⟩
        · exact Or.inl h3
        · exact Or.inr ⟨i, Finset.mem_insert_of_mem hi, h3⟩

/-- The smallest label among the largest scores, as a fold of words, is the pick. -/
theorem fold_isPick {n : ℕ} (hn : 0 < n) (x : Fin n → EReal) (lab : Fin n → BitVec 32) (hl : ∀ i, (lab i).toNat < 1073741824) :
    IsPick (fun p => (lab p).toNat) x
      ((Finset.univ : Finset (Fin n)).fold IntOp.minsi 2147483647#32 (fun p => if x p = ⨆ q, x q then lab p else 1073741824#32)).toNat := by
  haveI : Nonempty (Fin n) := ⟨⟨0, hn⟩⟩
  obtain ⟨p0, hp0⟩ := exists_eq_ciSup_of_finite (f := x)
  have hf : ∀ i, ((fun p => if x p = ⨆ q, x q then lab p else 1073741824#32) i).toNat < 2 ^ 31 := by
    intro i
    dsimp only
    split
    · have := hl i; omega
    · simp
  obtain ⟨-, h2, h3⟩ := fold_min _ hf Finset.univ
  have h4 : ∀ p, x p = ⨆ q, x q → ((Finset.univ : Finset (Fin n)).fold IntOp.minsi 2147483647#32
      (fun p => if x p = ⨆ q, x q then lab p else 1073741824#32)).toNat ≤ (lab p).toNat := by
    intro p hp
    have := h2 p (Finset.mem_univ p)
    rwa [if_pos hp] at this
  refine ⟨?_, h4⟩
  have h5 := h4 p0 hp0
  have h6 := hl p0
  rcases h3 with h3 | ⟨i, -, h3⟩
  · rw [h3] at h5; simp at h5; omega
  · by_cases hi : x i = ⨆ q, x q
    · refine ⟨i, hi, ?_⟩
      rw [h3, if_pos hi]
    · rw [if_neg hi] at h3
      rw [h3] at h5; simp at h5; omega

/-! ## The second kernel's rounds -/

/-- The largest score of every column. -/
def max1 (x : FVec Ideal S15744x64 .f32) : FVec Ideal S1x64 .f32 :=
  shapeCast S1x64 (multiReduction .maximumf [0] S64 x 0xFF800000#32 reduces_S15744x64_S64 (.inl rfl) rfl) shapeCasts_S64_S1x64
/-- The smallest row number of a largest score, column by column. -/
def pick1 (x : FVec Ideal S15744x64 .f32) : IVec S1x64 32 :=
  shapeCast S1x64 (multiReductionI .minsi [0] S64 (select (cmpf .oeq x (broadcastTo S15744x64 (max1 x) broadcasts_S1x64_S15744x64)) rows1
    (broadcast S15744x64 1073741824#32)) 2147483647#32 reduces_S15744x64_S64 rfl) shapeCasts_S64_S1x64
/-- The scores with the picked rows struck out. -/
def next1 (x : FVec Ideal S15744x64 .f32) : FVec Ideal S15744x64 .f32 :=
  select (cmpi .eq rows1 (broadcastTo S15744x64 (pick1 x) broadcasts_S1x64_S15744x64))
    (broadcast S15744x64 (Named.named (F := Ideal) (φ := .f32) κ "mask" 0xF149F2CA#32)) x
/-- The scores after `k` rounds. -/
def left1 (x : FVec Ideal S15744x64 .f32) : ℕ → FVec Ideal S15744x64 .f32
  | 0 => x
  | k + 1 => next1 (left1 x k)

/-- The column maximum is the supremum of the column. -/
theorem max1_apply (x : FVec Ideal S15744x64 .f32) (j : S1x64.Idx) : max1 x j = ⨆ k : Fin 15744, x (ix2 k (j 1)) := by
  rw [← fold_max, ← ofBits_bot]
  unfold max1
  idx_vars j
  simp only [pointwise]
/-- The label picked in a column, written out entry by entry. -/
theorem pick1_apply (x : FVec Ideal S15744x64 .f32) (j : S1x64.Idx) : pick1 x j =
    (Finset.univ : Finset (Fin 15744)).fold IntOp.minsi 2147483647#32 (fun p => if x (ix2 p (j 1)) = ⨆ q : Fin 15744, x (ix2 q (j 1)) then BitVec.ofNat 32 p.val else 1073741824#32) := by
  unfold pick1
  rw [show max1 x = fun j => ⨆ k : Fin 15744, x (ix2 k (j 1)) from funext (max1_apply x)]
  idx_vars j
  simp only [pointwise, List.foldl_cons, List.foldl_nil, zero_mul, zero_add]
  rfl
/-- What a first-stage round leaves: the picked place is masked, every other place is kept. -/
theorem next1_apply (x : FVec Ideal S15744x64 .f32) (p : Fin 15744) (r : Fin 64) : next1 x (ix2 p r) =
    if BitVec.ofNat 32 p.val = pick1 x (ix2 0 r) then ⊥ else x (ix2 p r) := by
  rw [← mask_bot]
  unfold next1
  simp only [pointwise, List.foldl_cons, List.foldl_nil, zero_mul, zero_add]
  show Scalar.select (IntOp.cmpi .eq (BitVec.ofNat 32 p.val) (pick1 x (ix2 0 r))) _ _ = _
  exact sel_eq _ _ _ _

/-- The second kernel's eight picks of a column are picks, one round a pick. -/
theorem picks1 (x : FVec Ideal S15744x64 .f32) (r : Fin 64) :
    Picks (fun t : Fin 15744 => t.val) (fun t => x (ix2 t r)) (fun k => (pick1 (left1 x k) (ix2 0 r)).toNat) := by
  have hv : ∀ p : Fin 15744, (BitVec.ofNat 32 p.val).toNat = p.val := fun p => by
    have := p.isLt
    rw [BitVec.toNat_ofNat, Nat.mod_eq_of_lt (by omega)]
  have hl : ∀ k, (fun t : Fin 15744 => left1 x k (ix2 t r)) = rest (fun t : Fin 15744 => t.val) (fun t => x (ix2 t r)) (fun k => (pick1 (left1 x k) (ix2 0 r)).toNat) k := by
    intro k
    induction k with
    | zero => rw [rest_zero]; rfl
    | succ k ih =>
      rw [rest_succ, ← ih]
      funext t
      show next1 (left1 x k) (ix2 t r) = _
      rw [next1_apply]
      have : (BitVec.ofNat 32 t.val = pick1 (left1 x k) (ix2 0 r)) ↔ t.val = (pick1 (left1 x k) (ix2 0 r)).toNat := by
        rw [← BitVec.toNat_inj, hv]
      simp only [this]
  intro k _
  rw [← hl k]
  have h := fold_isPick (n := 15744) (by omega) (fun t => left1 x k (ix2 t r)) (fun t => BitVec.ofNat 32 t.val) (fun t => by rw [hv]; have := t.isLt; omega)
  simp only [hv] at h
  show IsPick _ _ (pick1 (left1 x k) (ix2 0 r)).toNat
  rw [pick1_apply]
  exact h

/-! ## The third kernel's rounds -/

/-- The row maximum is the supremum of the row. -/
theorem max2_apply (x : FVec Ideal S1x512 .f32) (j : S1x1.Idx) : max2 x j = ⨆ k : Fin 512, x (ix2 0 k) := by
  rw [← fold_max, ← ofBits_bot]
  unfold max2
  idx_vars j
  simp only [pointwise]
/-- The label picked in a row, written out entry by entry. -/
theorem pick2_apply (c : IVec S1x512 32) (x : FVec Ideal S1x512 .f32) (j : S1x1.Idx) : pick2 c x j =
    (Finset.univ : Finset (Fin 512)).fold IntOp.minsi 2147483647#32 (fun p => if x (ix2 0 p) = ⨆ q : Fin 512, x (ix2 0 q) then c (ix2 0 p) else 1073741824#32) := by
  unfold pick2
  rw [show max2 x = fun j => ⨆ k : Fin 512, x (ix2 0 k) from funext (max2_apply x)]
  idx_vars j
  simp only [pointwise]
/-- What a second-stage round leaves: places with the picked label are masked, every other place is kept. -/
theorem next2_apply (c : IVec S1x512 32) (x : FVec Ideal S1x512 .f32) (p : Fin 512) : next2 c x (ix2 0 p) =
    if c (ix2 0 p) = pick2 c x (ix2 0 0) then ⊥ else x (ix2 0 p) := by
  rw [← mask_bot]
  unfold next2
  simp only [pointwise]
  show Scalar.select (IntOp.cmpi .eq (c (ix2 0 p)) (pick2 c x (ix2 0 0))) _ _ = _
  exact sel_eq _ _ _ _

/-- The third kernel's eight picks are picks among the candidates' labels. -/
theorem picks2 (c : IVec S1x512 32) (x : FVec Ideal S1x512 .f32) (hc : ∀ p, (c (ix2 0 p)).toNat < 1073741824) :
    Picks (fun p : Fin 512 => (c (ix2 0 p)).toNat) (fun p => x (ix2 0 p)) (fun k => (pick2 c (left2 c x k) (ix2 0 0)).toNat)
    ∧ ∀ k, (fun p : Fin 512 => left2 c x k (ix2 0 p)) = rest (fun p : Fin 512 => (c (ix2 0 p)).toNat) (fun p => x (ix2 0 p)) (fun k => (pick2 c (left2 c x k) (ix2 0 0)).toNat) k := by
  have hl : ∀ k, (fun p : Fin 512 => left2 c x k (ix2 0 p)) = rest (fun p : Fin 512 => (c (ix2 0 p)).toNat) (fun p => x (ix2 0 p)) (fun k => (pick2 c (left2 c x k) (ix2 0 0)).toNat) k := by
    intro k
    induction k with
    | zero => rw [rest_zero]; rfl
    | succ k ih =>
      rw [rest_succ, ← ih]
      funext t
      show next2 c (left2 c x k) (ix2 0 t) = _
      rw [next2_apply]
      simp only [← BitVec.toNat_inj]
  refine ⟨?_, hl⟩
  intro k _
  rw [← hl k]
  have h := fold_isPick (n := 512) (by omega) (fun t => left2 c x k (ix2 0 t)) (fun t => c (ix2 0 t)) hc
  show IsPick _ _ (pick2 c (left2 c x k) (ix2 0 0)).toNat
  rw [pick2_apply]
  exact h

/-- The third kernel's largest score of round `k`. -/
theorem max2_left (c : IVec S1x512 32) (x : FVec Ideal S1x512 .f32) (hc : ∀ p, (c (ix2 0 p)).toNat < 1073741824) (k : ℕ) (j : S1x1.Idx) :
    max2 (left2 c x k) j = ⨆ p, rest (fun p : Fin 512 => (c (ix2 0 p)).toNat) (fun p => x (ix2 0 p)) (fun k => (pick2 c (left2 c x k) (ix2 0 0)).toNat) k p := by
  rw [max2_apply, ← (picks2 c x hc).2 k]

/-! ## The second kernel's payloads, as rounds -/

/-- This step of the first-stage kernel picks a label from the scores left. -/
theorem k1p3 (x : Vec Ideal S15744x64 .f32) : k1_pay3 x = pick1 (k1_pay2 x) := rfl
/-- This step of the first-stage kernel masks the label just picked. -/
theorem k1p4 (x : Vec Ideal S15744x64 .f32) : k1_pay4 x = next1 (k1_pay2 x) := rfl
/-- This step of the first-stage kernel picks a label from the scores left. -/
theorem k1p5 (x : Vec Ideal S15744x64 .f32) : k1_pay5 x = pick1 (k1_pay4 x) := rfl
/-- This step of the first-stage kernel masks the label just picked. -/
theorem k1p6 (x : Vec Ideal S15744x64 .f32) : k1_pay6 x = next1 (k1_pay4 x) := rfl
/-- This step of the first-stage kernel picks a label from the scores left. -/
theorem k1p7 (x : Vec Ideal S15744x64 .f32) : k1_pay7 x = pick1 (k1_pay6 x) := rfl
/-- This step of the first-stage kernel masks the label just picked. -/
theorem k1p8 (x : Vec Ideal S15744x64 .f32) : k1_pay8 x = next1 (k1_pay6 x) := rfl
/-- This step of the first-stage kernel picks a label from the scores left. -/
theorem k1p11 (x : Vec Ideal S15744x64 .f32) : k1_pay11 rows1 (k1_pay9 x) k1_pay10 = pick1 (k1_pay8 x) := rfl
/-- This step of the first-stage kernel masks the label just picked. -/
theorem k1p12 (x : Vec Ideal S15744x64 .f32) : k1_pay12 rows1 (k1_pay8 x) (k1_pay9 x) k1_pay10 = next1 (k1_pay8 x) := rfl
/-- This step of the first-stage kernel picks a label from the scores left. -/
theorem k1p13 (v : FVec Ideal S15744x64 .f32) (m : IVec S15744x64 1) (b : IVec S15744x64 32) : k1_pay13 rows1 v m b = pick1 (k1_pay12 rows1 v m b) := rfl
/-- This step of the first-stage kernel masks the label just picked. -/
theorem k1p14 (v : FVec Ideal S15744x64 .f32) (m : IVec S15744x64 1) (b : IVec S15744x64 32) : k1_pay14 rows1 v m b = next1 (k1_pay12 rows1 v m b) := rfl
/-- This step of the first-stage kernel picks a label from the scores left. -/
theorem k1p15 (v : FVec Ideal S15744x64 .f32) (m : IVec S15744x64 1) (b : IVec S15744x64 32) : k1_pay15 rows1 v m b = pick1 (k1_pay14 rows1 v m b) := rfl
/-- This step of the first-stage kernel masks the label just picked. -/
theorem k1p16 (v : FVec Ideal S15744x64 .f32) (m : IVec S15744x64 1) (b : IVec S15744x64 32) : k1_pay16 rows1 v m b = next1 (k1_pay14 rows1 v m b) := rfl
/-- This step of the first-stage kernel picks a label from the scores left. -/
theorem k1p17 (v : FVec Ideal S15744x64 .f32) (m : IVec S15744x64 1) (b : IVec S15744x64 32) : k1_pay17 rows1 v m b = pick1 (k1_pay16 rows1 v m b) := rfl
/-- This step of the first-stage kernel masks the label just picked. -/
theorem k1p18 (v : FVec Ideal S15744x64 .f32) (m : IVec S15744x64 1) (b : IVec S15744x64 32) : k1_pay18 rows1 v m b = next1 (k1_pay16 rows1 v m b) := rfl
/-- This step of the first-stage kernel takes the maxima of the scores left. -/
theorem k1p19 (v : FVec Ideal S15744x64 .f32) (m : IVec S15744x64 1) (b : IVec S15744x64 32) : k1_pay19 rows1 v m b = max1 (k1_pay18 rows1 v m b) := rfl
/-- The last step of the first-stage kernel stacks the seven earlier picks and the eighth. -/
theorem k1p1 (a b c d e f g : IVec S1x64 32) (v : FVec Ideal S15744x64 .f32) : k1_pay1 rows1 a b c d e f g v (max1 v) =
    concatenate S8x64 0 [⟨S1x64, a⟩, ⟨S1x64, b⟩, ⟨S1x64, c⟩, ⟨S1x64, d⟩, ⟨S1x64, e⟩, ⟨S1x64, f⟩, ⟨S1x64, g⟩, ⟨S1x64, pick1 v⟩] concatenates_S1x64_S1x64_S1x64_S1x64_S1x64_S1x64_S1x64_S1x64_S8x64_d0 := rfl

/-- The second kernel's output: the eight rounds' picks, one row a round. -/
theorem out1_eq (x : Vec Ideal S15744x64 .f32) : out1 x =
    concatenate S8x64 0 [⟨S1x64, pick1 (left1 (k1_pay2 x) 0)⟩, ⟨S1x64, pick1 (left1 (k1_pay2 x) 1)⟩, ⟨S1x64, pick1 (left1 (k1_pay2 x) 2)⟩, ⟨S1x64, pick1 (left1 (k1_pay2 x) 3)⟩, ⟨S1x64, pick1 (left1 (k1_pay2 x) 4)⟩, ⟨S1x64, pick1 (left1 (k1_pay2 x) 5)⟩, ⟨S1x64, pick1 (left1 (k1_pay2 x) 6)⟩, ⟨S1x64, pick1 (left1 (k1_pay2 x) 7)⟩] concatenates_S1x64_S1x64_S1x64_S1x64_S1x64_S1x64_S1x64_S1x64_S8x64_d0 := by
  unfold out1
  rw [k1p19, k1p1, k1p18, k1p17, k1p16, k1p15, k1p14, k1p13, k1p12, k1p11, k1p8, k1p7, k1p6, k1p5, k1p4, k1p3]
  rfl

/-- Eight rows one under the other, read at a row. -/
theorem rows8 {α : Type} (f : Fin 8 → S1x64.Idx → α) (h) (k : Fin 8) (r : Fin 64) :
    concatenate S8x64 0 (List.ofFn fun n : Fin 8 => (⟨S1x64, f n⟩ : (s : Shape) × (s.Idx → α))) h (ix2 k r) = f k (ix2 0 r) := by
  refine concatenate_ofFn_apply (t := S8x64) (s₁ := S1x64) 0 f h rfl 1 rfl (ix2 k r) k (Nat.div_one _) (ix2 0 r) (Nat.mod_one _).symm ?_
  intro b hb
  fin_cases b
  · exact absurd rfl hb
  · rfl
/-- Eight entries one after the other, read at an entry. -/
theorem cols8 {α : Type} (f : Fin 8 → S1x1.Idx → α) (h) (k : Fin 8) :
    concatenate S1x8 1 (List.ofFn fun n : Fin 8 => (⟨S1x1, f n⟩ : (s : Shape) × (s.Idx → α))) h (ix2 0 k) = f k (ix2 0 0) := by
  refine concatenate_ofFn_apply (t := S1x8) (s₁ := S1x1) 1 f h rfl 1 rfl (ix2 0 k) k (Nat.div_one _) (ix2 0 0) (Nat.mod_one _).symm ?_
  intro b hb
  fin_cases b
  · rfl
  · exact absurd rfl hb
/-- Eight stretches of 64 entries one after the other, read at an entry. -/
theorem cols512 {α : Type} (f : Fin 8 → S1x64.Idx → α) (h) (p : Fin 512) :
    concatenate S1x512 1 (List.ofFn fun n : Fin 8 => (⟨S1x64, f n⟩ : (s : Shape) × (s.Idx → α))) h (ix2 0 p)
      = f ⟨p.val / 64, by have := p.isLt; omega⟩ (ix2 0 ⟨p.val % 64, by omega⟩) := by
  refine concatenate_ofFn_apply (t := S1x512) (s₁ := S1x64) 1 f h rfl 64 rfl (ix2 0 p) ⟨p.val / 64, by have := p.isLt; omega⟩ rfl (ix2 0 ⟨p.val % 64, by omega⟩) rfl ?_
  intro b hb
  fin_cases b
  · rfl
  · exact absurd rfl hb
/-- Eight stretches of 64 rows one under the other, read at an entry. -/
theorem rows512 {α : Type} (f : Fin 8 → S64x64.Idx → α) (h) (p : Fin 512) (d : Fin 64) :
    concatenate S512x64 0 (List.ofFn fun n : Fin 8 => (⟨S64x64, f n⟩ : (s : Shape) × (s.Idx → α))) h (ix2 p d)
      = f ⟨p.val / 64, by have := p.isLt; omega⟩ (ix2 ⟨p.val % 64, by omega⟩ d) := by
  refine concatenate_ofFn_apply (t := S512x64) (s₁ := S64x64) 0 f h rfl 64 rfl (ix2 p d) ⟨p.val / 64, by have := p.isLt; omega⟩ rfl (ix2 ⟨p.val % 64, by omega⟩ d) rfl ?_
  intro b hb
  fin_cases b
  · exact absurd rfl hb
  · rfl

/-- Row `k` of the first-stage output holds the labels picked in round `k`. -/
theorem out1_apply (x : FVec Ideal S15744x64 .f32) (k : Fin 8) (r : Fin 64) : out1 x (ix2 k r) = pick1 (left1 x k.val) (ix2 0 r) := by
  rw [out1_eq, show k1_pay2 x = x from shapeCast_self _ _]
  exact rows8 (fun n => pick1 (left1 x n.val)) _ k r
/-- Reading a 1 by 8 array as 1 by 1 by 8 keeps the last coordinate. -/
theorem cast118 {α : Type} (x : S1x8.Idx → α) (h) (k : Fin 8) : shapeCast S1x1x8 x h (ix3 0 0 k) = x (ix2 0 k) := by
  simp only [pointwise]
/-- Entry `k` of the label row is the label picked in round `k`. -/
theorem out2a_apply (c : IVec S1x512 32) (x : FVec Ideal S1x512 .f32) (k : Fin 8) : out2a c x (ix3 0 0 k) = pick2 c (left2 c x k.val) (ix2 0 0) := by
  unfold out2a k2_pay1
  rw [cast118]
  exact cols8 (fun n => pick2 c (left2 c x n.val)) concatenates_S1x1_S1x1_S1x1_S1x1_S1x1_S1x1_S1x1_S1x1_S1x8_d1 k

end Cert.Math

end
-- ==== Proof.Keys0.lean ====
/- The first kernel: the largest score of each stretch of 64 keys, whatever lies past the keys' end. -/
module

public import proofs.«01_k».proof.Proof.Rounds
public import proofs.«01_k».proof.Proof.Stages

@[expose] public section

set_option maxRecDepth 16384

noncomputable section

namespace Cert.Math

open Cert.KernelIdeal hiding ix2 ix3
open Cert.KernelIdeal.Val
open Cert.KernelIdeal.Gen
open Idealize.ShloMosaic Idealize.ShloMosaic.TcCoe Idealize.ShloMosaic.Tactic
open Idealize.ShloMosaic.Pipeline (Dat Cfg Window)
/-- The maximum over the middle axis is the supremum over its 64 entries. -/
theorem red0 (v : FVec Ideal S128x64x64 .f32) (a : Fin 128) (r : Fin 64) :
    multiReduction .maximumf [1] S128x64 v 0xFF800000#32 reduces_S128x64x64_S128x64 (.inl rfl) rfl (ix2 a r) = ⨆ k : Fin 64, v (ix3 a k r) := by
  rw [← fold_max, ← ofBits_bot]
  simp only [pointwise]
/-- Reading 8192 rows as 128 groups of 64 puts row `64 * a + k` in place `k` of group `a`. -/
theorem cast0a {α : Type} (v : S8192x64.Idx → α) (h) (a : Fin 128) (k r : Fin 64) :
    shapeCast S128x64x64 v h (ix3 a k r) = v (ix2 ⟨64 * a.val + k.val, by have := a.isLt; have := k.isLt; omega⟩ r) := by
  simp only [pointwise]
  congr 2
  simp only [Fin.mk.injEq]
  omega
/-- Reading 1024 groups of eight keys as 8192 rows splits the row number by eight. -/
theorem cast0b {α : Type} (v : S1024x8x64.Idx → α) (h) (q : Fin 8192) (d : Fin 64) :
    shapeCast S8192x64 v h (ix2 q d) = v (ix3 ⟨q.val / 8, by have := q.isLt; omega⟩ ⟨q.val % 8, by omega⟩ d) := by
  simp only [pointwise]
/-- Entry `(q, r)` of the product is the inner product of key `q` with query `r`. -/
theorem dot0_apply (A : FVec Ideal S8192x64 .f32) (B : FVec Ideal S64x64 .f32) (q : Fin 8192) (r : Fin 64) :
    (matmul dot_S8192x64_S64x64_S8192x64_1_0_0_1_n_n none A B (constant (F := Ideal) S8192x64 .f32 0x00000000#32) (ix2 q r) : EReal) = ∑ d : Fin 64, A (ix2 q d) * B (ix2 d r) := by
  simp only [pointwise, zero_add]

/-- A block's largest scores, of every 64 keys. -/
theorem pay1_apply (x1 : Vec Ideal S1024x8x64 .f32) (x0 : Vec Ideal S64x64 .f32) (a : Fin 128) (r : Fin 64) :
    (k0_pay1 x1 x0 (ix2 a r) : EReal) = ⨆ j : Fin 64, ∑ d : Fin 64, (x1 (ix3 ⟨(64 * a.val + j.val) / 8, by have := a.isLt; have := j.isLt; omega⟩ ⟨(64 * a.val + j.val) % 8, by omega⟩ d) : EReal) * x0 (ix2 d r) := by
  unfold k0_pay1
  rw [red0]
  refine iSup_congr fun j => ?_
  rw [cast0a, dot0_apply]
  refine Finset.sum_congr rfl fun d _ => ?_
  rw [cast0b, shapeCast_self, shapeCast_self]

/-- The rows past the last stretch are told by their number. -/
theorem past0 : ∀ a : Fin 128, (Scalar.select (IntOp.cmpi .sge (IntOp.addi (Scalar.muli (BitVec.ofNat 32 122) 128#32) (BitVec.ofNat 32 a.val)) 15625#32) false true) = decide (128 * 122 + a.val < 15625) := by decide +kernel

/-- Entry `(a, r)` of the output block is the largest score of query `r` over segment `a`, with keys past the end masked. -/
theorem out0_apply (i : grid0.Coords) (x1 : Vec Ideal S1024x8x64 .f32) (x0 : Vec Ideal S64x64 .f32) (a : Fin 128) (r : Fin 64) :
    (out0 i x1 x0 (ix2 a r) : EReal) = if 128 * (i 0).val + a.val < 15625 then
      ⨆ j : Fin 64, ∑ d : Fin 64, (x1 (ix3 ⟨(64 * a.val + j.val) / 8, by have := a.isLt; have := j.isLt; omega⟩ ⟨(64 * a.val + j.val) % 8, by omega⟩ d) : EReal) * x0 (ix2 d r) else ⊥ := by
  have hi : (i 0).val < 123 := (i 0).isLt
  have ha := a.isLt
  unfold out0
  split
  · rename_i h
    have e : k0_pay2 i x1 x0 (ix2 a r) = Scalar.select (IntOp.cmpi .sge (IntOp.addi (Scalar.muli (BitVec.ofNat 32 (i 0).val) 128#32) (BitVec.ofNat 32 a.val)) 15625#32)
        (Named.named (F := Ideal) (φ := .f32) κ "mask" 0xF149F2CA#32) (k0_pay1 x1 x0 (ix2 a r)) := by
      unfold k0_pay2
      simp only [pointwise, List.foldl_cons, List.foldl_nil, zero_mul, zero_add]
    rw [e, mask_bot, ← pay1_apply, h]
    have p := past0 a
    by_cases hh : 128 * 122 + a.val < 15625
    · rw [decide_eq_true hh] at p
      rw [if_pos hh]
      revert p
      unfold Scalar.select
      split <;> simp
    · rw [decide_eq_false hh] at p
      rw [if_neg hh]
      revert p
      unfold Scalar.select
      split <;> simp
  · rename_i h
    rw [if_pos (by omega), pay1_apply]

/-- The key block of step `t` sits at block `t` and is cut short at the end of the keys. -/
theorem win0_1_at : ∀ t : Fin cfg0.N, (grid0.coords t 0).val = t.val ∧ (cfg0.win 1).index t 0 = t.val ∧ (cfg0.win 1).index t 1 = 0 ∧ (cfg0.win 1).index t 2 = 0
    ∧ (cfg0.win 1).xsize (cfg0.grid.coords t) 0 = min 1024 (125000 - 1024 * t.val) ∧ (cfg0.win 1).xsize (cfg0.grid.coords t) 1 = 8 ∧ (cfg0.win 1).xsize (cfg0.grid.coords t) 2 = 64 := by decide +kernel
/-- The query block sits at the origin in every step. -/
theorem win0_0_at : ∀ t : Fin cfg0.N, (cfg0.win 0).index t 0 = 0 ∧ (cfg0.win 0).index t 1 = 0 := by decide +kernel
/-- The output block of step `t` sits at block `t` and is written in full. -/
theorem win0_2_at : ∀ t : Fin cfg0.N, (cfg0.win 2).index t 0 = t.val ∧ (cfg0.win 2).index t 1 = 0 ∧ (cfg0.win 2).xsize (cfg0.grid.coords t) 0 = 128 ∧ (cfg0.win 2).xsize (cfg0.grid.coords t) 1 = 64 := by decide +kernel

/-- A key row the point finds, where it lies within the keys. -/
theorem fill0 (W : Valuation τ sig (Elt Ideal)) (c : Dev nD) (t : Fin cfg0.N) (d : S1024x8x64.Idx → EReal) (b : Fin 1024) (e : Fin 8) (k : Fin 64) (h : 1024 * t.val + b.val < 125000) :
    ((cfg0.win 1).fill (cfg0.grid.coords t) d (iblk0 W c 1 t) : S1024x8x64.Idx → EReal) (ix3 b e k) = (W main_v2 : S125000x8x64.Idx → EReal) (ix3 ⟨1024 * t.val + b.val, h⟩ e k) := by
  obtain ⟨-, i0, i1, i2, s0, s1, s2⟩ := win0_1_at t
  have hm : (cfg0.win 1).moved (cfg0.grid.coords t) (ix3 b e k) = true := by
    rw [Window.moved_iff]
    intro a
    match a with
    | ⟨0, _⟩ => refine lt_of_lt_of_eq (b := min 1024 (125000 - 1024 * t.val)) ?_ s0.symm; show b.val < _; have := b.isLt; omega
    | ⟨1, _⟩ => refine lt_of_lt_of_eq (b := 8) ?_ s1.symm; exact e.isLt
    | ⟨2, _⟩ => refine lt_of_lt_of_eq (b := 64) ?_ s2.symm; exact k.isLt
  unfold Window.fill
  rw [dif_pos hm]
  refine congrArg (W main_v2 : S125000x8x64.Idx → EReal) (funext fun a => Fin.ext ?_)
  refine ((cfg0.win 1).rect_emb_val t _ a).trans ?_
  match a with
  | ⟨0, _⟩ => show (cfg0.win 1).index t 0 * 1024 + b.val = 1024 * t.val + b.val; rw [i0]; omega
  | ⟨1, _⟩ => show (cfg0.win 1).index t 1 * 8 + e.val = e.val; rw [i1]; omega
  | ⟨2, _⟩ => show (cfg0.win 1).index t 2 * 64 + k.val = k.val; rw [i2]; omega
/-- The query block of each step is the whole array of transposed queries. -/
theorem q0 (W : Valuation τ sig (Elt Ideal)) (c : Dev nD) (t : Fin cfg0.N) (d r : Fin 64) :
    (iblk0 W c 0 t : S64x64.Idx → EReal) (ix2 d r) = (W main_v1 : S64x64.Idx → EReal) (ix2 d r) := by
  obtain ⟨i0, i1⟩ := win0_0_at t
  refine congrArg (W main_v1 : S64x64.Idx → EReal) (funext fun a => Fin.ext ?_)
  refine ((cfg0.win 0).rect_emb_val t _ a).trans ?_
  match a with
  | ⟨0, _⟩ => show (cfg0.win 0).index t 0 * 64 + d.val = d.val; rw [i0]; omega
  | ⟨1, _⟩ => show (cfg0.win 0).index t 1 * 64 + r.val = r.val; rw [i1]; omega

/-- The score of key `n` for query `r`. -/
def score (X : S125000x8x64.Idx → EReal) (Q : S64x64.Idx → EReal) (r : Fin 64) (n : ℕ) : EReal :=
  if h : n < 1000000 then ∑ d : Fin 64, X (ix3 ⟨n / 8, by omega⟩ ⟨n % 8, by omega⟩ d) * Q (ix2 d r) else ⊥

/-- What a point leaves, entry by entry, whatever its buffer held past the keys. -/
theorem out0_fill (W : Valuation τ sig (Elt Ideal)) (c : Dev nD) (t : Fin cfg0.N) (d : S1024x8x64.Idx → EReal) (a : Fin 128) (r : Fin 64) :
    (out0 (grid0.coords t) ((cfg0.win 1).fill (cfg0.grid.coords t) d (iblk0 W c 1 t)) (iblk0 W c 0 t) (ix2 a r) : EReal)
      = if 128 * t.val + a.val < 15625 then ⨆ j : Fin 64, score (W main_v2) (W main_v1) r (64 * (128 * t.val + a.val) + j.val) else ⊥ := by
  rw [out0_apply, (win0_1_at t).1]
  by_cases h : 128 * t.val + a.val < 15625
  · rw [if_pos h, if_pos h]
    refine iSup_congr fun j => ?_
    have hj := j.isLt
    have ha := a.isLt
    unfold score
    rw [dif_pos (by omega)]
    refine Finset.sum_congr rfl fun k _ => ?_
    rw [fill0 W c t d _ _ _ (by dsimp only; omega), q0]
    congr 2
    rw [ix3_inj]
    refine ⟨Fin.ext ?_, Fin.ext ?_, rfl⟩ <;> dsimp only <;> omega
  · rw [if_neg h, if_neg h]

/-- The block's contents past the keys do not matter. -/
theorem hfree (W : Valuation τ sig (Elt Ideal)) (c : Dev nD) (t : Fin cfg0.N) (d : S1024x8x64.Idx → EReal) :
    out0 (grid0.coords t) ((cfg0.win 1).fill (cfg0.grid.coords t) d (iblk0 W c 1 t)) (iblk0 W c 0 t) = out0 (grid0.coords t) (keys0 W c t) (iblk0 W c 0 t) := by
  funext j
  rw [eq_ix2 j]
  exact (out0_fill W c t d (j 0) (j 1)).trans (out0_fill W c t (fun _ => (0 : EReal)) (j 0) (j 1)).symm

/-- The largest scores of the stretches, as an array. -/
def tops (X : S125000x8x64.Idx → EReal) (Q : S64x64.Idx → EReal) : S15744x64.Idx → EReal := fun i =>
  if (i 0).val < 15625 then ⨆ j : Fin 64, score X Q (i 1) (64 * (i 0).val + j.val) else ⊥

/-- The first kernel leaves the stretches' largest scores. -/
theorem final0 (W : Valuation τ sig (Elt Ideal)) (c : Dev nD) : (dat0 W c).arrAt 2 cfg0.N = (tops (W main_v2) (W main_v1) : S15744x64.Idx → EReal) := by
  refine (dat0 W c).arrAt_eq_of_cover 2 (tops (W main_v2) (W main_v1) : S15744x64.Idx → EReal) ?_ ?_
  · intro t _
    obtain ⟨i0, i1, -, -⟩ := win0_2_at t
    show (cfg0.win 2).cut (grid0.coords t) ((dat0 W c).after 2 t) = _
    funext y
    show (out0 (grid0.coords t) (keys0 W c t) (iblk0 W c 0 t) : S128x64.Idx → EReal) _ = tops (W main_v2) (W main_v1) _
    have hy : ∀ z : S128x64.Idx, (out0 (grid0.coords t) (keys0 W c t) (iblk0 W c 0 t) : S128x64.Idx → EReal) z = if 128 * t.val + (z 0).val < 15625 then ⨆ j : Fin 64, score (W main_v2) (W main_v1) (z 1) (64 * (128 * t.val + (z 0).val) + j.val) else ⊥ := fun z => by
      conv_lhs => rw [eq_ix2 z]
      exact out0_fill W c t (fun _ => (0 : EReal)) (z 0) (z 1)
    rw [hy]
    have e0 : ((((cfg0.win 2).rect t).emb y 0 : Fin _) : ℕ) = 128 * t.val + (y 0).val := by
      refine ((cfg0.win 2).rect_emb_val t y 0).trans ?_
      show (cfg0.win 2).index t 0 * 128 + (y 0).val = _; rw [i0]; omega
    have e1 : ((((cfg0.win 2).rect t).emb y 1 : Fin _) : ℕ) = (y 1).val := by
      refine ((cfg0.win 2).rect_emb_val t y 1).trans ?_
      show (cfg0.win 2).index t 1 * 64 + (y 1).val = _; rw [i1]; omega
    show _ = if (((cfg0.win 2).rect t).emb y 0 : ℕ) < 15625 then ⨆ j : Fin 64, score (W main_v2) (W main_v1) (((cfg0.win 2).rect t).emb y 1) (64 * (((cfg0.win 2).rect t).emb y 0 : ℕ) + j.val) else ⊥
    rw [e0, show (((cfg0.win 2).rect t).emb y 1 : Fin 64) = ⟨(y 1).val, (y 1).isLt⟩ from Fin.ext e1]
    rfl
  · intro i
    have hi : ((i : S15744x64.Idx) 0).val < 15744 := ((i : S15744x64.Idx) 0).isLt
    have hi1 : ((i : S15744x64.Idx) 1).val < 64 := ((i : S15744x64.Idx) 1).isLt
    have hN : cfg0.N = 123 := N_0
    refine ⟨⟨((i : S15744x64.Idx) 0).val / 128, by omega⟩, flush0_2 _, ?_⟩
    obtain ⟨i0, i1, s0, s1⟩ := win0_2_at ⟨((i : S15744x64.Idx) 0).val / 128, by omega⟩
    generalize ht : (⟨((i : S15744x64.Idx) 0).val / 128, by omega⟩ : Fin cfg0.N) = t at *
    have hv : t.val = ((i : S15744x64.Idx) 0).val / 128 := by rw [← ht]
    show i ∈ ((View.whole main_v3).slice ((cfg0.win 2).rect t)).set
    rw [View.set_slice_whole, Rect.mem_set_unit]
    intro a
    match a with
    | ⟨0, _⟩ =>
      show (cfg0.win 2).index t 0 * 128 ≤ ((i : S15744x64.Idx) 0).val ∧ ((i : S15744x64.Idx) 0).val < (cfg0.win 2).index t 0 * 128 + (cfg0.win 2).xsize (cfg0.grid.coords t) 0
      rw [i0, s0]; omega
    | ⟨1, _⟩ =>
      show (cfg0.win 2).index t 1 * 64 ≤ ((i : S15744x64.Idx) 1).val ∧ ((i : S15744x64.Idx) 1).val < (cfg0.win 2).index t 1 * 64 + (cfg0.win 2).xsize (cfg0.grid.coords t) 1
      rw [i1, s1]; omega

end Cert.Math

end
-- ==== Proof.Cands.lean ====
/- The third kernel's candidates: their labels and scores, and the weights it leaves. -/
module

public import proofs.«01_k».proof.Proof.Rounds

@[expose] public section

set_option maxRecDepth 16384

noncomputable section

namespace Cert.Math

open Cert.KernelIdeal hiding ix2 ix3
open Cert.KernelIdeal.Val
open Cert.KernelIdeal.Gen
open Idealize.ShloMosaic Idealize.ShloMosaic.TcCoe Idealize.ShloMosaic.Tactic

/-- A candidate's label: its segment's number times 64, and its place in the segment. -/
theorem c2_apply (w : Fin 8 → BitVec 32) (hw : ∀ n, (w n).toNat < 15744) (p : Fin 512) :
    (c2 (w 0) (w 1) (w 2) (w 3) (w 4) (w 5) (w 6) (w 7) (ix2 0 p)).toNat = 64 * (w ⟨p.val / 64, by have := p.isLt; omega⟩).toNat + p.val % 64 := by
  have e := cols512 (fun n => addi (broadcast S1x64 (Scalar.muli (w n) 64#32)) (iota .tc S1x64 32 [1] iota_S1x64_d1_w32)) concatenates_S1x64_S1x64_S1x64_S1x64_S1x64_S1x64_S1x64_S1x64_S1x512_d1 p
  have e2 : c2 (w 0) (w 1) (w 2) (w 3) (w 4) (w 5) (w 6) (w 7) (ix2 0 p) = _ := e
  rw [e2]
  simp only [pointwise, List.foldl_cons, List.foldl_nil, zero_mul, zero_add]
  show ((w _) * 64#32 + BitVec.ofNat 32 (p.val % 64)).toNat = _
  have := hw ⟨p.val / 64, by have := p.isLt; omega⟩
  have h64 : p.val % 64 < 64 := Nat.mod_lt _ (by omega)
  rw [BitVec.toNat_add, BitVec.toNat_mul, BitVec.toNat_ofNat]
  simp only [BitVec.toNat_ofNat]
  generalize (w ⟨p.val / 64, _⟩).toNat = a at *
  omega

/-- Reading an 8 by 8 by 64 array as 64 by 64 splits the row number into its quotient and remainder by eight. -/
theorem castSeg {α : Type} (x : S8x8x64.Idx → α) (h) (a d : Fin 64) :
    shapeCast S64x64 x h (ix2 a d) = x (ix3 ⟨a.val / 8, by have := a.isLt; omega⟩ ⟨a.val % 8, by omega⟩ d) := by
  simp only [pointwise]
/-- Reading a 1 by 1 by 64 array as a 1 by 64 array keeps the last coordinate. -/
theorem castQ {α : Type} (x : S1x1x64.Idx → α) (h) (d : Fin 64) : shapeCast S1x64 x h (ix2 0 d) = x (ix3 0 0 d) := by
  simp only [pointwise]

/-- Entry `p` of the score row is the inner product of the query with key `p`. -/
theorem dot2_apply (Q : FVec Ideal S1x64 .f32) (K : FVec Ideal S512x64 .f32) (p : Fin 512) :
    (matmul dot_S1x64_S512x64_S1x512_1_1_0_0_n_n none Q K (constant (F := Ideal) S1x512 .f32 0x00000000#32) (ix2 0 p) : EReal) = ∑ d : Fin 64, Q (ix2 0 d) * K (ix2 p d) := by
  simp only [pointwise, zero_add]
/-- The eight segments' rows, one under the other. -/
def cat2 (x : Fin 8 → Vec Ideal S8x8x64 .f32) : FVec Ideal S512x64 .f32 :=
  concatenate S512x64 0 [⟨S64x64, shapeCast S64x64 (shapeCast S8x8x64 (x 0) shapeCasts_S8x8x64_S8x8x64) shapeCasts_S8x8x64_S64x64⟩, ⟨S64x64, shapeCast S64x64 (shapeCast S8x8x64 (x 1) shapeCasts_S8x8x64_S8x8x64) shapeCasts_S8x8x64_S64x64⟩, ⟨S64x64, shapeCast S64x64 (shapeCast S8x8x64 (x 2) shapeCasts_S8x8x64_S8x8x64) shapeCasts_S8x8x64_S64x64⟩, ⟨S64x64, shapeCast S64x64 (shapeCast S8x8x64 (x 3) shapeCasts_S8x8x64_S8x8x64) shapeCasts_S8x8x64_S64x64⟩, ⟨S64x64, shapeCast S64x64 (shapeCast S8x8x64 (x 4) shapeCasts_S8x8x64_S8x8x64) shapeCasts_S8x8x64_S64x64⟩, ⟨S64x64, shapeCast S64x64 (shapeCast S8x8x64 (x 5) shapeCasts_S8x8x64_S8x8x64) shapeCasts_S8x8x64_S64x64⟩, ⟨S64x64, shapeCast S64x64 (shapeCast S8x8x64 (x 6) shapeCasts_S8x8x64_S8x8x64) shapeCasts_S8x8x64_S64x64⟩, ⟨S64x64, shapeCast S64x64 (shapeCast S8x8x64 (x 7) shapeCasts_S8x8x64_S8x8x64) shapeCasts_S8x8x64_S64x64⟩] concatenates_S64x64_S64x64_S64x64_S64x64_S64x64_S64x64_S64x64_S64x64_S512x64_d0
/-- Key `p` of the eight joined segments is key `p % 64` of segment `p / 64`. -/
theorem cat2_apply (x : Fin 8 → Vec Ideal S8x8x64 .f32) (p : Fin 512) (d : Fin 64) :
    cat2 x (ix2 p d) = x ⟨p.val / 64, by have := p.isLt; omega⟩ (ix3 ⟨p.val % 64 / 8, by omega⟩ ⟨p.val % 64 % 8, by omega⟩ d) := by
  have e := rows512 (fun n : Fin 8 => shapeCast S64x64 (shapeCast S8x8x64 (x n) shapeCasts_S8x8x64_S8x8x64) shapeCasts_S8x8x64_S64x64) concatenates_S64x64_S64x64_S64x64_S64x64_S64x64_S64x64_S64x64_S64x64_S512x64_d0 p d
  refine Eq.trans e ?_
  rw [castSeg, shapeCast_self]
/-- A candidate's score: the product of the query with the candidate's row. -/
theorem s2_apply (x0 : Vec Ideal S1x1x64 .f32) (x : Fin 8 → Vec Ideal S8x8x64 .f32) (p : Fin 512) :
    (s2 x0 (x 0) (x 1) (x 2) (x 3) (x 4) (x 5) (x 6) (x 7) (ix2 0 p) : EReal)
      = ∑ d : Fin 64, (x0 (ix3 0 0 d) : EReal) * x ⟨p.val / 64, by have := p.isLt; omega⟩ (ix3 ⟨p.val % 64 / 8, by omega⟩ ⟨p.val % 64 % 8, by omega⟩ d) := by
  have e : s2 x0 (x 0) (x 1) (x 2) (x 3) (x 4) (x 5) (x 6) (x 7) = matmul dot_S1x64_S512x64_S1x512_1_1_0_0_n_n none (shapeCast S1x64 x0 shapeCasts_S1x1x64_S1x64)
      (cat2 x) (constant S1x512 .f32 0x00000000#32) := rfl
  rw [e, dot2_apply]
  refine Finset.sum_congr rfl fun d _ => ?_
  rw [castQ, cat2_apply]

/-- The weights: the exponentials of the eight largest scores, less the first, over their sum. -/
theorem out2b_apply (c : IVec S1x512 32) (x : FVec Ideal S1x512 .f32) (v : Fin 8 → EReal) (hv : ∀ k : Fin 8, max2 (left2 c x k.val) (ix2 0 0) = v k) (k : Fin 8) :
    (out2b c x (ix3 0 0 k) : EReal) = Ideal.div (Ideal.exp (v k - v 0)) (∑ n : Fin 8, Ideal.exp (v n - v 0)) := by
  unfold out2b
  generalize hV : concatenate S1x8 1 _ _ = V
  have hV' : ∀ k : Fin 8, V (ix2 0 k) = v k := fun k => by
    rw [← hV, ← hv k]
    exact cols8 (fun n => max2 (left2 c x n.val)) concatenates_S1x1_S1x1_S1x1_S1x1_S1x1_S1x1_S1x1_S1x1_S1x8_d1 k
  unfold k2_pay2
  rw [cast118]
  simp only [pointwise, hV']
  done

end Cert.Math

end
-- ==== Proof.Tables.lean ====
/- The arrays the host lays out before the first and the third kernel, and the second kernel's picks of stretches. -/
module

public import proofs.«01_k».proof.Proof.Keys0
public import proofs.«01_k».proof.Proof.Cands
public import Idealize.ShloMosaic.Lib.StableHlo.RunRead

@[expose] public section

set_option maxRecDepth 16384

noncomputable section

namespace Cert.Math

open Cert.KernelIdeal hiding ix2 ix3
open Cert.KernelIdeal.Val
open Cert.KernelIdeal.Gen
open Idealize.ShloMosaic Idealize.ShloMosaic.TcCoe Idealize.ShloMosaic.Tactic
open Idealize.ShloMosaic.Pipeline (Dat Cfg Window)
variable (m : (ℓ : Loc nD τ sig) → Buf (Elt Ideal) ℓ)

/-- The queries. -/
abbrev qry (c : Dev nD) : S8x8x64.Idx → EReal := m ((c.tc : Thread nD τ).loc main_arg0)
/-- The pool. -/
abbrev pool (c : Dev nD) : S1000000x64.Idx → EReal := m ((c.tc : Thread nD τ).loc main_arg1)
/-- The keys. -/
abbrev keys (c : Dev nD) : S1000000x64.Idx → EReal := m ((c.tc : Thread nD τ).loc main_arg2)
/-- The last matrix. -/
abbrev wgt (c : Dev nD) : S64x64.Idx → EReal := m ((c.tc : Thread nD τ).loc main_arg3)

/-- Reading an 8 by 8 by 64 array as 64 by 64 splits the row number by eight. -/
theorem castRow {α : Type} (x : S8x8x64.Idx → α) (h) (r d : Fin 64) :
    shapeCast S64x64 x h (ix2 r d) = x (ix3 ⟨r.val / 8, by have := r.isLt; omega⟩ ⟨r.val % 8, by omega⟩ d) := castSeg x h r d
/-- Reading one million rows as 125000 groups of eight puts row `8 * a + e` in place `e` of group `a`. -/
theorem castKeys {α : Type} (x : S1000000x64.Idx → α) (h) (a : Fin 125000) (e : Fin 8) (d : Fin 64) :
    shapeCast S125000x8x64 x h (ix3 a e d) = x (ix2 ⟨8 * a.val + e.val, by have := a.isLt; have := e.isLt; omega⟩ d) := by
  simp only [pointwise]
  congr 2
  simp only [Fin.mk.injEq]
  omega
/-- Transposing a 64 by 64 array swaps its coordinates. -/
theorem trans64 {α : Type} (x : S64x64.Idx → α) (a b : Fin 64) :
    transpose S64x64 [1, 0] x transposes_S64x64_S64x64_1_0 (ix2 a b) = x (ix2 b a) := by
  simp only [pointwise]
/-- Transposing an 8 by 64 array swaps its coordinates. -/
theorem trans8 {α : Type} (x : S8x64.Idx → α) (a : Fin 64) (b : Fin 8) :
    transpose S64x8 [1, 0] x transposes_S8x64_S64x8_1_0 (ix2 a b) = x (ix2 b a) := by
  simp only [pointwise]
/-- Reading a 64 by 64 array as 64 by 1 by 64 adds a middle coordinate. -/
theorem cast3q {α : Type} (x : S64x64.Idx → α) (h) (r d : Fin 64) :
    shapeCast S64x1x64 x h (ix3 r 0 d) = x (ix2 r d) := by
  simp only [pointwise]

/-- The query buffer holds query `r` in row `r`. -/
theorem W1_v0 (c : Dev nD) (r d : Fin 64) : (W1 m c main_v0 : S64x64.Idx → EReal) (ix2 r d) = qry m c (ix3 ⟨r.val / 8, by have := r.isLt; omega⟩ ⟨r.val % 8, by omega⟩ d) := by
  refine Eq.trans (congrFun (g := shapeCast S64x64 (qry m c) shapeCasts_S8x8x64_S64x64) ?_ _) (castRow (qry m c) _ r d)
  unfold W1
  after_results_simp
  rfl
/-- The transposed query buffer holds query `r` in column `r`. -/
theorem W1_v1 (c : Dev nD) (d r : Fin 64) : (W1 m c main_v1 : S64x64.Idx → EReal) (ix2 d r) = qry m c (ix3 ⟨r.val / 8, by have := r.isLt; omega⟩ ⟨r.val % 8, by omega⟩ d) := by
  refine Eq.trans (congrFun (g := transpose S64x64 [1, 0] (shapeCast S64x64 (qry m c) shapeCasts_S8x8x64_S64x64) transposes_S64x64_S64x64_1_0) ?_ _) ?_
  · unfold W1
    after_results_simp
    rfl
  · rw [trans64, castRow]
/-- The key buffer holds key `8 * a + e` in place `e` of group `a`. -/
theorem W1_v2 (c : Dev nD) (a : Fin 125000) (e : Fin 8) (d : Fin 64) : (W1 m c main_v2 : S125000x8x64.Idx → EReal) (ix3 a e d) = keys m c (ix2 ⟨8 * a.val + e.val, by have := a.isLt; have := e.isLt; omega⟩ d) := by
  refine Eq.trans (congrFun (g := shapeCast S125000x8x64 (keys m c) shapeCasts_S1000000x64_S125000x8x64) ?_ _) (castKeys (keys m c) _ a e d)
  unfold W1
  after_results_simp
  rfl

/-- The score of key `n` for query row `r`. -/
def scr (c : Dev nD) (r : Fin 64) (n : ℕ) : EReal :=
  if h : n < 1000000 then ∑ d : Fin 64, keys m c (ix2 ⟨n, h⟩ d) * qry m c (ix3 ⟨r.val / 8, by have := r.isLt; omega⟩ ⟨r.val % 8, by omega⟩ d) else ⊥

/-- The score that the first kernel computes is the inner product of the query and the key. -/
theorem score_eq (c : Dev nD) (r : Fin 64) (n : ℕ) : score (W1 m c main_v2) (W1 m c main_v1) r n = scr m c r n := by
  unfold score scr
  split
  · refine Finset.sum_congr rfl fun d _ => ?_
    rw [W1_v2, W1_v1]
    congr 3
    exact Fin.ext (by dsimp only; omega)
  · rfl

/-- The largest score of every stretch. -/
def top (c : Dev nD) (r : Fin 64) (t : Fin 15744) : EReal :=
  if t.val < 15625 then ⨆ j : Fin 64, scr m c r (64 * t.val + j.val) else ⊥

/-- After the first kernel its output holds the segment maxima. -/
theorem W2_v3 (c : Dev nD) (t : Fin 15744) (r : Fin 64) : (W2 m c main_v3 : S15744x64.Idx → EReal) (ix2 t r) = top m c r t := by
  rw [W2_out, final0]
  show (if t.val < 15625 then ⨆ j : Fin 64, score (W1 m c main_v2) (W1 m c main_v1) r (64 * t.val + j.val) else ⊥) = _
  unfold top
  split
  · exact iSup_congr fun j => score_eq m c r _
  · rfl

/-- The blocks of the first-stage picking kernel sit at the origin. -/
theorem win1_at : ∀ t : Fin cfg1.N, (cfg1.win 0).index t 0 = 0 ∧ (cfg1.win 0).index t 1 = 0 ∧ (cfg1.win 1).index t 0 = 0 ∧ (cfg1.win 1).index t 1 = 0
   ∧ (cfg1.win 1).xsize (cfg1.grid.coords t) 0 = 8 ∧ (cfg1.win 1).xsize (cfg1.grid.coords t) 1 = 64 := by decide +kernel

/-- The block of the first-stage picking kernel is its whole array. -/
theorem blk1 (W : Valuation τ sig (Elt Ideal)) (c : Dev nD) (t : Fin cfg1.N) : (iblk1 W c 0 t : S15744x64.Idx → EReal) = W main_v3 := by
  obtain ⟨i0, i1, -, -⟩ := win1_at t
  funext y
  refine congrArg (W main_v3 : S15744x64.Idx → EReal) (funext fun a => Fin.ext ?_)
  refine ((cfg1.win 0).rect_emb_val_of_index_zero t a ?_ _)
  match a with
  | ⟨0, _⟩ => exact i0
  | ⟨1, _⟩ => exact i1

/-- The second kernel leaves its eight rounds' picks. -/
theorem final1 (W : Valuation τ sig (Elt Ideal)) (c : Dev nD) : (dat1 W c).arrAt 1 cfg1.N = (out1 (W main_v3) : S8x64.Idx → BitVec 32) := by
  refine (dat1 W c).arrAt_eq_of_cover 1 (out1 (W main_v3) : S8x64.Idx → BitVec 32) ?_ ?_
  · intro t _
    obtain ⟨-, -, i0, i1, -, -⟩ := win1_at t
    show (cfg1.win 1).cut (cfg1.grid.coords t) ((dat1 W c).after 1 t) = _
    funext y
    show (out1 (iblk1 W c 0 t) : S8x64.Idx → BitVec 32) _ = out1 (W main_v3) _
    rw [blk1]
    refine congrArg (out1 (W main_v3) : S8x64.Idx → BitVec 32) (funext fun a => Fin.ext ?_)
    refine ((cfg1.win 1).rect_emb_val_of_index_zero t a ?_ _).symm
    match a with
    | ⟨0, _⟩ => exact i0
    | ⟨1, _⟩ => exact i1
  · intro i
    have hi : ((i : S8x64.Idx) 0).val < 8 := ((i : S8x64.Idx) 0).isLt
    have hi1 : ((i : S8x64.Idx) 1).val < 64 := ((i : S8x64.Idx) 1).isLt
    refine ⟨t1_0, flush1_1 _, ?_⟩
    obtain ⟨-, -, i0, i1, s0, s1⟩ := win1_at t1_0
    show i ∈ ((View.whole main_v4).slice ((cfg1.win 1).rect t1_0)).set
    rw [View.set_slice_whole, Rect.mem_set_unit]
    intro a
    match a with
    | ⟨0, _⟩ =>
      show (cfg1.win 1).index t1_0 0 * 8 ≤ ((i : S8x64.Idx) 0).val ∧ ((i : S8x64.Idx) 0).val < (cfg1.win 1).index t1_0 0 * 8 + (cfg1.win 1).xsize (cfg1.grid.coords t1_0) 0
      rw [i0, s0]; omega
    | ⟨1, _⟩ =>
      show (cfg1.win 1).index t1_0 1 * 64 ≤ ((i : S8x64.Idx) 1).val ∧ ((i : S8x64.Idx) 1).val < (cfg1.win 1).index t1_0 1 * 64 + (cfg1.win 1).xsize (cfg1.grid.coords t1_0) 1
      rw [i1, s1]; omega

/-- The number of the stretch picked for query row `r` in round `k`. -/
def seg (c : Dev nD) (r : Fin 64) (k : ℕ) : ℕ := (pick1 (left1 (W2 m c main_v3) k) (ix2 0 r)).toNat

/-- The eight rounds pick the segments with the largest maxima one after another, ties going to the smaller segment. -/
theorem seg_picks (c : Dev nD) (r : Fin 64) : Picks (fun t : Fin 15744 => t.val) (top m c r) (seg m c r) := by
  have h := picks1 (W2 m c main_v3) r
  rwa [show (fun t : Fin 15744 => (W2 m c main_v3 : S15744x64.Idx → EReal) (ix2 t r)) = top m c r from funext fun t => W2_v3 m c t r] at h

/-- Every picked segment is one of the 15625 real ones. -/
theorem seg_lt (c : Dev nD) (r : Fin 64) (k : ℕ) (hk : k < 8) : seg m c r k < 15625 :=
  pick_lt (top m c r) 15625 (by omega) (by omega) (fun t ht => if_neg (by omega)) (seg m c r) k (seg_picks m c r k hk)

/-- The segment table holds the picked segments. -/
theorem W4_v5 (c : Dev nD) (r : Fin 64) (k : Fin 8) : ((W4 m c main_v5 : S64x8.Idx → BitVec 32) (ix2 r k)).toNat = seg m c r k.val := by
  have e : (W4 m c main_v5 : S64x8.Idx → BitVec 32) = transpose S64x8 [1, 0] (W3 m c main_v4 : S8x64.Idx → BitVec 32) transposes_S8x64_S64x8_1_0 := by
    unfold W4
    after_results_simp
  rw [e, trans8, W3_out, final1, out1_apply]
  rfl
/-- The query array of the second-stage kernel holds query `r` in row `r`. -/
theorem W4_v6 (c : Dev nD) (r d : Fin 64) : (W4 m c main_v6 : S64x1x64.Idx → EReal) (ix3 r 0 d) = qry m c (ix3 ⟨r.val / 8, by have := r.isLt; omega⟩ ⟨r.val % 8, by omega⟩ d) := by
  have e : (W4 m c main_v6 : S64x1x64.Idx → EReal) = shapeCast S64x1x64 (W3 m c main_v0 : S64x64.Idx → EReal) shapeCasts_S64x64_S64x1x64 := by
    unfold W4
    after_results_simp
    rfl
  rw [e, cast3q, W3_of m c main_v0 (by decide), W2_of m c main_v0 (by decide), W1_v0]
/-- The key buffer is unchanged up to the second-stage kernel. -/
theorem W4_v2 (c : Dev nD) : W4 m c main_v2 = W1 m c main_v2 := by
  rw [← W2_of m c main_v2 (by decide), ← W3_of m c main_v2 (by decide)]
  unfold W4
  after_results_simp

end Cert.Math

end
-- ==== Proof.Tab2.lean ====
/- The blocks that the third and the fifth kernel's tables name, and that they lie inside their arrays. -/
module

public import proofs.«01_k».proof.Proof.Tables

@[expose] public section

set_option maxRecDepth 16384

noncomputable section

namespace Cert.Math

open Cert.KernelIdeal hiding ix2 ix3
open Cert.KernelIdeal.Val
open Cert.KernelIdeal.Gen
open Idealize.ShloMosaic Idealize.ShloMosaic.TcCoe Idealize.ShloMosaic.Tactic

/-- A word of a table read through a one-element rectangle. -/
theorem at8 (T : S64x8.Idx → BitVec 32) (i : Fin 64) (off : Fin 2 → ℕ) (inb : ∀ a, off a + S1x1.size a ≤ S64x8.size a) (j : Fin 8)
    (h0 : off 0 = i.val) (h1 : off 1 = j.val) (y : S1x1.Idx) : T ((Rect.unit (s := S64x8) off S1x1.size inb).emb y) = T (ix2 i j) := by
  have hy : ∀ a, (y a).val = 0 := fun a => Nat.lt_one_iff.mp (by have := (y a).isLt; fin_cases a <;> exact this)
  refine congrArg T (funext fun a => Fin.ext ?_)
  have := hy a
  fin_cases a <;> simp_all [Rect.unit, Rect.emb, ix2]

/-- Segment block 1 of a step sits at the place that column 0 of the table names. -/
theorem map2_1 (T : pre2.Contents (Elt Ideal)) (i : grid2.Coords) :
    cc2_transform_1 k2_off1_inb numel1_S1x1 T i = ![((T 0 : S64x8.Idx → BitVec 32) (ix2 (i 0) 0)).toNat, 0, 0] :=
  congrArg (fun w : BitVec 32 => ![w.toNat, 0, 0]) (at8 (T 0) (i 0) (k2_off1 i) (k2_off1_inb i) 0 (cast64 (i 0)) rfl _)
/-- Segment block 2 of a step sits at the place that column 1 of the table names. -/
theorem map2_2 (T : pre2.Contents (Elt Ideal)) (i : grid2.Coords) :
    cc2_transform_2 k2_off2_inb numel1_S1x1 T i = ![((T 0 : S64x8.Idx → BitVec 32) (ix2 (i 0) 1)).toNat, 0, 0] :=
  congrArg (fun w : BitVec 32 => ![w.toNat, 0, 0]) (at8 (T 0) (i 0) (k2_off2 i) (k2_off2_inb i) 1 (cast64 (i 0)) rfl _)
/-- Segment block 3 of a step sits at the place that column 2 of the table names. -/
theorem map2_3 (T : pre2.Contents (Elt Ideal)) (i : grid2.Coords) :
    cc2_transform_3 k2_off3_inb numel1_S1x1 T i = ![((T 0 : S64x8.Idx → BitVec 32) (ix2 (i 0) 2)).toNat, 0, 0] :=
  congrArg (fun w : BitVec 32 => ![w.toNat, 0, 0]) (at8 (T 0) (i 0) (k2_off3 i) (k2_off3_inb i) 2 (cast64 (i 0)) rfl _)
/-- Segment block 4 of a step sits at the place that column 3 of the table names. -/
theorem map2_4 (T : pre2.Contents (Elt Ideal)) (i : grid2.Coords) :
    cc2_transform_4 k2_off4_inb numel1_S1x1 T i = ![((T 0 : S64x8.Idx → BitVec 32) (ix2 (i 0) 3)).toNat, 0, 0] :=
  congrArg (fun w : BitVec 32 => ![w.toNat, 0, 0]) (at8 (T 0) (i 0) (k2_off4 i) (k2_off4_inb i) 3 (cast64 (i 0)) rfl _)
/-- Segment block 5 of a step sits at the place that column 4 of the table names. -/
theorem map2_5 (T : pre2.Contents (Elt Ideal)) (i : grid2.Coords) :
    cc2_transform_5 k2_off5_inb numel1_S1x1 T i = ![((T 0 : S64x8.Idx → BitVec 32) (ix2 (i 0) 4)).toNat, 0, 0] :=
  congrArg (fun w : BitVec 32 => ![w.toNat, 0, 0]) (at8 (T 0) (i 0) (k2_off5 i) (k2_off5_inb i) 4 (cast64 (i 0)) rfl _)
/-- Segment block 6 of a step sits at the place that column 5 of the table names. -/
theorem map2_6 (T : pre2.Contents (Elt Ideal)) (i : grid2.Coords) :
    cc2_transform_6 k2_off6_inb numel1_S1x1 T i = ![((T 0 : S64x8.Idx → BitVec 32) (ix2 (i 0) 5)).toNat, 0, 0] :=
  congrArg (fun w : BitVec 32 => ![w.toNat, 0, 0]) (at8 (T 0) (i 0) (k2_off6 i) (k2_off6_inb i) 5 (cast64 (i 0)) rfl _)
/-- Segment block 7 of a step sits at the place that column 6 of the table names. -/
theorem map2_7 (T : pre2.Contents (Elt Ideal)) (i : grid2.Coords) :
    cc2_transform_7 k2_off7_inb numel1_S1x1 T i = ![((T 0 : S64x8.Idx → BitVec 32) (ix2 (i 0) 6)).toNat, 0, 0] :=
  congrArg (fun w : BitVec 32 => ![w.toNat, 0, 0]) (at8 (T 0) (i 0) (k2_off7 i) (k2_off7_inb i) 6 (cast64 (i 0)) rfl _)
/-- Segment block 8 of a step sits at the place that column 7 of the table names. -/
theorem map2_8 (T : pre2.Contents (Elt Ideal)) (i : grid2.Coords) :
    cc2_transform_8 k2_off8_inb numel1_S1x1 T i = ![((T 0 : S64x8.Idx → BitVec 32) (ix2 (i 0) 7)).toNat, 0, 0] :=
  congrArg (fun w : BitVec 32 => ![w.toNat, 0, 0]) (at8 (T 0) (i 0) (k2_off8 i) (k2_off8_inb i) 7 (cast64 (i 0)) rfl _)
/-- Words below 15625 name blocks inside the array. -/
theorem inside2 (n : ℕ) (h : n < 15625) (a : Fin 3) : ((![n, 0, 0] : Fin 3 → ℕ) a + 1) * S8x8x64.size a ≤ S125000x8x64.size a := by
  match a with
  | ⟨0, _⟩ => show (n + 1) * 8 ≤ 125000; omega
  | ⟨1, _⟩ => exact le_of_eq rfl
  | ⟨2, _⟩ => exact le_of_eq rfl
/-- If every table word names a real segment, every block of the second-stage kernel lies inside its array. -/
theorem ok_of2 (T : pre2.Contents (Elt Ideal)) (h : ∀ i j, ((T 0 : S64x8.Idx → BitVec 32) (ix2 i j)).toNat < 15625) : ok2 T :=
  ⟨fun i => ⟨fun a => (congrArg (fun f : Fin 3 → ℕ => (f a + 1) * S8x8x64.size a) (map2_1 T i)).trans_le (inside2 _ (h (i 0) 0) a), Or.inl rfl⟩,
   fun i => ⟨fun a => (congrArg (fun f : Fin 3 → ℕ => (f a + 1) * S8x8x64.size a) (map2_2 T i)).trans_le (inside2 _ (h (i 0) 1) a), Or.inl rfl⟩,
   fun i => ⟨fun a => (congrArg (fun f : Fin 3 → ℕ => (f a + 1) * S8x8x64.size a) (map2_3 T i)).trans_le (inside2 _ (h (i 0) 2) a), Or.inl rfl⟩,
   fun i => ⟨fun a => (congrArg (fun f : Fin 3 → ℕ => (f a + 1) * S8x8x64.size a) (map2_4 T i)).trans_le (inside2 _ (h (i 0) 3) a), Or.inl rfl⟩,
   fun i => ⟨fun a => (congrArg (fun f : Fin 3 → ℕ => (f a + 1) * S8x8x64.size a) (map2_5 T i)).trans_le (inside2 _ (h (i 0) 4) a), Or.inl rfl⟩,
   fun i => ⟨fun a => (congrArg (fun f : Fin 3 → ℕ => (f a + 1) * S8x8x64.size a) (map2_6 T i)).trans_le (inside2 _ (h (i 0) 5) a), Or.inl rfl⟩,
   fun i => ⟨fun a => (congrArg (fun f : Fin 3 → ℕ => (f a + 1) * S8x8x64.size a) (map2_7 T i)).trans_le (inside2 _ (h (i 0) 6) a), Or.inl rfl⟩,
   fun i => ⟨fun a => (congrArg (fun f : Fin 3 → ℕ => (f a + 1) * S8x8x64.size a) (map2_8 T i)).trans_le (inside2 _ (h (i 0) 7) a), Or.inl rfl⟩⟩

/-- Gathered block 1 of a step sits at the place that column 0 of the table names. -/
theorem map3_1 (T : pre3.Contents (Elt Ideal)) (i : grid3.Coords) :
    cc3_transform_1 k3_off1_inb numel1_S1x1 T i = ![((T 0 : S64x8.Idx → BitVec 32) (ix2 (i 0) 0)).toNat, 0, 0] :=
  congrArg (fun w : BitVec 32 => ![w.toNat, 0, 0]) (at8 (T 0) (i 0) (k3_off1 i) (k3_off1_inb i) 0 (cast64 (i 0)) rfl _)
/-- Gathered block 2 of a step sits at the place that column 1 of the table names. -/
theorem map3_2 (T : pre3.Contents (Elt Ideal)) (i : grid3.Coords) :
    cc3_transform_2 k3_off2_inb numel1_S1x1 T i = ![((T 0 : S64x8.Idx → BitVec 32) (ix2 (i 0) 1)).toNat, 0, 0] :=
  congrArg (fun w : BitVec 32 => ![w.toNat, 0, 0]) (at8 (T 0) (i 0) (k3_off2 i) (k3_off2_inb i) 1 (cast64 (i 0)) rfl _)
/-- Gathered block 3 of a step sits at the place that column 2 of the table names. -/
theorem map3_3 (T : pre3.Contents (Elt Ideal)) (i : grid3.Coords) :
    cc3_transform_3 k3_off3_inb numel1_S1x1 T i = ![((T 0 : S64x8.Idx → BitVec 32) (ix2 (i 0) 2)).toNat, 0, 0] :=
  congrArg (fun w : BitVec 32 => ![w.toNat, 0, 0]) (at8 (T 0) (i 0) (k3_off3 i) (k3_off3_inb i) 2 (cast64 (i 0)) rfl _)
/-- Gathered block 4 of a step sits at the place that column 3 of the table names. -/
theorem map3_4 (T : pre3.Contents (Elt Ideal)) (i : grid3.Coords) :
    cc3_transform_4 k3_off4_inb numel1_S1x1 T i = ![((T 0 : S64x8.Idx → BitVec 32) (ix2 (i 0) 3)).toNat, 0, 0] :=
  congrArg (fun w : BitVec 32 => ![w.toNat, 0, 0]) (at8 (T 0) (i 0) (k3_off4 i) (k3_off4_inb i) 3 (cast64 (i 0)) rfl _)
/-- Gathered block 5 of a step sits at the place that column 4 of the table names. -/
theorem map3_5 (T : pre3.Contents (Elt Ideal)) (i : grid3.Coords) :
    cc3_transform_5 k3_off5_inb numel1_S1x1 T i = ![((T 0 : S64x8.Idx → BitVec 32) (ix2 (i 0) 4)).toNat, 0, 0] :=
  congrArg (fun w : BitVec 32 => ![w.toNat, 0, 0]) (at8 (T 0) (i 0) (k3_off5 i) (k3_off5_inb i) 4 (cast64 (i 0)) rfl _)
/-- Gathered block 6 of a step sits at the place that column 5 of the table names. -/
theorem map3_6 (T : pre3.Contents (Elt Ideal)) (i : grid3.Coords) :
    cc3_transform_6 k3_off6_inb numel1_S1x1 T i = ![((T 0 : S64x8.Idx → BitVec 32) (ix2 (i 0) 5)).toNat, 0, 0] :=
  congrArg (fun w : BitVec 32 => ![w.toNat, 0, 0]) (at8 (T 0) (i 0) (k3_off6 i) (k3_off6_inb i) 5 (cast64 (i 0)) rfl _)
/-- Gathered block 7 of a step sits at the place that column 6 of the table names. -/
theorem map3_7 (T : pre3.Contents (Elt Ideal)) (i : grid3.Coords) :
    cc3_transform_7 k3_off7_inb numel1_S1x1 T i = ![((T 0 : S64x8.Idx → BitVec 32) (ix2 (i 0) 6)).toNat, 0, 0] :=
  congrArg (fun w : BitVec 32 => ![w.toNat, 0, 0]) (at8 (T 0) (i 0) (k3_off7 i) (k3_off7_inb i) 6 (cast64 (i 0)) rfl _)
/-- Gathered block 8 of a step sits at the place that column 7 of the table names. -/
theorem map3_8 (T : pre3.Contents (Elt Ideal)) (i : grid3.Coords) :
    cc3_transform_8 k3_off8_inb numel1_S1x1 T i = ![((T 0 : S64x8.Idx → BitVec 32) (ix2 (i 0) 7)).toNat, 0, 0] :=
  congrArg (fun w : BitVec 32 => ![w.toNat, 0, 0]) (at8 (T 0) (i 0) (k3_off8 i) (k3_off8_inb i) 7 (cast64 (i 0)) rfl _)
/-- Words below 125000 name blocks inside the array. -/
theorem inside3 (n : ℕ) (h : n < 125000) (a : Fin 3) : ((![n, 0, 0] : Fin 3 → ℕ) a + 1) * S1x8x64.size a ≤ S125000x8x64.size a := by
  match a with
  | ⟨0, _⟩ => show (n + 1) * 1 ≤ 125000; omega
  | ⟨1, _⟩ => exact le_of_eq rfl
  | ⟨2, _⟩ => exact le_of_eq rfl
/-- If every table word names a real 8-key row, every block of the gathering kernel lies inside its array. -/
theorem ok_of3 (T : pre3.Contents (Elt Ideal)) (h : ∀ i j, ((T 0 : S64x8.Idx → BitVec 32) (ix2 i j)).toNat < 125000) : ok3 T :=
  ⟨fun i => ⟨fun a => (congrArg (fun f : Fin 3 → ℕ => (f a + 1) * S1x8x64.size a) (map3_1 T i)).trans_le (inside3 _ (h (i 0) 0) a), Or.inl rfl⟩,
   fun i => ⟨fun a => (congrArg (fun f : Fin 3 → ℕ => (f a + 1) * S1x8x64.size a) (map3_2 T i)).trans_le (inside3 _ (h (i 0) 1) a), Or.inl rfl⟩,
   fun i => ⟨fun a => (congrArg (fun f : Fin 3 → ℕ => (f a + 1) * S1x8x64.size a) (map3_3 T i)).trans_le (inside3 _ (h (i 0) 2) a), Or.inl rfl⟩,
   fun i => ⟨fun a => (congrArg (fun f : Fin 3 → ℕ => (f a + 1) * S1x8x64.size a) (map3_4 T i)).trans_le (inside3 _ (h (i 0) 3) a), Or.inl rfl⟩,
   fun i => ⟨fun a => (congrArg (fun f : Fin 3 → ℕ => (f a + 1) * S1x8x64.size a) (map3_5 T i)).trans_le (inside3 _ (h (i 0) 4) a), Or.inl rfl⟩,
   fun i => ⟨fun a => (congrArg (fun f : Fin 3 → ℕ => (f a + 1) * S1x8x64.size a) (map3_6 T i)).trans_le (inside3 _ (h (i 0) 5) a), Or.inl rfl⟩,
   fun i => ⟨fun a => (congrArg (fun f : Fin 3 → ℕ => (f a + 1) * S1x8x64.size a) (map3_7 T i)).trans_le (inside3 _ (h (i 0) 6) a), Or.inl rfl⟩,
   fun i => ⟨fun a => (congrArg (fun f : Fin 3 → ℕ => (f a + 1) * S1x8x64.size a) (map3_8 T i)).trans_le (inside3 _ (h (i 0) 7) a), Or.inl rfl⟩⟩

variable (m : (ℓ : Loc nD τ sig) → Buf (Elt Ideal) ℓ)

/-- The third kernel's table: the stretches picked. -/
def a2 : (pcfg2 (F := Ideal)).Adm :=
  ⟨fun k => bufs (W4 m 0) 0 (pre2.ref k), ok_of2 _ fun i j => by
    refine lt_of_eq_of_lt (W4_v5 m 0 i j) (seg_lt m 0 i j.val j.isLt)⟩
/-- The table buffer holds the table that the second-stage kernel is run with. -/
theorem ht2 (c : Dev nD) (k : Fin pre2.K) : bufs (W4 m c) c (pre2.ref k) = (a2 m).1 k := by
  have : c = 0 := Subsingleton.elim c 0
  subst this
  rfl
/-- The table of the second-stage kernel holds the chosen segments. -/
theorem a2_word (c : Dev nD) (r : Fin 64) (k : Fin 8) : (((a2 m).1 0 : S64x8.Idx → BitVec 32) (ix2 r k)).toNat = seg m c r k.val := by
  have : c = 0 := Subsingleton.elim c 0
  subst this
  exact W4_v5 m 0 r k

end Cert.Math

end
-- ==== Proof.Blk2.lean ====
/- The blocks the third kernel reads and the arrays it writes, point by point. -/
module

public import proofs.«01_k».proof.Proof.Tab2

@[expose] public section

set_option maxRecDepth 16384

noncomputable section

namespace Cert.Math

open Cert.KernelIdeal hiding ix2 ix3
open Cert.KernelIdeal.Val
open Cert.KernelIdeal.Gen
open Idealize.ShloMosaic Idealize.ShloMosaic.TcCoe Idealize.ShloMosaic.Tactic
open Idealize.ShloMosaic.Pipeline (Dat Cfg Window)
variable (W : Valuation τ sig (Elt Ideal)) (a : (pcfg2 (F := Ideal)).Adm) (c : Dev nD)

/-- Step `t` of the grid has coordinate `t`, and its row block sits at row `t`. -/
theorem grid2_at : ∀ t : Fin grid2.N, (grid2.coords t 0).val = t.val ∧ ∀ b : Fin 3, cc2_transform_0 (grid2.coords t) b = (![t.val, 0, 0] : Fin 3 → ℕ) b
    ∧ cc2_transform_9 (grid2.coords t) b = (![t.val, 0, 0] : Fin 3 → ℕ) b ∧ cc2_transform_10 (grid2.coords t) b = (![t.val, 0, 0] : Fin 3 → ℕ) b := by decide +kernel

/-- The grid point of a query row. -/
def pt2 (r : Fin 64) : Fin grid2.N := ⟨r.val, r.isLt⟩
/-- The step for row `r` has coordinate `r`. -/
theorem pt2_row (r : Fin 64) : (grid2.coords (pt2 r) 0 : Fin 64) = r := Fin.ext (grid2_at (pt2 r)).1

/-- The first input block of the step for row `r` is row `r` of the query array. -/
theorem blk2_0 (r d : Fin 64) : (iblk2 W a c 0 (pt2 r) : S1x1x64.Idx → EReal) (ix3 0 0 d) = (W main_v6 : S64x1x64.Idx → EReal) (ix3 r 0 d) := by
  refine congrArg (W main_v6 : S64x1x64.Idx → EReal) (funext fun b => Fin.ext ?_)
  have i0 := fun b => ((grid2_at (pt2 r)).2 b).1
  refine (((cfg2 a).win 0).rect_emb_val (pt2 r) _ b).trans ?_
  match b with
  | ⟨0, _⟩ => show cc2_transform_0 (grid2.coords (pt2 r)) 0 * 1 + 0 = r.val; rw [i0 0]; show r.val * 1 + 0 = _; omega
  | ⟨1, _⟩ => show cc2_transform_0 (grid2.coords (pt2 r)) 1 * 1 + 0 = 0; rw [i0 1]; rfl
  | ⟨2, _⟩ => show cc2_transform_0 (grid2.coords (pt2 r)) 2 * 64 + d.val = d.val; rw [i0 2]; show 0 * 64 + d.val = _; omega
/-- The first segment block of the step for row `r` is the group of eight 8-key rows that the table word for slot 0 names. -/
theorem blk2_1 (r : Fin 64) (b e : Fin 8) (d : Fin 64) (n : ℕ) (hn : n < 15625) (hw : ((a.1 0 : S64x8.Idx → BitVec 32) (ix2 r 0)).toNat = n) :
    (iblk2 W a c 1 (pt2 r) : S8x8x64.Idx → EReal) (ix3 b e d) = (W main_v2 : S125000x8x64.Idx → EReal) (ix3 ⟨n * 8 + b.val, by have := b.isLt; omega⟩ e d) := by
  refine congrArg (W main_v2 : S125000x8x64.Idx → EReal) (funext fun x => Fin.ext ?_)
  have hm := fun x => congrFun (map2_1 a.1 (grid2.coords (pt2 r))) x
  rw [pt2_row, hw] at hm
  refine (((cfg2 a).win 1).rect_emb_val (pt2 r) _ x).trans ?_
  match x with
  | ⟨0, _⟩ => show cc2_transform_1 k2_off1_inb numel1_S1x1 a.1 (grid2.coords (pt2 r)) 0 * 8 + b.val = n * 8 + b.val; rw [hm 0]; rfl
  | ⟨1, _⟩ => show cc2_transform_1 k2_off1_inb numel1_S1x1 a.1 (grid2.coords (pt2 r)) 1 * 8 + e.val = e.val; rw [hm 1]; show 0 * 8 + e.val = e.val; omega
  | ⟨2, _⟩ => show cc2_transform_1 k2_off1_inb numel1_S1x1 a.1 (grid2.coords (pt2 r)) 2 * 64 + d.val = d.val; rw [hm 2]; show 0 * 64 + d.val = d.val; omega
/-- The second segment block of the step for row `r` is the group of eight 8-key rows that the table word for slot 1 names. -/
theorem blk2_2 (r : Fin 64) (b e : Fin 8) (d : Fin 64) (n : ℕ) (hn : n < 15625) (hw : ((a.1 0 : S64x8.Idx → BitVec 32) (ix2 r 1)).toNat = n) :
    (iblk2 W a c 2 (pt2 r) : S8x8x64.Idx → EReal) (ix3 b e d) = (W main_v2 : S125000x8x64.Idx → EReal) (ix3 ⟨n * 8 + b.val, by have := b.isLt; omega⟩ e d) := by
  refine congrArg (W main_v2 : S125000x8x64.Idx → EReal) (funext fun x => Fin.ext ?_)
  have hm := fun x => congrFun (map2_2 a.1 (grid2.coords (pt2 r))) x
  rw [pt2_row, hw] at hm
  refine (((cfg2 a).win 2).rect_emb_val (pt2 r) _ x).trans ?_
  match x with
  | ⟨0, _⟩ => show cc2_transform_2 k2_off2_inb numel1_S1x1 a.1 (grid2.coords (pt2 r)) 0 * 8 + b.val = n * 8 + b.val; rw [hm 0]; rfl
  | ⟨1, _⟩ => show cc2_transform_2 k2_off2_inb numel1_S1x1 a.1 (grid2.coords (pt2 r)) 1 * 8 + e.val = e.val; rw [hm 1]; show 0 * 8 + e.val = e.val; omega
  | ⟨2, _⟩ => show cc2_transform_2 k2_off2_inb numel1_S1x1 a.1 (grid2.coords (pt2 r)) 2 * 64 + d.val = d.val; rw [hm 2]; show 0 * 64 + d.val = d.val; omega
/-- The third segment block of the step for row `r` is the group of eight 8-key rows that the table word for slot 2 names. -/
theorem blk2_3 (r : Fin 64) (b e : Fin 8) (d : Fin 64) (n : ℕ) (hn : n < 15625) (hw : ((a.1 0 : S64x8.Idx → BitVec 32) (ix2 r 2)).toNat = n) :
    (iblk2 W a c 3 (pt2 r) : S8x8x64.Idx → EReal) (ix3 b e d) = (W main_v2 : S125000x8x64.Idx → EReal) (ix3 ⟨n * 8 + b.val, by have := b.isLt; omega⟩ e d) := by
  refine congrArg (W main_v2 : S125000x8x64.Idx → EReal) (funext fun x => Fin.ext ?_)
  have hm := fun x => congrFun (map2_3 a.1 (grid2.coords (pt2 r))) x
  rw [pt2_row, hw] at hm
  refine (((cfg2 a).win 3).rect_emb_val (pt2 r) _ x).trans ?_
  match x with
  | ⟨0, _⟩ => show cc2_transform_3 k2_off3_inb numel1_S1x1 a.1 (grid2.coords (pt2 r)) 0 * 8 + b.val = n * 8 + b.val; rw [hm 0]; rfl
  | ⟨1, _⟩ => show cc2_transform_3 k2_off3_inb numel1_S1x1 a.1 (grid2.coords (pt2 r)) 1 * 8 + e.val = e.val; rw [hm 1]; show 0 * 8 + e.val = e.val; omega
  | ⟨2, _⟩ => show cc2_transform_3 k2_off3_inb numel1_S1x1 a.1 (grid2.coords (pt2 r)) 2 * 64 + d.val = d.val; rw [hm 2]; show 0 * 64 + d.val = d.val; omega
/-- The fourth segment block of the step for row `r` is the group of eight 8-key rows that the table word for slot 3 names. -/
theorem blk2_4 (r : Fin 64) (b e : Fin 8) (d : Fin 64) (n : ℕ) (hn : n < 15625) (hw : ((a.1 0 : S64x8.Idx → BitVec 32) (ix2 r 3)).toNat = n) :
    (iblk2 W a c 4 (pt2 r) : S8x8x64.Idx → EReal) (ix3 b e d) = (W main_v2 : S125000x8x64.Idx → EReal) (ix3 ⟨n * 8 + b.val, by have := b.isLt; omega⟩ e d) := by
  refine congrArg (W main_v2 : S125000x8x64.Idx → EReal) (funext fun x => Fin.ext ?_)
  have hm := fun x => congrFun (map2_4 a.1 (grid2.coords (pt2 r))) x
  rw [pt2_row, hw] at hm
  refine (((cfg2 a).win 4).rect_emb_val (pt2 r) _ x).trans ?_
  match x with
  | ⟨0, _⟩ => show cc2_transform_4 k2_off4_inb numel1_S1x1 a.1 (grid2.coords (pt2 r)) 0 * 8 + b.val = n * 8 + b.val; rw [hm 0]; rfl
  | ⟨1, _⟩ => show cc2_transform_4 k2_off4_inb numel1_S1x1 a.1 (grid2.coords (pt2 r)) 1 * 8 + e.val = e.val; rw [hm 1]; show 0 * 8 + e.val = e.val; omega
  | ⟨2, _⟩ => show cc2_transform_4 k2_off4_inb numel1_S1x1 a.1 (grid2.coords (pt2 r)) 2 * 64 + d.val = d.val; rw [hm 2]; show 0 * 64 + d.val = d.val; omega
/-- The fifth segment block of the step for row `r` is the group of eight 8-key rows that the table word for slot 4 names. -/
theorem blk2_5 (r : Fin 64) (b e : Fin 8) (d : Fin 64) (n : ℕ) (hn : n < 15625) (hw : ((a.1 0 : S64x8.Idx → BitVec 32) (ix2 r 4)).toNat = n) :
    (iblk2 W a c 5 (pt2 r) : S8x8x64.Idx → EReal) (ix3 b e d) = (W main_v2 : S125000x8x64.Idx → EReal) (ix3 ⟨n * 8 + b.val, by have := b.isLt; omega⟩ e d) := by
  refine congrArg (W main_v2 : S125000x8x64.Idx → EReal) (funext fun x => Fin.ext ?_)
  have hm := fun x => congrFun (map2_5 a.1 (grid2.coords (pt2 r))) x
  rw [pt2_row, hw] at hm
  refine (((cfg2 a).win 5).rect_emb_val (pt2 r) _ x).trans ?_
  match x with
  | ⟨0, _⟩ => show cc2_transform_5 k2_off5_inb numel1_S1x1 a.1 (grid2.coords (pt2 r)) 0 * 8 + b.val = n * 8 + b.val; rw [hm 0]; rfl
  | ⟨1, _⟩ => show cc2_transform_5 k2_off5_inb numel1_S1x1 a.1 (grid2.coords (pt2 r)) 1 * 8 + e.val = e.val; rw [hm 1]; show 0 * 8 + e.val = e.val; omega
  | ⟨2, _⟩ => show cc2_transform_5 k2_off5_inb numel1_S1x1 a.1 (grid2.coords (pt2 r)) 2 * 64 + d.val = d.val; rw [hm 2]; show 0 * 64 + d.val = d.val; omega
/-- The sixth segment block of the step for row `r` is the group of eight 8-key rows that the table word for slot 5 names. -/
theorem blk2_6 (r : Fin 64) (b e : Fin 8) (d : Fin 64) (n : ℕ) (hn : n < 15625) (hw : ((a.1 0 : S64x8.Idx → BitVec 32) (ix2 r 5)).toNat = n) :
    (iblk2 W a c 6 (pt2 r) : S8x8x64.Idx → EReal) (ix3 b e d) = (W main_v2 : S125000x8x64.Idx → EReal) (ix3 ⟨n * 8 + b.val, by have := b.isLt; omega⟩ e d) := by
  refine congrArg (W main_v2 : S125000x8x64.Idx → EReal) (funext fun x => Fin.ext ?_)
  have hm := fun x => congrFun (map2_6 a.1 (grid2.coords (pt2 r))) x
  rw [pt2_row, hw] at hm
  refine (((cfg2 a).win 6).rect_emb_val (pt2 r) _ x).trans ?_
  match x with
  | ⟨0, _⟩ => show cc2_transform_6 k2_off6_inb numel1_S1x1 a.1 (grid2.coords (pt2 r)) 0 * 8 + b.val = n * 8 + b.val; rw [hm 0]; rfl
  | ⟨1, _⟩ => show cc2_transform_6 k2_off6_inb numel1_S1x1 a.1 (grid2.coords (pt2 r)) 1 * 8 + e.val = e.val; rw [hm 1]; show 0 * 8 + e.val = e.val; omega
  | ⟨2, _⟩ => show cc2_transform_6 k2_off6_inb numel1_S1x1 a.1 (grid2.coords (pt2 r)) 2 * 64 + d.val = d.val; rw [hm 2]; show 0 * 64 + d.val = d.val; omega
/-- The seventh segment block of the step for row `r` is the group of eight 8-key rows that the table word for slot 6 names. -/
theorem blk2_7 (r : Fin 64) (b e : Fin 8) (d : Fin 64) (n : ℕ) (hn : n < 15625) (hw : ((a.1 0 : S64x8.Idx → BitVec 32) (ix2 r 6)).toNat = n) :
    (iblk2 W a c 7 (pt2 r) : S8x8x64.Idx → EReal) (ix3 b e d) = (W main_v2 : S125000x8x64.Idx → EReal) (ix3 ⟨n * 8 + b.val, by have := b.isLt; omega⟩ e d) := by
  refine congrArg (W main_v2 : S125000x8x64.Idx → EReal) (funext fun x => Fin.ext ?_)
  have hm := fun x => congrFun (map2_7 a.1 (grid2.coords (pt2 r))) x
  rw [pt2_row, hw] at hm
  refine (((cfg2 a).win 7).rect_emb_val (pt2 r) _ x).trans ?_
  match x with
  | ⟨0, _⟩ => show cc2_transform_7 k2_off7_inb numel1_S1x1 a.1 (grid2.coords (pt2 r)) 0 * 8 + b.val = n * 8 + b.val; rw [hm 0]; rfl
  | ⟨1, _⟩ => show cc2_transform_7 k2_off7_inb numel1_S1x1 a.1 (grid2.coords (pt2 r)) 1 * 8 + e.val = e.val; rw [hm 1]; show 0 * 8 + e.val = e.val; omega
  | ⟨2, _⟩ => show cc2_transform_7 k2_off7_inb numel1_S1x1 a.1 (grid2.coords (pt2 r)) 2 * 64 + d.val = d.val; rw [hm 2]; show 0 * 64 + d.val = d.val; omega
/-- The eighth segment block of the step for row `r` is the group of eight 8-key rows that the table word for slot 7 names. -/
theorem blk2_8 (r : Fin 64) (b e : Fin 8) (d : Fin 64) (n : ℕ) (hn : n < 15625) (hw : ((a.1 0 : S64x8.Idx → BitVec 32) (ix2 r 7)).toNat = n) :
    (iblk2 W a c 8 (pt2 r) : S8x8x64.Idx → EReal) (ix3 b e d) = (W main_v2 : S125000x8x64.Idx → EReal) (ix3 ⟨n * 8 + b.val, by have := b.isLt; omega⟩ e d) := by
  refine congrArg (W main_v2 : S125000x8x64.Idx → EReal) (funext fun x => Fin.ext ?_)
  have hm := fun x => congrFun (map2_8 a.1 (grid2.coords (pt2 r))) x
  rw [pt2_row, hw] at hm
  refine (((cfg2 a).win 8).rect_emb_val (pt2 r) _ x).trans ?_
  match x with
  | ⟨0, _⟩ => show cc2_transform_8 k2_off8_inb numel1_S1x1 a.1 (grid2.coords (pt2 r)) 0 * 8 + b.val = n * 8 + b.val; rw [hm 0]; rfl
  | ⟨1, _⟩ => show cc2_transform_8 k2_off8_inb numel1_S1x1 a.1 (grid2.coords (pt2 r)) 1 * 8 + e.val = e.val; rw [hm 1]; show 0 * 8 + e.val = e.val; omega
  | ⟨2, _⟩ => show cc2_transform_8 k2_off8_inb numel1_S1x1 a.1 (grid2.coords (pt2 r)) 2 * 64 + d.val = d.val; rw [hm 2]; show 0 * 64 + d.val = d.val; omega

end Cert.Math

end
-- ==== Proof.Arr2.lean ====
/- The arrays the third kernel writes, point by point. -/
module

public import proofs.«01_k».proof.Proof.Blk2

@[expose] public section

set_option maxRecDepth 16384

noncomputable section

namespace Cert.Math

open Cert.KernelIdeal hiding ix2 ix3
open Cert.KernelIdeal.Val
open Cert.KernelIdeal.Gen
open Idealize.ShloMosaic Idealize.ShloMosaic.TcCoe Idealize.ShloMosaic.Tactic
open Idealize.ShloMosaic.Pipeline (Dat Cfg Window)
variable (W : Valuation τ sig (Elt Ideal)) (a : (pcfg2 (F := Ideal)).Adm) (c : Dev nD)
/-- An index that a rectangle embeds lies in the slice of the whole buffer that the rectangle cuts out. -/
theorem mem_of_emb (b : Ref sig .tc) (r : Rect b.ty.shape) (y : r.shape.Idx) (i : b.ty.shape.Idx) (h : r.emb y = i) : i ∈ ((View.whole b).slice r).set := by
  rw [View.set_slice_whole, ← Rect.map_emb_univ]
  exact h ▸ Finset.mem_map_of_mem _ (Finset.mem_univ _)
/-- An index of a 1 by 1 by 8 block is fixed by its last coordinate. -/
theorem idx118 (y : S1x1x8.Idx) : y = ix3 0 0 (y 2) := by
  funext a
  have h0 : (y 0).val = 0 := Nat.lt_one_iff.mp (y 0).isLt
  have h1 : (y 1).val = 0 := Nat.lt_one_iff.mp (y 1).isLt
  match a with
  | ⟨0, _⟩ => exact Fin.ext h0
  | ⟨1, _⟩ => exact Fin.ext h1
  | ⟨2, _⟩ => rfl
/-- The candidates' labels and scores at a grid point. -/
def cg (t : Fin grid2.N) : IVec S1x512 32 := c2 (words2 c (a.1 0) (grid2.coords t) 0) (words2 c (a.1 0) (grid2.coords t) 1) (words2 c (a.1 0) (grid2.coords t) 2) (words2 c (a.1 0) (grid2.coords t) 3) (words2 c (a.1 0) (grid2.coords t) 4) (words2 c (a.1 0) (grid2.coords t) 5) (words2 c (a.1 0) (grid2.coords t) 6) (words2 c (a.1 0) (grid2.coords t) 7)
/-- The 512 candidate scores of the row that step `t` of the second-stage kernel handles. -/
def sg (t : Fin grid2.N) : FVec Ideal S1x512 .f32 := s2 (iblk2 W a c 0 t) (iblk2 W a c 1 t) (iblk2 W a c 2 t) (iblk2 W a c 3 t) (iblk2 W a c 4 t) (iblk2 W a c 5 t) (iblk2 W a c 6 t) (iblk2 W a c 7 t) (iblk2 W a c 8 t)
/-- Step `t` leaves the row of chosen labels in its first output block. -/
theorem after2_9 (t : Fin grid2.N) : (dat2 W a c).after 9 t = out2a (cg a c t) (sg W a c t) := by dsimp only [dat2, cg, sg]; rfl
/-- Step `t` leaves the row of weights in its second output block. -/
theorem after2_10 (t : Fin grid2.N) : (dat2 W a c).after 10 t = out2b (cg a c t) (sg W a c t) := by dsimp only [dat2, cg, sg]; rfl
/-- Step `t` writes row `t` of the first output array. -/
theorem win2_9 (t : Fin grid2.N) (y : S1x1x8.Idx) : (((cfg2 a).win 9).rect t).emb y = (ix3 (⟨t.val, t.isLt⟩ : Fin 64) 0 (y 2) : S64x1x8.Idx) := by
  have i0 := fun b => ((grid2_at t).2 b).2.1
  have h0 : (y 0).val = 0 := Nat.lt_one_iff.mp (y 0).isLt
  have h1 : (y 1).val = 0 := Nat.lt_one_iff.mp (y 1).isLt
  funext b
  refine Fin.ext ((((cfg2 a).win 9).rect_emb_val t y b).trans ?_)
  match b with
  | ⟨0, _⟩ => show cc2_transform_9 (grid2.coords t) 0 * 1 + (y 0).val = t.val; rw [i0 0, h0]; show t.val * 1 + 0 = t.val; omega
  | ⟨1, _⟩ => show cc2_transform_9 (grid2.coords t) 1 * 1 + (y 1).val = 0; rw [i0 1, h1]; rfl
  | ⟨2, _⟩ => show cc2_transform_9 (grid2.coords t) 2 * 8 + (y 2).val = (y 2).val; rw [i0 2]; show 0 * 8 + (y 2).val = (y 2).val; omega
/-- Every step writes its first output block back. -/
theorem flush2_9 (t : Fin grid2.N) : ((cfg2 a).win 9).flush t = true :=
  (by decide +kernel : ∀ t : Fin grid2.N, (true && (decide (t.val + 1 = grid2.N) || decide (∃ h : t.val + 1 < grid2.N, cc2_transform_9 (grid2.coords ⟨t.val + 1, h⟩) ≠ cc2_transform_9 (grid2.coords t)))) = true) t
/-- If every step leaves row `r` of `R` in its first output block, the whole array ends as `R`. -/
theorem arr2_9 (R : S64x1x8.Idx → BitVec 32) (hR : ∀ (r : Fin 64) (y : Fin 8), ((dat2 W a c).after 9 (pt2 r) : S1x1x8.Idx → BitVec 32) (ix3 0 0 y) = R (ix3 r 0 y)) :
    (dat2 W a c).arrAt 9 (cfg2 a).N = R := by
  refine (dat2 W a c).arrAt_eq_of_cover 9 R ?_ ?_
  · intro t _
    show ((cfg2 a).win 9).cut ((cfg2 a).grid.coords t) ((dat2 W a c).after 9 t) = _
    funext y
    let y' : S1x1x8.Idx := y
    have e1 : ((dat2 W a c).after 9 t : S1x1x8.Idx → BitVec 32) y' = R (ix3 (⟨t.val, t.isLt⟩ : Fin 64) 0 (y' 2)) :=
      Eq.trans (congrArg ((dat2 W a c).after 9 t : S1x1x8.Idx → BitVec 32) (idx118 y')) (hR ⟨t.val, t.isLt⟩ (y' 2))
    exact e1.trans (congrArg R (win2_9 a t y').symm)
  · intro i
    let i' : S64x1x8.Idx := i
    refine ⟨pt2 (i' 0), flush2_9 a _, ?_⟩
    refine mem_of_emb main_v7_0 (((cfg2 a).win 9).rect (pt2 (i' 0))) (ix3 0 0 (i' 2) : S1x1x8.Idx) i ((win2_9 a _ _).trans ?_)
    funext b
    have h1 : (i' 1).val = 0 := Nat.lt_one_iff.mp (i' 1).isLt
    match b with
    | ⟨0, _⟩ => rfl
    | ⟨1, _⟩ => exact Fin.ext h1.symm
    | ⟨2, _⟩ => rfl
/-- Step `t` writes row `t` of the second output array. -/
theorem win2_10 (t : Fin grid2.N) (y : S1x1x8.Idx) : (((cfg2 a).win 10).rect t).emb y = (ix3 (⟨t.val, t.isLt⟩ : Fin 64) 0 (y 2) : S64x1x8.Idx) := by
  have i0 := fun b => ((grid2_at t).2 b).2.2
  have h0 : (y 0).val = 0 := Nat.lt_one_iff.mp (y 0).isLt
  have h1 : (y 1).val = 0 := Nat.lt_one_iff.mp (y 1).isLt
  funext b
  refine Fin.ext ((((cfg2 a).win 10).rect_emb_val t y b).trans ?_)
  match b with
  | ⟨0, _⟩ => show cc2_transform_10 (grid2.coords t) 0 * 1 + (y 0).val = t.val; rw [i0 0, h0]; show t.val * 1 + 0 = t.val; omega
  | ⟨1, _⟩ => show cc2_transform_10 (grid2.coords t) 1 * 1 + (y 1).val = 0; rw [i0 1, h1]; rfl
  | ⟨2, _⟩ => show cc2_transform_10 (grid2.coords t) 2 * 8 + (y 2).val = (y 2).val; rw [i0 2]; show 0 * 8 + (y 2).val = (y 2).val; omega
/-- Every step writes its second output block back. -/
theorem flush2_10 (t : Fin grid2.N) : ((cfg2 a).win 10).flush t = true :=
  (by decide +kernel : ∀ t : Fin grid2.N, (true && (decide (t.val + 1 = grid2.N) || decide (∃ h : t.val + 1 < grid2.N, cc2_transform_10 (grid2.coords ⟨t.val + 1, h⟩) ≠ cc2_transform_10 (grid2.coords t)))) = true) t
/-- If every step leaves row `r` of `R` in its second output block, the whole array ends as `R`. -/
theorem arr2_10 (R : S64x1x8.Idx → EReal) (hR : ∀ (r : Fin 64) (y : Fin 8), ((dat2 W a c).after 10 (pt2 r) : S1x1x8.Idx → EReal) (ix3 0 0 y) = R (ix3 r 0 y)) :
    (dat2 W a c).arrAt 10 (cfg2 a).N = R := by
  refine (dat2 W a c).arrAt_eq_of_cover 10 R ?_ ?_
  · intro t _
    show ((cfg2 a).win 10).cut ((cfg2 a).grid.coords t) ((dat2 W a c).after 10 t) = _
    funext y
    let y' : S1x1x8.Idx := y
    have e1 : ((dat2 W a c).after 10 t : S1x1x8.Idx → EReal) y' = R (ix3 (⟨t.val, t.isLt⟩ : Fin 64) 0 (y' 2)) :=
      Eq.trans (congrArg ((dat2 W a c).after 10 t : S1x1x8.Idx → EReal) (idx118 y')) (hR ⟨t.val, t.isLt⟩ (y' 2))
    exact e1.trans (congrArg R (win2_10 a t y').symm)
  · intro i
    let i' : S64x1x8.Idx := i
    refine ⟨pt2 (i' 0), flush2_10 a _, ?_⟩
    refine mem_of_emb main_v7_1 (((cfg2 a).win 10).rect (pt2 (i' 0))) (ix3 0 0 (i' 2) : S1x1x8.Idx) i ((win2_10 a _ _).trans ?_)
    funext b
    have h1 : (i' 1).val = 0 := Nat.lt_one_iff.mp (i' 1).isLt
    match b with
    | ⟨0, _⟩ => rfl
    | ⟨1, _⟩ => exact Fin.ext h1.symm
    | ⟨2, _⟩ => rfl

end Cert.Math

end
-- ==== Proof.Blk3.lean ====
/- The blocks the fifth kernel reads and the array it writes, point by point. -/
module

public import proofs.«01_k».proof.Proof.Arr2

@[expose] public section

set_option maxRecDepth 16384

noncomputable section

namespace Cert.Math

open Cert.KernelIdeal hiding ix2 ix3
open Cert.KernelIdeal.Val
open Cert.KernelIdeal.Gen
open Idealize.ShloMosaic Idealize.ShloMosaic.TcCoe Idealize.ShloMosaic.Tactic
open Idealize.ShloMosaic.Pipeline (Dat Cfg Window)
variable (W : Valuation τ sig (Elt Ideal)) (a : (pcfg3 (F := Ideal)).Adm) (c : Dev nD)

/-- Step `t` of the grid has coordinate `t`, and its row block sits at row `t`. -/
theorem grid3_at : ∀ t : Fin grid3.N, (grid3.coords t 0).val = t.val ∧ ∀ b : Fin 3, cc3_transform_0 (grid3.coords t) b = (![t.val, 0, 0] : Fin 3 → ℕ) b
    ∧ cc3_transform_9 (grid3.coords t) b = (![t.val, 0, 0] : Fin 3 → ℕ) b := by decide +kernel

/-- The grid point of a query row. -/
def pt3 (r : Fin 64) : Fin grid3.N := ⟨r.val, r.isLt⟩
/-- The step for row `r` has coordinate `r`. -/
theorem pt3_row (r : Fin 64) : (grid3.coords (pt3 r) 0 : Fin 64) = r := Fin.ext (grid3_at (pt3 r)).1

/-- The first input block of the step for row `r` holds the weights of row `r`. -/
theorem blk3_0 (r : Fin 64) (k : Fin 8) (d : Fin 64) : (iblk3 W a c 0 (pt3 r) : S1x8x64.Idx → EReal) (ix3 0 k d) = (W main_v12 : S64x8x64.Idx → EReal) (ix3 r k d) := by
  refine congrArg (W main_v12 : S64x8x64.Idx → EReal) (funext fun b => Fin.ext ?_)
  have i0 := fun b => ((grid3_at (pt3 r)).2 b).1
  refine (((cfg3 a).win 0).rect_emb_val (pt3 r) _ b).trans ?_
  match b with
  | ⟨0, _⟩ => show cc3_transform_0 (grid3.coords (pt3 r)) 0 * 1 + 0 = r.val; rw [i0 0]; show r.val * 1 + 0 = _; omega
  | ⟨1, _⟩ => show cc3_transform_0 (grid3.coords (pt3 r)) 1 * 8 + k.val = k.val; rw [i0 1]; show 0 * 8 + k.val = _; omega
  | ⟨2, _⟩ => show cc3_transform_0 (grid3.coords (pt3 r)) 2 * 64 + d.val = d.val; rw [i0 2]; show 0 * 64 + d.val = _; omega
/-- The first gathered block of the step for row `r` is the 8-key row that the table word for slot 0 names. -/
theorem blk3_1 (r : Fin 64) (e : Fin 8) (d : Fin 64) (n : ℕ) (hn : n < 125000) (hw : ((a.1 0 : S64x8.Idx → BitVec 32) (ix2 r 0)).toNat = n) :
    (iblk3 W a c 1 (pt3 r) : S1x8x64.Idx → EReal) (ix3 0 e d) = (W main_v13 : S125000x8x64.Idx → EReal) (ix3 ⟨n, hn⟩ e d) := by
  refine congrArg (W main_v13 : S125000x8x64.Idx → EReal) (funext fun x => Fin.ext ?_)
  have hm := fun x => congrFun (map3_1 a.1 (grid3.coords (pt3 r))) x
  rw [pt3_row, hw] at hm
  refine (((cfg3 a).win 1).rect_emb_val (pt3 r) _ x).trans ?_
  match x with
  | ⟨0, _⟩ => show cc3_transform_1 k3_off1_inb numel1_S1x1 a.1 (grid3.coords (pt3 r)) 0 * 1 + 0 = n; rw [hm 0]; show n * 1 + 0 = n; omega
  | ⟨1, _⟩ => show cc3_transform_1 k3_off1_inb numel1_S1x1 a.1 (grid3.coords (pt3 r)) 1 * 8 + e.val = e.val; rw [hm 1]; show 0 * 8 + e.val = e.val; omega
  | ⟨2, _⟩ => show cc3_transform_1 k3_off1_inb numel1_S1x1 a.1 (grid3.coords (pt3 r)) 2 * 64 + d.val = d.val; rw [hm 2]; show 0 * 64 + d.val = d.val; omega
/-- The second gathered block of the step for row `r` is the 8-key row that the table word for slot 1 names. -/
theorem blk3_2 (r : Fin 64) (e : Fin 8) (d : Fin 64) (n : ℕ) (hn : n < 125000) (hw : ((a.1 0 : S64x8.Idx → BitVec 32) (ix2 r 1)).toNat = n) :
    (iblk3 W a c 2 (pt3 r) : S1x8x64.Idx → EReal) (ix3 0 e d) = (W main_v13 : S125000x8x64.Idx → EReal) (ix3 ⟨n, hn⟩ e d) := by
  refine congrArg (W main_v13 : S125000x8x64.Idx → EReal) (funext fun x => Fin.ext ?_)
  have hm := fun x => congrFun (map3_2 a.1 (grid3.coords (pt3 r))) x
  rw [pt3_row, hw] at hm
  refine (((cfg3 a).win 2).rect_emb_val (pt3 r) _ x).trans ?_
  match x with
  | ⟨0, _⟩ => show cc3_transform_2 k3_off2_inb numel1_S1x1 a.1 (grid3.coords (pt3 r)) 0 * 1 + 0 = n; rw [hm 0]; show n * 1 + 0 = n; omega
  | ⟨1, _⟩ => show cc3_transform_2 k3_off2_inb numel1_S1x1 a.1 (grid3.coords (pt3 r)) 1 * 8 + e.val = e.val; rw [hm 1]; show 0 * 8 + e.val = e.val; omega
  | ⟨2, _⟩ => show cc3_transform_2 k3_off2_inb numel1_S1x1 a.1 (grid3.coords (pt3 r)) 2 * 64 + d.val = d.val; rw [hm 2]; show 0 * 64 + d.val = d.val; omega
/-- The third gathered block of the step for row `r` is the 8-key row that the table word for slot 2 names. -/
theorem blk3_3 (r : Fin 64) (e : Fin 8) (d : Fin 64) (n : ℕ) (hn : n < 125000) (hw : ((a.1 0 : S64x8.Idx → BitVec 32) (ix2 r 2)).toNat = n) :
    (iblk3 W a c 3 (pt3 r) : S1x8x64.Idx → EReal) (ix3 0 e d) = (W main_v13 : S125000x8x64.Idx → EReal) (ix3 ⟨n, hn⟩ e d) := by
  refine congrArg (W main_v13 : S125000x8x64.Idx → EReal) (funext fun x => Fin.ext ?_)
  have hm := fun x => congrFun (map3_3 a.1 (grid3.coords (pt3 r))) x
  rw [pt3_row, hw] at hm
  refine (((cfg3 a).win 3).rect_emb_val (pt3 r) _ x).trans ?_
  match x with
  | ⟨0, _⟩ => show cc3_transform_3 k3_off3_inb numel1_S1x1 a.1 (grid3.coords (pt3 r)) 0 * 1 + 0 = n; rw [hm 0]; show n * 1 + 0 = n; omega
  | ⟨1, _⟩ => show cc3_transform_3 k3_off3_inb numel1_S1x1 a.1 (grid3.coords (pt3 r)) 1 * 8 + e.val = e.val; rw [hm 1]; show 0 * 8 + e.val = e.val; omega
  | ⟨2, _⟩ => show cc3_transform_3 k3_off3_inb numel1_S1x1 a.1 (grid3.coords (pt3 r)) 2 * 64 + d.val = d.val; rw [hm 2]; show 0 * 64 + d.val = d.val; omega
/-- The fourth gathered block of the step for row `r` is the 8-key row that the table word for slot 3 names. -/
theorem blk3_4 (r : Fin 64) (e : Fin 8) (d : Fin 64) (n : ℕ) (hn : n < 125000) (hw : ((a.1 0 : S64x8.Idx → BitVec 32) (ix2 r 3)).toNat = n) :
    (iblk3 W a c 4 (pt3 r) : S1x8x64.Idx → EReal) (ix3 0 e d) = (W main_v13 : S125000x8x64.Idx → EReal) (ix3 ⟨n, hn⟩ e d) := by
  refine congrArg (W main_v13 : S125000x8x64.Idx → EReal) (funext fun x => Fin.ext ?_)
  have hm := fun x => congrFun (map3_4 a.1 (grid3.coords (pt3 r))) x
  rw [pt3_row, hw] at hm
  refine (((cfg3 a).win 4).rect_emb_val (pt3 r) _ x).trans ?_
  match x with
  | ⟨0, _⟩ => show cc3_transform_4 k3_off4_inb numel1_S1x1 a.1 (grid3.coords (pt3 r)) 0 * 1 + 0 = n; rw [hm 0]; show n * 1 + 0 = n; omega
  | ⟨1, _⟩ => show cc3_transform_4 k3_off4_inb numel1_S1x1 a.1 (grid3.coords (pt3 r)) 1 * 8 + e.val = e.val; rw [hm 1]; show 0 * 8 + e.val = e.val; omega
  | ⟨2, _⟩ => show cc3_transform_4 k3_off4_inb numel1_S1x1 a.1 (grid3.coords (pt3 r)) 2 * 64 + d.val = d.val; rw [hm 2]; show 0 * 64 + d.val = d.val; omega
/-- The fifth gathered block of the step for row `r` is the 8-key row that the table word for slot 4 names. -/
theorem blk3_5 (r : Fin 64) (e : Fin 8) (d : Fin 64) (n : ℕ) (hn : n < 125000) (hw : ((a.1 0 : S64x8.Idx → BitVec 32) (ix2 r 4)).toNat = n) :
    (iblk3 W a c 5 (pt3 r) : S1x8x64.Idx → EReal) (ix3 0 e d) = (W main_v13 : S125000x8x64.Idx → EReal) (ix3 ⟨n, hn⟩ e d) := by
  refine congrArg (W main_v13 : S125000x8x64.Idx → EReal) (funext fun x => Fin.ext ?_)
  have hm := fun x => congrFun (map3_5 a.1 (grid3.coords (pt3 r))) x
  rw [pt3_row, hw] at hm
  refine (((cfg3 a).win 5).rect_emb_val (pt3 r) _ x).trans ?_
  match x with
  | ⟨0, _⟩ => show cc3_transform_5 k3_off5_inb numel1_S1x1 a.1 (grid3.coords (pt3 r)) 0 * 1 + 0 = n; rw [hm 0]; show n * 1 + 0 = n; omega
  | ⟨1, _⟩ => show cc3_transform_5 k3_off5_inb numel1_S1x1 a.1 (grid3.coords (pt3 r)) 1 * 8 + e.val = e.val; rw [hm 1]; show 0 * 8 + e.val = e.val; omega
  | ⟨2, _⟩ => show cc3_transform_5 k3_off5_inb numel1_S1x1 a.1 (grid3.coords (pt3 r)) 2 * 64 + d.val = d.val; rw [hm 2]; show 0 * 64 + d.val = d.val; omega
/-- The sixth gathered block of the step for row `r` is the 8-key row that the table word for slot 5 names. -/
theorem blk3_6 (r : Fin 64) (e : Fin 8) (d : Fin 64) (n : ℕ) (hn : n < 125000) (hw : ((a.1 0 : S64x8.Idx → BitVec 32) (ix2 r 5)).toNat = n) :
    (iblk3 W a c 6 (pt3 r) : S1x8x64.Idx → EReal) (ix3 0 e d) = (W main_v13 : S125000x8x64.Idx → EReal) (ix3 ⟨n, hn⟩ e d) := by
  refine congrArg (W main_v13 : S125000x8x64.Idx → EReal) (funext fun x => Fin.ext ?_)
  have hm := fun x => congrFun (map3_6 a.1 (grid3.coords (pt3 r))) x
  rw [pt3_row, hw] at hm
  refine (((cfg3 a).win 6).rect_emb_val (pt3 r) _ x).trans ?_
  match x with
  | ⟨0, _⟩ => show cc3_transform_6 k3_off6_inb numel1_S1x1 a.1 (grid3.coords (pt3 r)) 0 * 1 + 0 = n; rw [hm 0]; show n * 1 + 0 = n; omega
  | ⟨1, _⟩ => show cc3_transform_6 k3_off6_inb numel1_S1x1 a.1 (grid3.coords (pt3 r)) 1 * 8 + e.val = e.val; rw [hm 1]; show 0 * 8 + e.val = e.val; omega
  | ⟨2, _⟩ => show cc3_transform_6 k3_off6_inb numel1_S1x1 a.1 (grid3.coords (pt3 r)) 2 * 64 + d.val = d.val; rw [hm 2]; show 0 * 64 + d.val = d.val; omega
/-- The seventh gathered block of the step for row `r` is the 8-key row that the table word for slot 6 names. -/
theorem blk3_7 (r : Fin 64) (e : Fin 8) (d : Fin 64) (n : ℕ) (hn : n < 125000) (hw : ((a.1 0 : S64x8.Idx → BitVec 32) (ix2 r 6)).toNat = n) :
    (iblk3 W a c 7 (pt3 r) : S1x8x64.Idx → EReal) (ix3 0 e d) = (W main_v13 : S125000x8x64.Idx → EReal) (ix3 ⟨n, hn⟩ e d) := by
  refine congrArg (W main_v13 : S125000x8x64.Idx → EReal) (funext fun x => Fin.ext ?_)
  have hm := fun x => congrFun (map3_7 a.1 (grid3.coords (pt3 r))) x
  rw [pt3_row, hw] at hm
  refine (((cfg3 a).win 7).rect_emb_val (pt3 r) _ x).trans ?_
  match x with
  | ⟨0, _⟩ => show cc3_transform_7 k3_off7_inb numel1_S1x1 a.1 (grid3.coords (pt3 r)) 0 * 1 + 0 = n; rw [hm 0]; show n * 1 + 0 = n; omega
  | ⟨1, _⟩ => show cc3_transform_7 k3_off7_inb numel1_S1x1 a.1 (grid3.coords (pt3 r)) 1 * 8 + e.val = e.val; rw [hm 1]; show 0 * 8 + e.val = e.val; omega
  | ⟨2, _⟩ => show cc3_transform_7 k3_off7_inb numel1_S1x1 a.1 (grid3.coords (pt3 r)) 2 * 64 + d.val = d.val; rw [hm 2]; show 0 * 64 + d.val = d.val; omega
/-- The eighth gathered block of the step for row `r` is the 8-key row that the table word for slot 7 names. -/
theorem blk3_8 (r : Fin 64) (e : Fin 8) (d : Fin 64) (n : ℕ) (hn : n < 125000) (hw : ((a.1 0 : S64x8.Idx → BitVec 32) (ix2 r 7)).toNat = n) :
    (iblk3 W a c 8 (pt3 r) : S1x8x64.Idx → EReal) (ix3 0 e d) = (W main_v13 : S125000x8x64.Idx → EReal) (ix3 ⟨n, hn⟩ e d) := by
  refine congrArg (W main_v13 : S125000x8x64.Idx → EReal) (funext fun x => Fin.ext ?_)
  have hm := fun x => congrFun (map3_8 a.1 (grid3.coords (pt3 r))) x
  rw [pt3_row, hw] at hm
  refine (((cfg3 a).win 8).rect_emb_val (pt3 r) _ x).trans ?_
  match x with
  | ⟨0, _⟩ => show cc3_transform_8 k3_off8_inb numel1_S1x1 a.1 (grid3.coords (pt3 r)) 0 * 1 + 0 = n; rw [hm 0]; show n * 1 + 0 = n; omega
  | ⟨1, _⟩ => show cc3_transform_8 k3_off8_inb numel1_S1x1 a.1 (grid3.coords (pt3 r)) 1 * 8 + e.val = e.val; rw [hm 1]; show 0 * 8 + e.val = e.val; omega
  | ⟨2, _⟩ => show cc3_transform_8 k3_off8_inb numel1_S1x1 a.1 (grid3.coords (pt3 r)) 2 * 64 + d.val = d.val; rw [hm 2]; show 0 * 64 + d.val = d.val; omega
/-- An index of a 1 by 1 by 64 block is fixed by its last coordinate. -/
theorem idx1164 (y : S1x1x64.Idx) : y = ix3 0 0 (y 2) := by
  funext a
  have h0 : (y 0).val = 0 := Nat.lt_one_iff.mp (y 0).isLt
  have h1 : (y 1).val = 0 := Nat.lt_one_iff.mp (y 1).isLt
  match a with
  | ⟨0, _⟩ => exact Fin.ext h0
  | ⟨1, _⟩ => exact Fin.ext h1
  | ⟨2, _⟩ => rfl
/-- Step `t` writes row `t` of the output array. -/
theorem win3_9 (t : Fin grid3.N) (y : S1x1x64.Idx) : (((cfg3 a).win 9).rect t).emb y = (ix3 (⟨t.val, t.isLt⟩ : Fin 64) 0 (y 2) : S64x1x64.Idx) := by
  have i0 := fun b => ((grid3_at t).2 b).2
  have h0 : (y 0).val = 0 := Nat.lt_one_iff.mp (y 0).isLt
  have h1 : (y 1).val = 0 := Nat.lt_one_iff.mp (y 1).isLt
  funext b
  refine Fin.ext ((((cfg3 a).win 9).rect_emb_val t y b).trans ?_)
  match b with
  | ⟨0, _⟩ => show cc3_transform_9 (grid3.coords t) 0 * 1 + (y 0).val = t.val; rw [i0 0, h0]; show t.val * 1 + 0 = t.val; omega
  | ⟨1, _⟩ => show cc3_transform_9 (grid3.coords t) 1 * 1 + (y 1).val = 0; rw [i0 1, h1]; rfl
  | ⟨2, _⟩ => show cc3_transform_9 (grid3.coords t) 2 * 64 + (y 2).val = (y 2).val; rw [i0 2]; show 0 * 64 + (y 2).val = (y 2).val; omega
/-- Every step writes its output block back. -/
theorem flush3_9 (t : Fin grid3.N) : ((cfg3 a).win 9).flush t = true :=
  (by decide +kernel : ∀ t : Fin grid3.N, (true && (decide (t.val + 1 = grid3.N) || decide (∃ h : t.val + 1 < grid3.N, cc3_transform_9 (grid3.coords ⟨t.val + 1, h⟩) ≠ cc3_transform_9 (grid3.coords t)))) = true) t
/-- If every step leaves row `r` of `R` in its output block, the whole array ends as `R`. -/
theorem arr3_9 (R : S64x1x64.Idx → EReal) (hR : ∀ (r y : Fin 64), ((dat3 W a c).after 9 (pt3 r) : S1x1x64.Idx → EReal) (ix3 0 0 y) = R (ix3 r 0 y)) :
    (dat3 W a c).arrAt 9 (cfg3 a).N = R := by
  refine (dat3 W a c).arrAt_eq_of_cover 9 R ?_ ?_
  · intro t _
    show ((cfg3 a).win 9).cut ((cfg3 a).grid.coords t) ((dat3 W a c).after 9 t) = _
    funext y
    let y' : S1x1x64.Idx := y
    have e1 : ((dat3 W a c).after 9 t : S1x1x64.Idx → EReal) y' = R (ix3 (⟨t.val, t.isLt⟩ : Fin 64) 0 (y' 2)) :=
      Eq.trans (congrArg ((dat3 W a c).after 9 t : S1x1x64.Idx → EReal) (idx1164 y')) (hR ⟨t.val, t.isLt⟩ (y' 2))
    exact e1.trans (congrArg R (win3_9 a t y').symm)
  · intro i
    let i' : S64x1x64.Idx := i
    refine ⟨pt3 (i' 0), flush3_9 a _, ?_⟩
    refine mem_of_emb main_v14 (((cfg3 a).win 9).rect (pt3 (i' 0))) (ix3 0 0 (i' 2) : S1x1x64.Idx) i ((win3_9 a _ _).trans ?_)
    funext b
    have h1 : (i' 1).val = 0 := Nat.lt_one_iff.mp (i' 1).isLt
    match b with
    | ⟨0, _⟩ => rfl
    | ⟨1, _⟩ => exact Fin.ext h1.symm
    | ⟨2, _⟩ => rfl

/-- Reading a 1 by 1 by 64 array as a 1 by 64 array keeps the last coordinate. -/
theorem castRow64 {α : Type} (x : S1x1x64.Idx → α) (h) (d : Fin 64) : shapeCast S1x64 x h (ix2 0 d) = x (ix3 0 0 d) := by
  simp only [pointwise]
/-- Reading a length-64 array as a 1 by 1 by 64 array keeps the last coordinate. -/
theorem castOut64 {α : Type} (x : S64.Idx → α) (h) (d : Fin 64) : shapeCast S1x1x64 x h (ix3 0 0 d) = x (ix1 d) := by
  simp only [pointwise]
/-- Reading a 1 by 8 by 64 array as an 8 by 64 array drops the leading coordinate. -/
theorem castWt {α : Type} (x : S1x8x64.Idx → α) (h) (k : Fin 8) (d : Fin 64) : shapeCast S8x64 x h (ix2 k d) = x (ix3 0 k d) := by
  simp only [pointwise]
/-- The reduction over the rows of an 8 by 64 array is the sum down each column. -/
theorem sumRows (x : FVec Ideal S8x64 .f32) (h1 h2 h3) (d : Fin 64) :
    (multiReduction .add [0] S64 x 0x00000000#32 h1 h2 h3 (ix1 d) : EReal) = ∑ k : Fin 8, (x (ix2 k d) : EReal) := by
  simp only [pointwise, zero_add]

/-- Eight rows, one under the other. -/
def rowsOf (f : Fin 8 → FVec Ideal S1x64 .f32) : FVec Ideal S8x64 .f32 :=
  concatenate S8x64 0 (List.ofFn fun n : Fin 8 => (⟨S1x64, f n⟩ : (s : Shape) × (s.Idx → Ideal .f32))) concatenates_S1x64_S1x64_S1x64_S1x64_S1x64_S1x64_S1x64_S1x64_S8x64_d0
/-- Row `k` of the eight stacked rows is the `k`-th row given. -/
theorem rowsOf_apply (f : Fin 8 → FVec Ideal S1x64 .f32) (k : Fin 8) (d : Fin 64) : rowsOf f (ix2 k d) = f k (ix2 0 d) := rows8 f _ k d

/-- The fifth kernel's body sums the eight rows, each times its weight. -/
theorem out3_apply (x0 : Vec Ideal S1x8x64 .f32) (x : Fin 8 → Vec Ideal S1x8x64 .f32) (w : Fin 8 → BitVec 32) (d : Fin 64) :
    (out3 x0 (x 0) (x 1) (x 2) (x 3) (x 4) (x 5) (x 6) (x 7) (w 0) (w 1) (w 2) (w 3) (w 4) (w 5) (w 6) (w 7) (ix3 0 0 d) : EReal)
      = ∑ k : Fin 8, (x k (ix3 0 (Fin.ofNat 8 (w k).toNat) d) : EReal) * x0 (ix3 0 k d) := by
  have e : out3 x0 (x 0) (x 1) (x 2) (x 3) (x 4) (x 5) (x 6) (x 7) (w 0) (w 1) (w 2) (w 3) (w 4) (w 5) (w 6) (w 7)
      = shapeCast S1x1x64 (multiReduction .add [0] S64 (mulf (rowsOf fun n => shapeCast S1x64 (row3 (x n) (w n).toNat) shapeCasts_S1x1x64_S1x64)
        (shapeCast S8x64 x0 shapeCasts_S1x8x64_S8x64)) 0x00000000#32 reduces_S8x64_S64 (.inl rfl) rfl) shapeCasts_S64_S1x1x64 := rfl
  rw [e]
  refine (castOut64 _ _ d).trans ((sumRows _ _ _ _ d).trans ?_)
  refine Finset.sum_congr rfl fun k _ => ?_
  refine congrArg₂ (fun p q : EReal => p * q) ?_ (castWt x0 _ k d)
  exact (rowsOf_apply _ k d).trans (castRow64 _ _ d)

/-- The fifth kernel's output block at a grid point. -/
def og (t : Fin grid3.N) : FVec Ideal S1x1x64 .f32 := out3 (iblk3 W a c 0 t) (iblk3 W a c 1 t) (iblk3 W a c 2 t) (iblk3 W a c 3 t) (iblk3 W a c 4 t) (iblk3 W a c 5 t) (iblk3 W a c 6 t) (iblk3 W a c 7 t) (iblk3 W a c 8 t) (words3 c (a.1 1) (grid3.coords t) 0) (words3 c (a.1 1) (grid3.coords t) 1) (words3 c (a.1 1) (grid3.coords t) 2) (words3 c (a.1 1) (grid3.coords t) 3) (words3 c (a.1 1) (grid3.coords t) 4) (words3 c (a.1 1) (grid3.coords t) 5) (words3 c (a.1 1) (grid3.coords t) 6) (words3 c (a.1 1) (grid3.coords t) 7)
/-- Step `t` leaves the weighted sum of its row in the output block. -/
theorem after3_9 (t : Fin grid3.N) : (dat3 W a c).after 9 t = og W a c t := by dsimp only [dat3, og]; rfl
/-- The eight groups of rows. -/
def gs (r : Fin 64) : Fin 8 → Vec Ideal S1x8x64 .f32 := ![iblk3 W a c 1 (pt3 r), iblk3 W a c 2 (pt3 r), iblk3 W a c 3 (pt3 r), iblk3 W a c 4 (pt3 r), iblk3 W a c 5 (pt3 r), iblk3 W a c 6 (pt3 r), iblk3 W a c 7 (pt3 r), iblk3 W a c 8 (pt3 r)]
/-- The eight in-row offsets that the step for row `r` reads from the second table. -/
def ws3 (r : Fin 64) : Fin 8 → BitVec 32 := fun j => words3 c (a.1 1) (grid3.coords (pt3 r)) j
/-- The output block of the step for row `r`, written out in its weights, gathered blocks and offsets. -/
theorem og_eq (r : Fin 64) : og W a c (pt3 r) = out3 (iblk3 W a c 0 (pt3 r)) (gs W a c r 0) (gs W a c r 1) (gs W a c r 2) (gs W a c r 3) (gs W a c r 4) (gs W a c r 5) (gs W a c r 6) (gs W a c r 7) (ws3 a c r 0) (ws3 a c r 1) (ws3 a c r 2) (ws3 a c r 3) (ws3 a c r 4) (ws3 a c r 5) (ws3 a c r 6) (ws3 a c r 7) := rfl
/-- The `k`-th gathered block of row `r` is the 8-key row that the table word for slot `k` names. -/
theorem gs_apply (r : Fin 64) (k e : Fin 8) (d : Fin 64) (n : ℕ) (hn : n < 125000) (hw : ((a.1 0 : S64x8.Idx → BitVec 32) (ix2 r k)).toNat = n) :
    (gs W a c r k : S1x8x64.Idx → EReal) (ix3 0 e d) = (W main_v13 : S125000x8x64.Idx → EReal) (ix3 ⟨n, hn⟩ e d) := by
  match k with
  | ⟨0, _⟩ => exact blk3_1 W a c r e d n hn hw
  | ⟨1, _⟩ => exact blk3_2 W a c r e d n hn hw
  | ⟨2, _⟩ => exact blk3_3 W a c r e d n hn hw
  | ⟨3, _⟩ => exact blk3_4 W a c r e d n hn hw
  | ⟨4, _⟩ => exact blk3_5 W a c r e d n hn hw
  | ⟨5, _⟩ => exact blk3_6 W a c r e d n hn hw
  | ⟨6, _⟩ => exact blk3_7 W a c r e d n hn hw
  | ⟨7, _⟩ => exact blk3_8 W a c r e d n hn hw

/-- The `k`-th offset of row `r` is the word at row `r`, column `k` of the second table. -/
theorem ws3_eq (r : Fin 64) (k : Fin 8) : ws3 a c r k = (a.1 1 : S64x8.Idx → BitVec 32) (ix2 r k) :=
  congrArg (a.1 1 : S64x8.Idx → BitVec 32) (congrArg (fun i : Fin 64 => (ix2 i k : S64x8.Idx)) (pt3_row r))

/-- The fifth kernel's output at a query row: the weighted sum of the rows that the tables name. -/
theorem og_apply (r d : Fin 64) (f : Fin 8 → ℕ) (hf : ∀ k, f k < 1000000)
    (h0 : ∀ k, ((a.1 0 : S64x8.Idx → BitVec 32) (ix2 r k)).toNat = f k / 8) (P : S125000x8x64.Idx → EReal) (hP : W main_v13 = P) (Q : S64x8x64.Idx → EReal) (hQ : W main_v12 = Q) (h1 : ∀ k, ((a.1 1 : S64x8.Idx → BitVec 32) (ix2 r k)).toNat = f k % 8) :
    (og W a c (pt3 r) (ix3 0 0 d) : EReal) = ∑ k : Fin 8, P (ix3 ⟨f k / 8, by have := hf k; omega⟩ ⟨f k % 8, by omega⟩ d) * Q (ix3 r k d) := by
  subst hP hQ
  refine (congrFun (og_eq W a c r) _).trans ((out3_apply _ (gs W a c r) (ws3 a c r) d).trans ?_)
  refine Finset.sum_congr rfl fun k _ => ?_
  rw [gs_apply W a c r k _ d (f k / 8) (by have := hf k; omega) (h0 k), blk3_0, ws3_eq, h1 k]
  have e : Fin.ofNat 8 (f k % 8) = ⟨f k % 8, by omega⟩ := Fin.ext (Nat.mod_mod _ _)
  rw [e]

end Cert.Math

end
-- ==== Proof.Keys2.lean ====
/- What the third kernel writes: the labels of its eight picks and their weights. -/
module

public import proofs.«01_k».proof.Proof.Arr2

@[expose] public section

set_option maxRecDepth 16384

noncomputable section

namespace Cert.Math

open Cert.KernelIdeal hiding ix2 ix3
open Cert.KernelIdeal.Val
open Cert.KernelIdeal.Gen
open Idealize.ShloMosaic Idealize.ShloMosaic.TcCoe Idealize.ShloMosaic.Tactic
open Idealize.ShloMosaic.Pipeline (Dat Cfg Window)
variable (m : (ℓ : Loc nD τ sig) → Buf (Elt Ideal) ℓ)

attribute [local irreducible] a2

/-- The query block of the step for row `r` is query `r` of the input. -/
theorem rowq (c : Dev nD) (r d : Fin 64) : (iblk2 (W4 m c) (a2 m) c 0 (pt2 r) : S1x1x64.Idx → EReal) (ix3 0 0 d) = qry m c (ix3 ⟨r.val / 8, by have := r.isLt; omega⟩ ⟨r.val % 8, by omega⟩ d) := by
  rw [← W4_v6]
  exact blk2_0 (W4 m c) (a2 m) c r d
/-- A stretch's rows in the keys. -/
theorem blkRow (c : Dev nD) (n : ℕ) (hn : n < 15625) (a : Fin 8) (e : Fin 8) (d : Fin 64) :
    (W4 m c main_v2 : S125000x8x64.Idx → EReal) (ix3 ⟨n * 8 + a.val, by have := a.isLt; omega⟩ e d) = keys m c (ix2 ⟨64 * n + 8 * a.val + e.val, by have := a.isLt; have := e.isLt; omega⟩ d) := by
  rw [W4_v2, W1_v2]
  exact congrArg (fun i : Fin 1000000 => keys m c (ix2 i d)) (Fin.ext (by show 8 * (n * 8 + a.val) + e.val = 64 * n + 8 * a.val + e.val; omega))
/-- The first segment block of row `r` holds the 64 keys of its first chosen segment. -/
theorem seg2_1 (c : Dev nD) (r : Fin 64) (b e : Fin 8) (d : Fin 64) : (iblk2 (W4 m c) (a2 m) c 1 (pt2 r) : S8x8x64.Idx → EReal) (ix3 b e d)
    = keys m c (ix2 ⟨64 * seg m c r 0 + 8 * b.val + e.val, by have := seg_lt m c r 0 (by omega); have := b.isLt; have := e.isLt; omega⟩ d) := by
  rw [← blkRow m c (seg m c r 0) (seg_lt m c r 0 (by omega)) b e d]
  exact blk2_1 (W4 m c) (a2 m) c r b e d _ (seg_lt m c r 0 (by omega)) (a2_word m c r 0)
/-- The second segment block of row `r` holds the 64 keys of its second chosen segment. -/
theorem seg2_2 (c : Dev nD) (r : Fin 64) (b e : Fin 8) (d : Fin 64) : (iblk2 (W4 m c) (a2 m) c 2 (pt2 r) : S8x8x64.Idx → EReal) (ix3 b e d)
    = keys m c (ix2 ⟨64 * seg m c r 1 + 8 * b.val + e.val, by have := seg_lt m c r 1 (by omega); have := b.isLt; have := e.isLt; omega⟩ d) := by
  rw [← blkRow m c (seg m c r 1) (seg_lt m c r 1 (by omega)) b e d]
  exact blk2_2 (W4 m c) (a2 m) c r b e d _ (seg_lt m c r 1 (by omega)) (a2_word m c r 1)
/-- The third segment block of row `r` holds the 64 keys of its third chosen segment. -/
theorem seg2_3 (c : Dev nD) (r : Fin 64) (b e : Fin 8) (d : Fin 64) : (iblk2 (W4 m c) (a2 m) c 3 (pt2 r) : S8x8x64.Idx → EReal) (ix3 b e d)
    = keys m c (ix2 ⟨64 * seg m c r 2 + 8 * b.val + e.val, by have := seg_lt m c r 2 (by omega); have := b.isLt; have := e.isLt; omega⟩ d) := by
  rw [← blkRow m c (seg m c r 2) (seg_lt m c r 2 (by omega)) b e d]
  exact blk2_3 (W4 m c) (a2 m) c r b e d _ (seg_lt m c r 2 (by omega)) (a2_word m c r 2)
/-- The fourth segment block of row `r` holds the 64 keys of its fourth chosen segment. -/
theorem seg2_4 (c : Dev nD) (r : Fin 64) (b e : Fin 8) (d : Fin 64) : (iblk2 (W4 m c) (a2 m) c 4 (pt2 r) : S8x8x64.Idx → EReal) (ix3 b e d)
    = keys m c (ix2 ⟨64 * seg m c r 3 + 8 * b.val + e.val, by have := seg_lt m c r 3 (by omega); have := b.isLt; have := e.isLt; omega⟩ d) := by
  rw [← blkRow m c (seg m c r 3) (seg_lt m c r 3 (by omega)) b e d]
  exact blk2_4 (W4 m c) (a2 m) c r b e d _ (seg_lt m c r 3 (by omega)) (a2_word m c r 3)
/-- The fifth segment block of row `r` holds the 64 keys of its fifth chosen segment. -/
theorem seg2_5 (c : Dev nD) (r : Fin 64) (b e : Fin 8) (d : Fin 64) : (iblk2 (W4 m c) (a2 m) c 5 (pt2 r) : S8x8x64.Idx → EReal) (ix3 b e d)
    = keys m c (ix2 ⟨64 * seg m c r 4 + 8 * b.val + e.val, by have := seg_lt m c r 4 (by omega); have := b.isLt; have := e.isLt; omega⟩ d) := by
  rw [← blkRow m c (seg m c r 4) (seg_lt m c r 4 (by omega)) b e d]
  exact blk2_5 (W4 m c) (a2 m) c r b e d _ (seg_lt m c r 4 (by omega)) (a2_word m c r 4)
/-- The sixth segment block of row `r` holds the 64 keys of its sixth chosen segment. -/
theorem seg2_6 (c : Dev nD) (r : Fin 64) (b e : Fin 8) (d : Fin 64) : (iblk2 (W4 m c) (a2 m) c 6 (pt2 r) : S8x8x64.Idx → EReal) (ix3 b e d)
    = keys m c (ix2 ⟨64 * seg m c r 5 + 8 * b.val + e.val, by have := seg_lt m c r 5 (by omega); have := b.isLt; have := e.isLt; omega⟩ d) := by
  rw [← blkRow m c (seg m c r 5) (seg_lt m c r 5 (by omega)) b e d]
  exact blk2_6 (W4 m c) (a2 m) c r b e d _ (seg_lt m c r 5 (by omega)) (a2_word m c r 5)
/-- The seventh segment block of row `r` holds the 64 keys of its seventh chosen segment. -/
theorem seg2_7 (c : Dev nD) (r : Fin 64) (b e : Fin 8) (d : Fin 64) : (iblk2 (W4 m c) (a2 m) c 7 (pt2 r) : S8x8x64.Idx → EReal) (ix3 b e d)
    = keys m c (ix2 ⟨64 * seg m c r 6 + 8 * b.val + e.val, by have := seg_lt m c r 6 (by omega); have := b.isLt; have := e.isLt; omega⟩ d) := by
  rw [← blkRow m c (seg m c r 6) (seg_lt m c r 6 (by omega)) b e d]
  exact blk2_7 (W4 m c) (a2 m) c r b e d _ (seg_lt m c r 6 (by omega)) (a2_word m c r 6)
/-- The eighth segment block of row `r` holds the 64 keys of its eighth chosen segment. -/
theorem seg2_8 (c : Dev nD) (r : Fin 64) (b e : Fin 8) (d : Fin 64) : (iblk2 (W4 m c) (a2 m) c 8 (pt2 r) : S8x8x64.Idx → EReal) (ix3 b e d)
    = keys m c (ix2 ⟨64 * seg m c r 7 + 8 * b.val + e.val, by have := seg_lt m c r 7 (by omega); have := b.isLt; have := e.isLt; omega⟩ d) := by
  rw [← blkRow m c (seg m c r 7) (seg_lt m c r 7 (by omega)) b e d]
  exact blk2_8 (W4 m c) (a2 m) c r b e d _ (seg_lt m c r 7 (by omega)) (a2_word m c r 7)
/-- The eight stretches' numbers, as words. -/
def wd (c : Dev nD) (r : Fin 64) : Fin 8 → BitVec 32 := fun j => words2 c ((a2 m).1 0) (grid2.coords (pt2 r)) j
/-- The eight stretches. -/
def xs (c : Dev nD) (r : Fin 64) : Fin 8 → Vec Ideal S8x8x64 .f32 := ![iblk2 (W4 m c) (a2 m) c 1 (pt2 r), iblk2 (W4 m c) (a2 m) c 2 (pt2 r), iblk2 (W4 m c) (a2 m) c 3 (pt2 r), iblk2 (W4 m c) (a2 m) c 4 (pt2 r), iblk2 (W4 m c) (a2 m) c 5 (pt2 r), iblk2 (W4 m c) (a2 m) c 6 (pt2 r), iblk2 (W4 m c) (a2 m) c 7 (pt2 r), iblk2 (W4 m c) (a2 m) c 8 (pt2 r)]
/-- The 512 candidates' labels and their scores, as the kernel holds them. -/
def cc (c : Dev nD) (r : Fin 64) : IVec S1x512 32 := cg (a2 m) c (pt2 r)
/-- The 512 candidate scores of row `r`. -/
def ss (c : Dev nD) (r : Fin 64) : FVec Ideal S1x512 .f32 := sg (W4 m c) (a2 m) c (pt2 r)
/-- The candidate labels of row `r`, written out in the eight table words. -/
theorem cc_eq (c : Dev nD) (r : Fin 64) : cc m c r = c2 (wd m c r 0) (wd m c r 1) (wd m c r 2) (wd m c r 3) (wd m c r 4) (wd m c r 5) (wd m c r 6) (wd m c r 7) := rfl
/-- The candidate scores of row `r`, written out in the query and the eight segment blocks. -/
theorem ss_eq (c : Dev nD) (r : Fin 64) : ss m c r = s2 (iblk2 (W4 m c) (a2 m) c 0 (pt2 r)) (xs m c r 0) (xs m c r 1) (xs m c r 2) (xs m c r 3) (xs m c r 4) (xs m c r 5) (xs m c r 6) (xs m c r 7) := rfl

/-- The `j`-th table word of row `r` is its `j`-th chosen segment. -/
theorem wd_toNat (c : Dev nD) (r : Fin 64) (j : Fin 8) : (wd m c r j).toNat = seg m c r j.val := by
  have e : wd m c r j = ((a2 m).1 0 : S64x8.Idx → BitVec 32) (ix2 r j) :=
    congrArg ((a2 m).1 0 : S64x8.Idx → BitVec 32) (congrArg (fun i : Fin 64 => (ix2 i j : S64x8.Idx)) (pt2_row r))
  rw [e, a2_word]
/-- The `n`-th segment block of row `r` holds the 64 keys of its `n`-th chosen segment. -/
theorem xs_apply (c : Dev nD) (r : Fin 64) (n : Fin 8) (b e : Fin 8) (d : Fin 64) : (xs m c r n : S8x8x64.Idx → EReal) (ix3 b e d)
    = keys m c (ix2 ⟨64 * seg m c r n.val + 8 * b.val + e.val, by have := seg_lt m c r n.val n.isLt; have := b.isLt; have := e.isLt; omega⟩ d) := by
  match n with
  | ⟨0, _⟩ => exact seg2_1 m c r b e d
  | ⟨1, _⟩ => exact seg2_2 m c r b e d
  | ⟨2, _⟩ => exact seg2_3 m c r b e d
  | ⟨3, _⟩ => exact seg2_4 m c r b e d
  | ⟨4, _⟩ => exact seg2_5 m c r b e d
  | ⟨5, _⟩ => exact seg2_6 m c r b e d
  | ⟨6, _⟩ => exact seg2_7 m c r b e d
  | ⟨7, _⟩ => exact seg2_8 m c r b e d

/-- Every candidate label is below one million. -/
theorem cand_lt (c : Dev nD) (r : Fin 64) (p : Fin 512) : cand (seg m c r) p < 1000000 := by
  have := seg_lt m c r (p.val / 64) (by have := p.isLt; omega)
  unfold cand
  omega
/-- The candidate label words are the candidate labels. -/
theorem cc_toNat (c : Dev nD) (r : Fin 64) (p : Fin 512) : (cc m c r (ix2 0 p)).toNat = cand (seg m c r) p := by
  rw [cc_eq]
  refine (c2_apply (wd m c r) (fun n => ?_) p).trans ?_
  · rw [wd_toNat]; have := seg_lt m c r n.val n.isLt; omega
  · rw [wd_toNat]; rfl
/-- The score at place `p` is the score of the candidate label at place `p`. -/
theorem ss_apply (c : Dev nD) (r : Fin 64) (p : Fin 512) : (ss m c r (ix2 0 p) : EReal) = scr m c r (cand (seg m c r) p) := by
  rw [ss_eq]
  refine (s2_apply _ (xs m c r) p).trans ?_
  unfold scr
  rw [dif_pos (cand_lt m c r p)]
  refine Finset.sum_congr rfl fun d _ => ?_
  rw [rowq, xs_apply, mul_comm]
  refine congrArg (fun i : Fin 1000000 => keys m c (ix2 i d) * qry m c (ix3 ⟨r.val / 8, by have := r.isLt; omega⟩ ⟨r.val % 8, by omega⟩ d)) (Fin.ext ?_)
  show 64 * seg m c r (p.val / 64) + 8 * (p.val % 64 / 8) + p.val % 64 % 8 = 64 * seg m c r (p.val / 64) + p.val % 64
  omega

/-- The label picked for query row `r` in round `k`. -/
def pk (c : Dev nD) (r : Fin 64) (k : ℕ) : ℕ := (pick2 (cc m c r) (left2 (cc m c r) (ss m c r) k) (ix2 0 0)).toNat
/-- The greatest score left before round `k`. -/
def best (c : Dev nD) (r : Fin 64) (k : ℕ) : EReal := ⨆ p, rest (cand (seg m c r)) (fun p => scr m c r (cand (seg m c r) p)) (pk m c r) k p

/-- Every candidate label is below the marker `2 ^ 30`. -/
theorem cc_small (c : Dev nD) (r : Fin 64) (p : Fin 512) : (cc m c r (ix2 0 p)).toNat < 1073741824 := by
  rw [cc_toNat]; have := cand_lt m c r p; omega
/-- The eight rounds pick the best candidates one after another, ties going to the smaller label. -/
theorem pk_picks (c : Dev nD) (r : Fin 64) : Picks (cand (seg m c r)) (fun p => scr m c r (cand (seg m c r) p)) (pk m c r) := by
  have h := (picks2 (cc m c r) (ss m c r) (cc_small m c r)).1
  rwa [show (fun p : Fin 512 => (cc m c r (ix2 0 p)).toNat) = cand (seg m c r) from funext (cc_toNat m c r),
    show (fun p : Fin 512 => (ss m c r (ix2 0 p) : EReal)) = (fun p => scr m c r (cand (seg m c r) p)) from funext (ss_apply m c r)] at h
/-- Every picked label is below one million. -/
theorem pk_lt (c : Dev nD) (r : Fin 64) (k : ℕ) (hk : k < 8) : pk m c r k < 1000000 := by
  obtain ⟨p, hp⟩ := pick_label _ _ _ (pk_picks m c r k hk)
  rw [← hp]
  exact cand_lt m c r p
/-- The maximum found in round `k` is the score of the label picked in round `k`. -/
theorem best_eq (c : Dev nD) (r : Fin 64) (k : ℕ) (j : S1x1.Idx) : max2 (left2 (cc m c r) (ss m c r) k) j = best m c r k := by
  have h := max2_left (cc m c r) (ss m c r) (cc_small m c r) k j
  rwa [show (fun p : Fin 512 => (cc m c r (ix2 0 p)).toNat) = cand (seg m c r) from funext (cc_toNat m c r),
    show (fun p : Fin 512 => (ss m c r (ix2 0 p) : EReal)) = (fun p => scr m c r (cand (seg m c r) p)) from funext (ss_apply m c r)] at h

/-- The weight of the label picked in round `k`. -/
def wgtK (c : Dev nD) (r : Fin 64) (k : Fin 8) : EReal :=
  Ideal.div (Ideal.exp (best m c r k.val - best m c r 0)) (∑ n : Fin 8, Ideal.exp (best m c r n.val - best m c r 0))
/-- The two arrays the kernel leaves. -/
def lab (c : Dev nD) : S64x1x8.Idx → BitVec 32 := fun i => pick2 (cc m c (i 0)) (left2 (cc m c (i 0)) (ss m c (i 0)) (i 2).val) (ix2 0 0)
/-- The array of weights, one row of eight for each query. -/
def wts (c : Dev nD) : S64x1x8.Idx → EReal := fun i => wgtK m c (i 0) (i 2)

attribute [local irreducible] cc ss
/-- The second-stage kernel ends with the array of picked labels. -/
theorem final2_9 (c : Dev nD) : (dat2 (W4 m c) (a2 m) c).arrAt 9 (cfg2 (a2 m)).N = (lab m c : S64x1x8.Idx → BitVec 32) := by
  refine arr2_9 (W4 m c) (a2 m) c (lab m c) fun r y => ?_
  have e : out2a (cg (a2 m) c (pt2 r)) (sg (W4 m c) (a2 m) c (pt2 r)) = out2a (cc m c r) (ss m c r) := by unfold cc ss; rfl
  rw [after2_9, e]
  exact (out2a_apply (cc m c r) (ss m c r) y)
/-- The second-stage kernel ends with the array of weights. -/
theorem final2_10 (c : Dev nD) : (dat2 (W4 m c) (a2 m) c).arrAt 10 (cfg2 (a2 m)).N = (wts m c : S64x1x8.Idx → EReal) := by
  refine arr2_10 (W4 m c) (a2 m) c (wts m c) fun r y => ?_
  have e : out2b (cg (a2 m) c (pt2 r)) (sg (W4 m c) (a2 m) c (pt2 r)) = out2b (cc m c r) (ss m c r) := by unfold cc ss; rfl
  rw [after2_10, e]
  exact out2b_apply _ _ (fun k => best m c r k.val) (fun k => best_eq m c r k.val _) y
/-- The label buffer holds the picked labels after the second-stage kernel. -/
theorem W5_v70 (c : Dev nD) (r : Fin 64) (k : Fin 8) : ((W5 m (a2 m) c main_v7_0 : S64x1x8.Idx → BitVec 32) (ix3 r 0 k)).toNat = pk m c r k.val := by
  rw [W5_out0, final2_9]; rfl
/-- The weight buffer holds the weights after the second-stage kernel. -/
theorem W5_v71 (c : Dev nD) (r : Fin 64) (k : Fin 8) : (W5 m (a2 m) c main_v7_1 : S64x1x8.Idx → EReal) (ix3 r 0 k) = wgtK m c r k := by
  rw [W5_out1, final2_10]; rfl

end Cert.Math

end
-- ==== Proof.Div.lean ====
/- The host's floor division and remainder by eight. -/
module

public import proofs.«01_k».proof.Proof.Keys2
public import Idealize.ShloMosaic.Lib.Routing.Words

@[expose] public section

set_option maxRecDepth 16384

noncomputable section

namespace Cert.Math

open Cert.KernelIdeal hiding ix2 ix3
open Cert.KernelIdeal.Val
open Cert.KernelIdeal.Gen
open Idealize.ShloMosaic Idealize.ShloMosaic.TcCoe Idealize.ShloMosaic.Tactic
variable (m : (ℓ : Loc nD τ sig) → Buf (Elt Ideal) ℓ)
attribute [local irreducible] a2

/-- The host's floor division by eight, word by word. -/
def fdiv8 (x : S64x8.Idx → BitVec 32) (d : S_.Idx → BitVec 32) : S64x8.Idx → BitVec 32 :=
  let q : IVec S64x8 32 := Host.divsi x (broadcastInDim S64x8 ![] bcast_S_S64x8 d)
  select (andi (cmpi .ne (signi x : IVec S64x8 32) (broadcastInDim S64x8 ![] bcast_S_S64x8 (signi d : IVec S_ 32))) (cmpi .ne (Host.remsi x (broadcastInDim S64x8 ![] bcast_S_S64x8 d)) (broadcastInDim S64x8 ![] bcast_S_S64x8 (constantI S_ 32 0#32))))
    (subi q (broadcastInDim S64x8 ![] bcast_S_S64x8 (constantI S_ 32 1#32))) q

/-- The quotient table is the floor quotient of the chosen labels by the constant. -/
theorem fdiv8_read (V : Valuation τ sig (Elt Ideal)) : (StableHlo.after hostOps3_1 V main_v9 : S64x8.Idx → BitVec 32) = fdiv8 (V main_v8) (V main_c) := by
  after_results_simp
  simp only [StableHlo.TRef.ofBuf_toBuf]
  rfl

/-- For words below one million the floor quotient by eight is the quotient of natural numbers. -/
theorem fdiv8_apply (x : S64x8.Idx → BitVec 32) (i : Fin 64) (k : Fin 8) (h : (x (ix2 i k)).toNat < 1000000) :
    (fdiv8 x (constantI S_ 32 8#32) (ix2 i k)).toNat = (x (ix2 i k)).toNat / 8 := by
  unfold fdiv8
  simp only [pointwise]
  generalize x (ix2 i k) = w at h ⊢
  have hw : w = BitVec.ofNat 32 w.toNat := by simp
  have hq : IntOp.divsi ArithUnit.host w 8#32 = BitVec.ofNat 32 (w.toNat / 8) := by
    conv_lhs => rw [hw]
    exact Routing.divsi_word ArithUnit.host (by omega) (by omega) (by omega)
  by_cases h0 : w = 0
  · subst h0
    decide +kernel
  · have hm : w.msb = false := by rw [BitVec.msb_eq_false_iff_two_mul_lt]; omega
    rw [if_neg h0, hm, hq]
    generalize IntOp.cmpi CmpIPredicate.ne (IntOp.remsi ArithUnit.host w 8#32) 0#32 = z
    have e2 : IntOp.andi (IntOp.cmpi CmpIPredicate.ne (1 : BitVec 32) 1) z = 0#1 := by revert z; decide
    show BitVec.toNat (Scalar.select (IntOp.andi (IntOp.cmpi CmpIPredicate.ne (1 : BitVec 32) 1) z) _ (BitVec.ofNat 32 (w.toNat / 8)) : BitVec 32) = _
    rw [e2]
    show (BitVec.ofNat 32 (w.toNat / 8)).toNat = _
    rw [BitVec.toNat_ofNat]
    omega

/-- The host's remainder by eight, word by word. -/
def frem8 (x : S64x8.Idx → BitVec 32) (d : S_.Idx → BitVec 32) : S64x8.Idx → BitVec 32 :=
  let y : IVec S_ 32 := select (cmpi .eq d (constantI S_ 32 0#32)) (constantI S_ 32 1#32) d
  let r : IVec S64x8 32 := Host.remsi x (broadcastInDim S64x8 ![] bcast_S_S64x8 y)
  select (andi (cmpi .ne (cmpi .slt r (broadcastInDim S64x8 ![] bcast_S_S64x8 (constantI S_ 32 0#32))) (broadcastInDim S64x8 ![] bcast_S_S64x8 (cmpi .slt y (constantI S_ 32 0#32))))
      (cmpi .ne r (broadcastInDim S64x8 ![] bcast_S_S64x8 (constantI S_ 32 0#32))))
    (addi r (broadcastInDim S64x8 ![] bcast_S_S64x8 y)) r

/-- The offset table is the floor remainder of the chosen labels by the constant. -/
theorem frem8_read (V : Valuation τ sig (Elt Ideal)) : (StableHlo.after hostOps3_3 V main_v10 : S64x8.Idx → BitVec 32) = frem8 (V main_v8) (V main_c_0) := by
  after_results_simp
  simp only [StableHlo.TRef.ofBuf_toBuf]
  rfl

/-- For words below one million the floor remainder by eight is the remainder of natural numbers. -/
theorem frem8_apply (x : S64x8.Idx → BitVec 32) (i : Fin 64) (k : Fin 8) (h : (x (ix2 i k)).toNat < 1000000) :
    (frem8 x (constantI S_ 32 8#32) (ix2 i k)).toNat = (x (ix2 i k)).toNat % 8 := by
  unfold frem8
  simp only [pointwise]
  generalize x (ix2 i k) = w at h ⊢
  have hw : w = BitVec.ofNat 32 w.toNat := by simp
  have e0 : Scalar.select (IntOp.cmpi CmpIPredicate.eq 8#32 0#32) 1#32 8#32 = 8#32 := by decide +kernel
  have hq : IntOp.remsi ArithUnit.host w 8#32 = BitVec.ofNat 32 (w.toNat % 8) := by
    conv_lhs => rw [hw]
    exact Routing.remsi_word ArithUnit.host (by omega) (by omega) (by omega)
  rw [e0, hq]
  have hk : w.toNat % 8 < 8 := by omega
  generalize w.toNat % 8 = n at hk ⊢
  interval_cases n <;> decide +kernel

/-- The label table, before the division, holds the picked labels. -/
theorem W6_v8 (c : Dev nD) (i : Fin 64) (k : Fin 8) : ((W6 m (a2 m) c main_v8 : S64x8.Idx → BitVec 32) (ix2 i k)).toNat = pk m c i k.val := by
  have e : (W6 m (a2 m) c main_v8 : S64x8.Idx → BitVec 32) = shapeCast S64x8 (W5 m (a2 m) c main_v7_0 : S64x1x8.Idx → BitVec 32) shapeCasts_S64x1x8_S64x8 := by
    unfold W6
    after_results_simp
    rfl
  rw [e, ← W5_v70]
  simp only [pointwise]
/-- The divisor of the quotient is the constant eight. -/
theorem W6_c (c : Dev nD) : (W6 m (a2 m) c main_c : S_.Idx → BitVec 32) = constantI S_ 32 8#32 := by
  unfold W6
  after_results_simp
/-- The label table is still unchanged after the division. -/
theorem W8_v8 (c : Dev nD) : W8 m (a2 m) c main_v8 = W6 m (a2 m) c main_v8 := by
  unfold W8 W7
  after_results_simp
/-- The divisor of the remainder is the constant eight. -/
theorem W8_c0 (c : Dev nD) : (W8 m (a2 m) c main_c_0 : S_.Idx → BitVec 32) = constantI S_ 32 8#32 := by
  unfold W8
  after_results_simp
/-- The quotient table holds each picked label divided by eight. -/
theorem W10_v9 (c : Dev nD) (i : Fin 64) (k : Fin 8) : ((W10 m (a2 m) c main_v9 : S64x8.Idx → BitVec 32) (ix2 i k)).toNat = pk m c i k.val / 8 := by
  have e : W10 m (a2 m) c main_v9 = W7 m (a2 m) c main_v9 := by
    unfold W10 W9 W8
    after_results_simp
  have e2 : (W7 m (a2 m) c main_v9 : S64x8.Idx → BitVec 32) = fdiv8 (W6 m (a2 m) c main_v8) (W6 m (a2 m) c main_c) := fdiv8_read _
  have h := W6_v8 m c i k
  rw [e, e2, W6_c, fdiv8_apply _ i k (by rw [h]; exact pk_lt m c i k.val k.isLt), h]
/-- The offset table holds each picked label modulo eight. -/
theorem W10_v10 (c : Dev nD) (i : Fin 64) (k : Fin 8) : ((W10 m (a2 m) c main_v10 : S64x8.Idx → BitVec 32) (ix2 i k)).toNat = pk m c i k.val % 8 := by
  have e : W10 m (a2 m) c main_v10 = W9 m (a2 m) c main_v10 := by
    unfold W10
    after_results_simp
  have e2 : (W9 m (a2 m) c main_v10 : S64x8.Idx → BitVec 32) = frem8 (W8 m (a2 m) c main_v8) (W8 m (a2 m) c main_c_0) := frem8_read _
  have h := W6_v8 m c i k
  rw [e, e2, W8_c0, W8_v8, frem8_apply _ i k (by rw [h]; exact pk_lt m c i k.val k.isLt), h]
/-- Reading a 64 by 1 by 8 array as 64 by 8 by 1 moves the last coordinate to the middle. -/
theorem castW {α : Type} (x : S64x1x8.Idx → α) (h) (r : Fin 64) (k : Fin 8) : shapeCast S64x8x1 x h (ix3 r k 0) = x (ix3 r 0 k) := by
  simp only [pointwise]
/-- Broadcasting along the last axis repeats each entry. -/
theorem bcW {α : Type} (x : S64x8x1.Idx → α) (r : Fin 64) (k : Fin 8) (d : Fin 64) : broadcastInDim S64x8x64 ![0, 1, 2] bcast_S64x8x1_S64x8x64_0_1_2 x (ix3 r k d) = x (ix3 r k 0) := by
  simp only [pointwise]
  rfl
/-- The weight array repeats weight `k` of row `r` along the last axis. -/
theorem W10_v12 (c : Dev nD) (r : Fin 64) (k : Fin 8) (d : Fin 64) : (W10 m (a2 m) c main_v12 : S64x8x64.Idx → EReal) (ix3 r k d) = wgtK m c r k := by
  have e : (W10 m (a2 m) c main_v12 : S64x8x64.Idx → EReal) = broadcastInDim S64x8x64 ![0, 1, 2] bcast_S64x8x1_S64x8x64_0_1_2 (shapeCast S64x8x1 (W5 m (a2 m) c main_v7_1 : S64x1x8.Idx → EReal) shapeCasts_S64x1x8_S64x8x1) := by
    unfold W10 W9 W8 W7 W6
    after_results_simp
    rfl
  rw [e]
  exact (bcW _ r k d).trans ((castW _ _ r k).trans (W5_v71 m c r k))
/-- The pool array, read in rows of eight, holds entry `8 * a + e` of the pool. -/
theorem W10_v13 (c : Dev nD) (a : Fin 125000) (e : Fin 8) (d : Fin 64) : (W10 m (a2 m) c main_v13 : S125000x8x64.Idx → EReal) (ix3 a e d) = pool m c (ix2 ⟨8 * a.val + e.val, by have := a.isLt; have := e.isLt; omega⟩ d) := by
  refine Eq.trans (congrFun (g := shapeCast S125000x8x64 (pool m c) shapeCasts_S1000000x64_S125000x8x64) ?_ _) (castKeys (pool m c) _ a e d)
  have h5 : W5 m (a2 m) c main_arg1 = pool m c := by
    rw [W5_of m (a2 m) c main_arg1 (by decide) (by decide)]
    unfold W4
    after_results_simp
    rw [W3_of m c main_arg1 (by decide), W2_of m c main_arg1 (by decide)]
    unfold W1
    after_results_simp
  rw [← h5]
  unfold W10 W9 W8 W7 W6
  after_results_simp
  rfl

/-- The fifth kernel's tables: each pick's eight-row group and its row in the group. -/
def a3 : (pcfg3 (F := Ideal)).Adm :=
  ⟨fun k => bufs (W10 m (a2 m) 0) 0 (pre3.ref k), ok_of3 _ fun i j => by
    refine lt_of_eq_of_lt (W10_v9 m 0 i j) ?_
    have := pk_lt m 0 i j.val j.isLt
    omega⟩
/-- The two table buffers hold the tables that the gathering kernel is run with. -/
theorem ht3 (c : Dev nD) (k : Fin pre3.K) : bufs (W10 m (a2 m) c) c (pre3.ref k) = (a3 m).1 k := by
  have : c = 0 := Subsingleton.elim c 0
  subst this
  rfl
/-- The first table of the gathering kernel holds each picked label divided by eight. -/
theorem a3_word0 (c : Dev nD) (r : Fin 64) (k : Fin 8) : (((a3 m).1 0 : S64x8.Idx → BitVec 32) (ix2 r k)).toNat = pk m c r k.val / 8 := by
  have : c = 0 := Subsingleton.elim c 0
  subst this
  exact W10_v9 m 0 r k
/-- The second table of the gathering kernel holds each picked label modulo eight. -/
theorem a3_word1 (c : Dev nD) (r : Fin 64) (k : Fin 8) : (((a3 m).1 1 : S64x8.Idx → BitVec 32) (ix2 r k)).toNat = pk m c r k.val % 8 := by
  have : c = 0 := Subsingleton.elim c 0
  subst this
  exact W10_v10 m 0 r k
/-- Every offset that the gathering kernel reads is below eight. -/
theorem hw3 (c : Dev nD) (t : Fin grid3.N) (j : Fin 8) : (words3 c ((a3 m).1 1) (grid3.coords t) j).toNat < 8 := by
  refine lt_of_eq_of_lt (a3_word1 m c (grid3.coords t 0) j) ?_
  omega

end Cert.Math

end
-- ==== Proof.Final.lean ====
/- What the whole kernel computes: the gathered rows' weighted sum, times the last matrix. -/
module

public import proofs.«01_k».proof.Proof.Blk3
public import proofs.«01_k».proof.Proof.Div

@[expose] public section

set_option maxRecDepth 16384

noncomputable section

namespace Cert.Math

open Cert.KernelIdeal hiding ix2 ix3
open Cert.KernelIdeal.Val
open Cert.KernelIdeal.Gen
open Idealize.ShloMosaic Idealize.ShloMosaic.TcCoe Idealize.ShloMosaic.Tactic
open Idealize.ShloMosaic.Pipeline (Dat Cfg Window)
variable (m : (ℓ : Loc nD τ sig) → Buf (Elt Ideal) ℓ)
attribute [local irreducible] a2 a3

/-- The weighted sum of the rows picked for a query row. -/
def agg (c : Dev nD) (r d : Fin 64) : EReal := ∑ k : Fin 8, pool m c (ix2 ⟨pk m c r k.val, pk_lt m c r k.val k.isLt⟩ d) * wgtK m c r k
/-- The array of weighted sums, one row for each query. -/
def aggA (c : Dev nD) : S64x1x64.Idx → EReal := fun i => agg m c (i 0) (i 2)
/-- The kernel's result. -/
def res (c : Dev nD) : S64x64.Idx → EReal := fun i => ∑ d : Fin 64, agg m c (i 0) d * wgt m c (ix2 (i 1) d)

/-- The gathering kernel ends with the array of weighted sums. -/
theorem final3 (c : Dev nD) : (dat3 (W10 m (a2 m) c) (a3 m) c).arrAt 9 (cfg3 (a3 m)).N = aggA m c := by
  refine arr3_9 (W10 m (a2 m) c) (a3 m) c (aggA m c) fun r d => ?_
  rw [after3_9]
  refine (og_apply (W10 m (a2 m) c) (a3 m) c r d (fun k => pk m c r k.val) (fun k => pk_lt m c r k.val k.isLt) (a3_word0 m c r) (W10 m (a2 m) c main_v13 : S125000x8x64.Idx → EReal) rfl (W10 m (a2 m) c main_v12 : S64x8x64.Idx → EReal) rfl (a3_word1 m c r)).trans ?_
  show _ = ∑ k : Fin 8, pool m c (ix2 ⟨pk m c r k.val, pk_lt m c r k.val k.isLt⟩ d) * wgtK m c r k
  refine Finset.sum_congr rfl fun k _ => ?_
  refine congrArg₂ (fun x y : EReal => x * y) ((W10_v13 m c _ _ d).trans ?_) (W10_v12 m c r k d)
  refine congrArg (fun i : Fin 1000000 => pool m c (ix2 i d)) (Fin.ext ?_)
  show 8 * (pk m c r k.val / 8) + pk m c r k.val % 8 = pk m c r k.val
  omega

/-- Reading a 64 by 1 by 64 array as 64 by 64 drops the middle coordinate. -/
theorem castAgg {α : Type} (x : S64x1x64.Idx → α) (h) (r d : Fin 64) : shapeCast S64x64 x h (ix2 r d) = x (ix3 r 0 d) := by
  simp only [pointwise]
/-- Reading a 64 by 64 array as 8 by 8 by 64 splits the row number by eight. -/
theorem castRes {α : Type} (x : S64x64.Idx → α) (h) (b q : Fin 8) (d : Fin 64) : shapeCast S8x8x64 x h (ix3 b q d) = x (ix2 ⟨8 * b.val + q.val, by have := b.isLt; have := q.isLt; omega⟩ d) := by
  simp only [pointwise]
  congr 2
  simp only [Fin.mk.injEq]
  omega
/-- The last kernel computes the matrix product of its two blocks. -/
theorem dot4_apply (x w : FVec Ideal S64x64 .f32) (i j : Fin 64) : (k4_pay1 (F := Ideal) x w (ix2 i j) : EReal) = ∑ d : Fin 64, (x (ix2 i d) : EReal) * w (ix2 j d) := by
  unfold k4_pay1
  simp only [pointwise, zero_add, shapeCast_self]

/-- The left factor of the last product is the array of weighted sums. -/
theorem W12_v15 (c : Dev nD) (r d : Fin 64) : (W12 m (a2 m) (a3 m) c main_v15 : S64x64.Idx → EReal) (ix2 r d) = agg m c r d := by
  have e : (W12 m (a2 m) (a3 m) c main_v15 : S64x64.Idx → EReal) = shapeCast S64x64 (W11 m (a2 m) (a3 m) c main_v14 : S64x1x64.Idx → EReal) shapeCasts_S64x1x64_S64x64 := by
    unfold W12
    after_results_simp
    rfl
  rw [e, W11_out, final3]
  exact castAgg _ _ r d
/-- The right factor of the last product is the weight matrix given as input. -/
theorem W12_arg3 (c : Dev nD) : (W12 m (a2 m) (a3 m) c main_arg3 : S64x64.Idx → EReal) = wgt m c := by
  unfold W12
  after_results_simp
  rw [W11_of m (a2 m) (a3 m) c main_arg3 (by decide)]
  unfold W10 W9 W8 W7 W6
  after_results_simp
  rw [W5_of m (a2 m) c main_arg3 (by decide) (by decide)]
  unfold W4
  after_results_simp
  rw [W3_of m c main_arg3 (by decide), W2_of m c main_arg3 (by decide)]
  unfold W1
  after_results_simp

/-- The blocks of the last kernel all sit at the origin. -/
theorem win4_at : ∀ t : Fin cfg4.N, (cfg4.win 0).index t 0 = 0 ∧ (cfg4.win 0).index t 1 = 0 ∧ (cfg4.win 1).index t 0 = 0 ∧ (cfg4.win 1).index t 1 = 0 ∧ (cfg4.win 2).index t 0 = 0 ∧ (cfg4.win 2).index t 1 = 0
   ∧ (cfg4.win 2).xsize (cfg4.grid.coords t) 0 = 64 ∧ (cfg4.win 2).xsize (cfg4.grid.coords t) 1 = 64 := by decide +kernel

/-- The first block of the last kernel is its whole first array. -/
theorem blk4_0 (W : Valuation τ sig (Elt Ideal)) (c : Dev nD) (t : Fin cfg4.N) : (iblk4 W c 0 t : S64x64.Idx → EReal) = W main_v15 := by
  obtain ⟨i0, i1, -⟩ := win4_at t
  funext y
  refine congrArg (W main_v15 : S64x64.Idx → EReal) (funext fun a => Fin.ext ?_)
  refine ((cfg4.win 0).rect_emb_val_of_index_zero t a ?_ _)
  match a with
  | ⟨0, _⟩ => exact i0
  | ⟨1, _⟩ => exact i1
/-- The second block of the last kernel is its whole second array. -/
theorem blk4_1 (W : Valuation τ sig (Elt Ideal)) (c : Dev nD) (t : Fin cfg4.N) : (iblk4 W c 1 t : S64x64.Idx → EReal) = W main_arg3 := by
  obtain ⟨-, -, i0, i1, -⟩ := win4_at t
  funext y
  refine congrArg (W main_arg3 : S64x64.Idx → EReal) (funext fun a => Fin.ext ?_)
  refine ((cfg4.win 1).rect_emb_val_of_index_zero t a ?_ _)
  match a with
  | ⟨0, _⟩ => exact i0
  | ⟨1, _⟩ => exact i1

/-- The last kernel leaves the product of its two arrays. -/
theorem final4 (W : Valuation τ sig (Elt Ideal)) (c : Dev nD) : (dat4 W c).arrAt 2 cfg4.N = (k4_pay1 (F := Ideal) (W main_v15) (W main_arg3) : S64x64.Idx → EReal) := by
  refine (dat4 W c).arrAt_eq_of_cover 2 (k4_pay1 (F := Ideal) (W main_v15) (W main_arg3) : S64x64.Idx → EReal) ?_ ?_
  · intro t _
    obtain ⟨-, -, -, -, i0, i1, -, -⟩ := win4_at t
    show (cfg4.win 2).cut (cfg4.grid.coords t) ((dat4 W c).after 2 t) = _
    funext y
    show (k4_pay1 (iblk4 W c 0 t) (iblk4 W c 1 t) : S64x64.Idx → EReal) _ = k4_pay1 (F := Ideal) (W main_v15) (W main_arg3) _
    rw [blk4_0, blk4_1]
    refine congrArg (k4_pay1 (F := Ideal) (W main_v15) (W main_arg3) : S64x64.Idx → EReal) (funext fun a => Fin.ext ?_)
    refine ((cfg4.win 2).rect_emb_val_of_index_zero t a ?_ _).symm
    match a with
    | ⟨0, _⟩ => exact i0
    | ⟨1, _⟩ => exact i1
  · intro i
    have hi : ((i : S64x64.Idx) 0).val < 64 := ((i : S64x64.Idx) 0).isLt
    have hi1 : ((i : S64x64.Idx) 1).val < 64 := ((i : S64x64.Idx) 1).isLt
    refine ⟨t4_0, flush4_2 _, ?_⟩
    obtain ⟨-, -, -, -, i0, i1, s0, s1⟩ := win4_at t4_0
    show i ∈ ((View.whole main_v16).slice ((cfg4.win 2).rect t4_0)).set
    rw [View.set_slice_whole, Rect.mem_set_unit]
    intro a
    match a with
    | ⟨0, _⟩ =>
      show (cfg4.win 2).index t4_0 0 * 64 ≤ ((i : S64x64.Idx) 0).val ∧ ((i : S64x64.Idx) 0).val < (cfg4.win 2).index t4_0 0 * 64 + (cfg4.win 2).xsize (cfg4.grid.coords t4_0) 0
      rw [i0, s0]; omega
    | ⟨1, _⟩ =>
      show (cfg4.win 2).index t4_0 1 * 64 ≤ ((i : S64x64.Idx) 1).val ∧ ((i : S64x64.Idx) 1).val < (cfg4.win 2).index t4_0 1 * 64 + (cfg4.win 2).xsize (cfg4.grid.coords t4_0) 1
      rw [i1, s1]; omega

/-- The last kernel ends with the product of the weighted sums and the weight matrix. -/
theorem W13_v16 (c : Dev nD) (r j : Fin 64) : (W13 m (a2 m) (a3 m) c main_v16 : S64x64.Idx → EReal) (ix2 r j) = ∑ d : Fin 64, agg m c r d * wgt m c (ix2 j d) := by
  rw [W13_out, final4, W12_arg3]
  refine (dot4_apply _ _ r j).trans (Finset.sum_congr rfl fun d _ => ?_)
  exact congrArg (fun x : EReal => x * wgt m c (ix2 j d)) (W12_v15 m c r d)
/-- The kernel's result, entry by entry. -/
theorem W14_v17 (c : Dev nD) (b q : Fin 8) (j : Fin 64) : (W14 m (a2 m) (a3 m) c main_v17 : S8x8x64.Idx → EReal) (ix3 b q j)
    = ∑ d : Fin 64, agg m c ⟨8 * b.val + q.val, by have := b.isLt; have := q.isLt; omega⟩ d * wgt m c (ix2 j d) := by
  refine Eq.trans (congrFun (g := shapeCast S8x8x64 (W13 m (a2 m) (a3 m) c main_v16 : S64x64.Idx → EReal) shapeCasts_S64x64_S8x8x64) ?_ _) ?_
  · unfold W14
    after_results_simp
    rfl
  · exact (castRes _ _ b q j).trans (W13_v16 m c _ j)

end Cert.Math

end
-- ==== Proof.RefRun.lean ====
/-
  The run of the reference: a straight line of host operations, in four stretches.
-/
module

public import proofs.«01_k».proof.Proof.Gen.ReferenceIdeal
public import Idealize.ShloMosaic.Lib.StableHlo.Run
public import Idealize.ShloMosaic.Lib.Claim

@[expose] public section

set_option maxRecDepth 16384

noncomputable section

namespace Cert.RefMath

open Cert.ReferenceIdeal Cert.ReferenceIdeal.Gen
open Idealize.ShloMosaic Idealize.ShloMosaic.TcCoe Idealize.ShloMosaic.StableHlo Idealize.SL.Sem

variable {F : FTy → Type} [FloatOps F]

/-- The scores, and their eight largest with the places they stand at. -/
abbrev opsA : List (HloOp τ sig (Elt F)) :=
  [ unary main_arg2 main_v0 ((transpose S64x1000000 [1, 0] · transposes_S1000000x64_S64x1000000_1_0) : (⟨S1000000x64, .f32⟩ : BufTy).Contents (Elt F) → (⟨S64x1000000, .f32⟩ : BufTy).Contents (Elt F)),
    binary main_arg0 main_v0 main_v1 ((fun l r => Host.dotGeneral dot_S8x8x64_S64x1000000_S8x8x1000000_2_0_01_1_n_n none l r) : (⟨S8x8x64, .f32⟩ : BufTy).Contents (Elt F) → (⟨S64x1000000, .f32⟩ : BufTy).Contents (Elt F) → (⟨S8x8x1000000, .f32⟩ : BufTy).Contents (Elt F)),
    unary main_v1 main_values ((fun x => (Host.topK S8x8x8 2 (FloatOps.cmpfTotal .gt) x sliceFits_S8x8x1000000_S8x8x8).1) : (⟨S8x8x1000000, .f32⟩ : BufTy).Contents (Elt F) → (⟨S8x8x8, .f32⟩ : BufTy).Contents (Elt F)),
    unary main_v1 main_indices ((fun x => (Host.topK S8x8x8 2 (FloatOps.cmpfTotal .gt) x sliceFits_S8x8x1000000_S8x8x8).2) : (⟨S8x8x1000000, .f32⟩ : BufTy).Contents (Elt F) → (⟨S8x8x8, .i32⟩ : BufTy).Contents (Elt F)) ]

/-- The softmax of the eight largest, and the places as one list. -/
abbrev opsB : List (HloOp τ sig (Elt F)) :=
  [ nullary main_cst (constant S_ .f32 0xFF800000#32),
    binary main_values main_cst main_v2 ((fun x v => Host.reduce FloatOps.maximumf x v reducesTo_S8x8x8_S8x8_d2 h_S_) : (⟨S8x8x8, .f32⟩ : BufTy).Contents (Elt F) → (⟨S_, .f32⟩ : BufTy).Contents (Elt F) → (⟨S8x8, .f32⟩ : BufTy).Contents (Elt F)),
    nullary main_cst_0 (constant S_ .f32 0xFF800000#32),
    unary main_cst_0 main_v3 (broadcastInDim S8x8 ![] bcast_S_S8x8 : (⟨S_, .f32⟩ : BufTy).Contents (Elt F) → (⟨S8x8, .f32⟩ : BufTy).Contents (Elt F)),
    binary main_v3 main_v2 main_v4 (maximumf : (⟨S8x8, .f32⟩ : BufTy).Contents (Elt F) → (⟨S8x8, .f32⟩ : BufTy).Contents (Elt F) → (⟨S8x8, .f32⟩ : BufTy).Contents (Elt F)),
    unary main_v4 main_v5 (broadcastInDim S8x8x1 ![0, 1] bcast_S8x8_S8x8x1_0_1 : (⟨S8x8, .f32⟩ : BufTy).Contents (Elt F) → (⟨S8x8x1, .f32⟩ : BufTy).Contents (Elt F)),
    unary main_v5 main_v6 (broadcastInDim S8x8x8 ![0, 1, 2] bcast_S8x8x1_S8x8x8_0_1_2 : (⟨S8x8x1, .f32⟩ : BufTy).Contents (Elt F) → (⟨S8x8x8, .f32⟩ : BufTy).Contents (Elt F)),
    binary main_values main_v6 main_v7 (subf : (⟨S8x8x8, .f32⟩ : BufTy).Contents (Elt F) → (⟨S8x8x8, .f32⟩ : BufTy).Contents (Elt F) → (⟨S8x8x8, .f32⟩ : BufTy).Contents (Elt F)),
    unary main_v7 main_v8 (Host.exp : (⟨S8x8x8, .f32⟩ : BufTy).Contents (Elt F) → (⟨S8x8x8, .f32⟩ : BufTy).Contents (Elt F)),
    nullary main_cst_1 (constant S_ .f32 0x00000000#32),
    binary main_v8 main_cst_1 main_v9 ((fun x v => Host.reduceAdd x v reducesTo_S8x8x8_S8x8_d2 h_S_) : (⟨S8x8x8, .f32⟩ : BufTy).Contents (Elt F) → (⟨S_, .f32⟩ : BufTy).Contents (Elt F) → (⟨S8x8, .f32⟩ : BufTy).Contents (Elt F)),
    unary main_v9 main_v10 (broadcastInDim S8x8x1 ![0, 1] bcast_S8x8_S8x8x1_0_1 : (⟨S8x8, .f32⟩ : BufTy).Contents (Elt F) → (⟨S8x8x1, .f32⟩ : BufTy).Contents (Elt F)),
    unary main_v10 main_v11 (broadcastInDim S8x8x8 ![0, 1, 2] bcast_S8x8x1_S8x8x8_0_1_2 : (⟨S8x8x1, .f32⟩ : BufTy).Contents (Elt F) → (⟨S8x8x8, .f32⟩ : BufTy).Contents (Elt F)),
    binary main_v8 main_v11 main_v12 (Host.divf : (⟨S8x8x8, .f32⟩ : BufTy).Contents (Elt F) → (⟨S8x8x8, .f32⟩ : BufTy).Contents (Elt F) → (⟨S8x8x8, .f32⟩ : BufTy).Contents (Elt F)),
    reshape main_indices main_v13 (rfl : (.i32 : EltTy) = .i32) shapeCasts_S8x8x8_S64x8,
    reshape main_v13 main_v14 (rfl : (.i32 : EltTy) = .i32) shapeCasts_S64x8_S512 ]

/-- The rows of the pool at the listed places. -/
abbrev opsC : List (HloOp τ sig (Elt F)) :=
  [ nullary main_call0_c (constantI S_ 32 0#32),
    unary main_call0_c main_call0_v0 (broadcastInDim S512 ![] bcast_S_S512),
    binary main_v14 main_call0_v0 main_call0_v1 (cmpi .slt),
    nullary main_call0_c_0 (constantI S_ 32 1000000#32),
    unary main_call0_c_0 main_call0_v2 (broadcastInDim S512 ![] bcast_S_S512),
    binary main_v14 main_call0_v2 main_call0_v3 addi,
    ternary main_call0_v1 main_call0_v3 main_v14 main_call0_v4 select,
    unary main_call0_v4 main_call0_v5 (broadcastInDim S512x1 ![0] bcast_S512_S512x1_0),
    nullary main_call0_c_1 (constantI S1 32 999999#32),
    nullary main_call0_c_2 (constantI S_ 32 0#32),
    unary main_call0_c_2 main_call0_v6 (broadcastInDim S512x1 ![] bcast_S_S512x1),
    binary main_call0_v5 main_call0_v6 main_call0_v7 (cmpi .sge),
    unary main_call0_c_1 main_call0_v8 (broadcastInDim S1x1 ![1] bcast_S1_S1x1_1),
    unary main_call0_v8 main_call0_v9 (broadcastInDim S512x1 ![0, 1] bcast_S1x1_S512x1_0_1),
    binary main_call0_v5 main_call0_v9 main_call0_v10 (cmpi .sle),
    binary main_call0_v7 main_call0_v10 main_call0_v11 andi,
    nullary main_call0_c_3 (constantI S_ 1 1#1),
    binary main_call0_v11 main_call0_c_3 main_call0_v12 (fun x v => Host.reduce IntOp.andi x v reducesTo_S512x1_S512_d1 h_S_),
    binary main_arg1 main_call0_v5 main_call0_v13 (fun x i => Host.gather gather_S1000000x64_S512x1_S512x64_1_0_n_n_0_1_164 x i),
    unary main_call0_v12 main_call0_v14 (broadcastInDim S512x64 ![0] bcast_S512_S512x64_0),
    nullary main_call0_cst (constant S_ .f32 0x7FC00000#32),
    unary main_call0_cst main_call0_v15 (broadcastInDim S512x64 ![] bcast_S_S512x64),
    ternary main_call0_v14 main_call0_v13 main_call0_v15 main_v15 select ]

/-- The weighted sum of the rows and the last product. -/
abbrev opsD : List (HloOp τ sig (Elt F)) :=
  [ reshape main_v15 main_v16 (rfl : (.f32 : EltTy) = .f32) shapeCasts_S512x64_S64x8x64,
    reshape main_v12 main_v17 (rfl : (.f32 : EltTy) = .f32) shapeCasts_S8x8x8_S64x8x1,
    unary main_v17 main_v18 (broadcastInDim S64x8x64 ![0, 1, 2] bcast_S64x8x1_S64x8x64_0_1_2 : (⟨S64x8x1, .f32⟩ : BufTy).Contents (Elt F) → (⟨S64x8x64, .f32⟩ : BufTy).Contents (Elt F)),
    binary main_v16 main_v18 main_v19 (mulf : (⟨S64x8x64, .f32⟩ : BufTy).Contents (Elt F) → (⟨S64x8x64, .f32⟩ : BufTy).Contents (Elt F) → (⟨S64x8x64, .f32⟩ : BufTy).Contents (Elt F)),
    nullary main_cst_2 (constant S_ .f32 0x00000000#32),
    binary main_v19 main_cst_2 main_v20 ((fun x v => Host.reduceAdd x v reducesTo_S64x8x64_S64x64_d1 h_S_) : (⟨S64x8x64, .f32⟩ : BufTy).Contents (Elt F) → (⟨S_, .f32⟩ : BufTy).Contents (Elt F) → (⟨S64x64, .f32⟩ : BufTy).Contents (Elt F)),
    reshape main_v20 main_v21 (rfl : (.f32 : EltTy) = .f32) shapeCasts_S64x64_S8x8x64,
    unary main_arg3 main_v22 ((transpose S64x64 [1, 0] · transposes_S64x64_S64x64_1_0) : (⟨S64x64, .f32⟩ : BufTy).Contents (Elt F) → (⟨S64x64, .f32⟩ : BufTy).Contents (Elt F)),
    binary main_v21 main_v22 main_v23 ((fun l r => Host.dotGeneral dot_S8x8x64_S64x64_S8x8x64_2_0_01_1_n_n none l r) : (⟨S8x8x64, .f32⟩ : BufTy).Contents (Elt F) → (⟨S64x64, .f32⟩ : BufTy).Contents (Elt F) → (⟨S8x8x64, .f32⟩ : BufTy).Contents (Elt F)) ]

/-- The reference's operations, in order. -/
abbrev ops : List (HloOp τ sig (Elt F)) := opsA ++ (opsB ++ (opsC ++ opsD))

set_option maxRecDepth 4096 in
/-- The reference is that line. -/
theorem main_eq (c : Dev nD) : main (F := F) c = seq ops := by
  simp only [main, fn_take.body, fn_where.body, ops, opsA, opsB, opsC, opsD, List.cons_append, List.nil_append, seq, bind_assoc, pure_bind]
  rfl

/-- Nothing is scoped here: no reference, -/
theorem scopedRefs_eq : (Finset.univ.filter fun b : Ref sig .tc => b.isScoped) = ∅ := by decide
/-- and no semaphore. -/
theorem scopedSems_eq : (Finset.univ.filter fun sm : SemLoc sig => sm.isScoped .tc) = ∅ := by decide

/-- Every operation keeps to the core's own references. -/
theorem ops_sub : (ops : List (HloOp τ sig (Elt F))).Forall fun op => op.bufs ⊆ tcRefs τ sig :=
  ⟨unary_bufs_sub ..,
    binary_bufs_sub ..,
    unary_bufs_sub ..,
    unary_bufs_sub ..,
    nullary_bufs_sub ..,
    binary_bufs_sub ..,
    nullary_bufs_sub ..,
    unary_bufs_sub ..,
    binary_bufs_sub ..,
    unary_bufs_sub ..,
    unary_bufs_sub ..,
    binary_bufs_sub ..,
    unary_bufs_sub ..,
    nullary_bufs_sub ..,
    binary_bufs_sub ..,
    unary_bufs_sub ..,
    unary_bufs_sub ..,
    binary_bufs_sub ..,
    reshape_bufs_sub ..,
    reshape_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    nullary_bufs_sub ..,
    nullary_bufs_sub ..,
    unary_bufs_sub ..,
    binary_bufs_sub ..,
    unary_bufs_sub ..,
    unary_bufs_sub ..,
    binary_bufs_sub ..,
    binary_bufs_sub ..,
    nullary_bufs_sub ..,
    binary_bufs_sub ..,
    binary_bufs_sub ..,
    unary_bufs_sub ..,
    nullary_bufs_sub ..,
    unary_bufs_sub ..,
    ternary_bufs_sub ..,
    reshape_bufs_sub ..,
    reshape_bufs_sub ..,
    unary_bufs_sub ..,
    binary_bufs_sub ..,
    nullary_bufs_sub ..,
    binary_bufs_sub ..,
    reshape_bufs_sub ..,
    unary_bufs_sub ..,
    binary_bufs_sub ..⟩

/-- No operation writes argument 0. -/
theorem arg0_eq (V : Valuation τ sig (Elt F)) : after ops V (main_arg0 : DevRef τ sig) = V (main_arg0 : DevRef τ sig) := by
  simp only [ops, List.cons_append, List.nil_append, after_cons, after_nil]
  rfl

/-- No operation writes argument 1. -/
theorem arg1_eq (V : Valuation τ sig (Elt F)) : after ops V (main_arg1 : DevRef τ sig) = V (main_arg1 : DevRef τ sig) := by
  simp only [ops, List.cons_append, List.nil_append, after_cons, after_nil]
  rfl

/-- No operation writes argument 2. -/
theorem arg2_eq (V : Valuation τ sig (Elt F)) : after ops V (main_arg2 : DevRef τ sig) = V (main_arg2 : DevRef τ sig) := by
  simp only [ops, List.cons_append, List.nil_append, after_cons, after_nil]
  rfl

/-- No operation writes argument 3. -/
theorem arg3_eq (V : Valuation τ sig (Elt F)) : after ops V (main_arg3 : DevRef τ sig) = V (main_arg3 : DevRef τ sig) := by
  simp only [ops, List.cons_append, List.nil_append, after_cons, after_nil]
  rfl

/-- Every run of the reference ends, with every reference at the operations' fold over what it held and no semaphore
    raised. -/
theorem run_main (m : (ℓ : Loc nD τ sig) → Buf (Elt F) ℓ) (ρ : Dev nD → PrngReg) :
    θ_run defs (onTc (τ := τ) (main (F := F))) ⟨m, fun _ => 0, ρ⟩ fun r =>
      (∀ (c : Dev nD) (b : Ref sig .tc), r.2.mem ((c.tc : Thread nD τ).loc b) = after ops (launchContents m c) (b : DevRef τ sig)) :=
  run_seq scopedRefs_eq scopedSems_eq defs main (fun _ => ops) main_eq (fun _ => ops_sub) m ρ

end Cert.RefMath

end
-- ==== Proof.Sorted.lean ====
/-
  A stable sort of the places of a sequence by falling value puts first the places that the ranking by value, ties to
  the lower place, puts first.
-/
module

public import proofs.«01_k».proof.Proof.Picks
public import Idealize.ShloMosaic.Lib.SortFacts

@[expose] public section

set_option maxRecDepth 16384

noncomputable section

namespace Cert.Math

open Cert.KernelIdeal.Val
open Idealize.ShloMosaic Idealize.ShloMosaic.TcCoe

/-- To come before is transitive. -/
theorem beats_trans {s : ℕ → EReal} {a b c : ℕ} (h : beats s a b) (k : beats s b c) : beats s a c := by
  rcases h with h | ⟨h, h'⟩ <;> rcases k with k | ⟨k, k'⟩
  · exact Or.inl (k.trans h)
  · exact Or.inl (k ▸ h)
  · exact Or.inl (h ▸ k)
  · exact Or.inr ⟨h.trans k, h'.trans k'⟩

section Order

variable {n : ℕ} (s : ℕ → EReal) (R : Fin n → Fin n → Bool) (hR : ∀ a b : Fin n, R a b = true ↔ s b.val < s a.val)

include hR

/-- Inserting a place below all those of an ordered list keeps it ordered. -/
theorem ordered_insert (a : Fin n) (l : List (Fin n)) (ha : ∀ b ∈ l, a < b)
    (hl : l.Pairwise fun b c => beats s b.val c.val) :
    (insertBefore R a l).Pairwise fun b c => beats s b.val c.val := by
  induction l with
  | nil => exact List.pairwise_singleton _ _
  | cons b l ih =>
    rw [List.pairwise_cons] at hl
    unfold insertBefore
    split
    · next h =>
      have hb := (hR b a).mp h
      refine List.pairwise_cons.mpr ⟨fun c hc => ?_, ih (fun x hx => ha x (List.mem_cons_of_mem _ hx)) hl.2⟩
      rcases List.mem_cons.mp ((perm_insertBefore R a l).mem_iff.mp hc) with rfl | hc
      · exact Or.inl hb
      · exact hl.1 c hc
    · next h =>
      have hb : ¬s a.val < s b.val := fun e => h ((hR b a).mpr e)
      have hab : beats s a.val b.val := by
        rcases (not_lt.mp hb).lt_or_eq with e | e
        · exact Or.inl e
        · exact Or.inr ⟨e.symm, ha b (List.mem_cons_self ..)⟩
      refine List.pairwise_cons.mpr ⟨fun c hc => ?_, List.pairwise_cons.mpr hl⟩
      rcases List.mem_cons.mp hc with rfl | hc
      · exact hab
      · exact beats_trans hab (hl.1 c hc)

/-- The stable sort of a rising list of places is ordered. -/
theorem ordered_sort (l : List (Fin n)) (hl : l.Pairwise fun b c => b < c) :
    (stableSort R l).Pairwise fun b c => beats s b.val c.val := by
  induction l with
  | nil => exact List.Pairwise.nil
  | cons a l ih =>
    rw [List.pairwise_cons] at hl
    unfold stableSort
    exact ordered_insert s R hR a _ (fun b hb => hl.1 b ((perm_stableSort R l).mem_iff.mp hb)) (ih hl.2)

/-- Of two sorted places the earlier comes before. -/
theorem sorted_beats (i j : Fin n) (hij : i < j) : beats s (sortedFrom R i).val (sortedFrom R j).val := by
  have h := List.pairwise_iff_get.mp (ordered_sort s R hR (List.finRange n) (List.pairwise_lt_finRange n))
  exact h (i.cast (length_sortPositions n R).symm) (j.cast (length_sortPositions n R).symm) hij

/-- The first eight sorted places are the first eight of the ranking. -/
theorem sorted_ranks (hn : 8 ≤ n) : Ranks s n fun k => if h : k < n then (sortedFrom R ⟨k, h⟩).val else 0 := by
  intro k hk
  have hkn : k < n := by omega
  simp only [dif_pos hkn]
  refine ⟨(sortedFrom R ⟨k, hkn⟩).isLt, fun m hm => ⟨fun hb => ?_, ?_⟩⟩
  · obtain ⟨j, hj⟩ := sortedFrom_surjective R ⟨m, hm⟩
    have hjm : (sortedFrom R j).val = m := congrArg Fin.val hj
    rcases lt_trichotomy j ⟨k, hkn⟩ with h | h | h
    · exact ⟨j.val, h, by rw [dif_pos j.isLt]; exact hjm.symm⟩
    · subst h; rw [hjm] at hb; exact absurd hb (not_beats_self s m)
    · have h' := sorted_beats s R hR _ _ h
      rw [hjm] at h'
      exact absurd (beats_trans hb h') (not_beats_self s m)
  · rintro ⟨j, hj, e⟩
    have hjn : j < n := by omega
    rw [dif_pos hjn] at e
    rw [e]
    exact sorted_beats s R hR ⟨j, hjn⟩ ⟨k, hkn⟩ hj

end Order

end Cert.Math

end
-- ==== Proof.RefVal.lean ====
/-
  What each stretch of the reference leaves, entry by entry.
-/
module

public import proofs.«01_k».proof.Proof.RefRun
public import proofs.«01_k».proof.Proof.Keys0
public import proofs.«01_k».proof.Proof.Sorted
public import Idealize.ShloMosaic.Lib.KernelVsHost
public import Idealize.ShloMosaic.Lib.Pointwise
public import Idealize.ShloMosaic.Lib.Routing.Ops

@[expose] public section

set_option maxRecDepth 16384

noncomputable section

namespace Cert.RefMath

open Cert.ReferenceIdeal Cert.ReferenceIdeal.Gen
open Cert.Math (fold_max ofBits_bot)
open Idealize.ShloMosaic Idealize.ShloMosaic.TcCoe Idealize.ShloMosaic.StableHlo

/-- A line in two parts is one after the other. -/
theorem after_two (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- Every query's score with every key. -/
def scores (q : FVec Ideal S8x8x64 .f32) (k : FVec Ideal S1000000x64 .f32) : FVec Ideal S8x8x1000000 .f32 :=
  Host.dotGeneral dot_S8x8x64_S64x1000000_S8x8x1000000_2_0_01_1_n_n none q (transpose S64x1000000 [1, 0] k transposes_S1000000x64_S64x1000000_1_0)

/-- The greatest of the eight. -/
def peak (v : FVec Ideal S8x8x8 .f32) : FVec Ideal S8x8 .f32 :=
  maximumf (broadcastInDim S8x8 ![] bcast_S_S8x8 (constant S_ .f32 0xFF800000#32))
    (Host.reduce FloatOps.maximumf v (constant S_ .f32 0xFF800000#32) reducesTo_S8x8x8_S8x8_d2 h_S_)
/-- The exponentials of the differences from it. -/
def expo (v : FVec Ideal S8x8x8 .f32) : FVec Ideal S8x8x8 .f32 :=
  Host.exp (subf v (broadcastInDim S8x8x8 ![0, 1, 2] bcast_S8x8x1_S8x8x8_0_1_2 (broadcastInDim S8x8x1 ![0, 1] bcast_S8x8_S8x8x1_0_1 (peak v))))
/-- The softmax. -/
def soft (v : FVec Ideal S8x8x8 .f32) : FVec Ideal S8x8x8 .f32 :=
  Host.divf (expo v) (broadcastInDim S8x8x8 ![0, 1, 2] bcast_S8x8x1_S8x8x8_0_1_2 (broadcastInDim S8x8x1 ![0, 1] bcast_S8x8_S8x8x1_0_1
    (Host.reduceAdd (expo v) (constant S_ .f32 0x00000000#32) reducesTo_S8x8x8_S8x8_d2 h_S_)))
/-- The places as one list. -/
def flat (i : IVec S8x8x8 32) : IVec S512 32 := shapeCast S512 (shapeCast S64x8 i shapeCasts_S8x8x8_S64x8) shapeCasts_S64x8_S512

/-- The places counted from the front. -/
def wrapped (i : IVec S512 32) : IVec S512 32 :=
  select (cmpi .slt i (broadcastInDim S512 ![] bcast_S_S512 (constantI S_ 32 0#32)))
    (addi i (broadcastInDim S512 ![] bcast_S_S512 (constantI S_ 32 1000000#32))) i
/-- The same, as a column. -/
def column (i : IVec S512 32) : IVec S512x1 32 := broadcastInDim S512x1 ![0] bcast_S512_S512x1_0 (wrapped i)
/-- Which places lie inside. -/
def inside (i : IVec S512 32) : IVec S512x1 1 :=
  andi (cmpi .sge (column i) (broadcastInDim S512x1 ![] bcast_S_S512x1 (constantI S_ 32 0#32)))
    (cmpi .sle (column i) (broadcastInDim S512x1 ![0, 1] bcast_S1x1_S512x1_0_1 (broadcastInDim S1x1 ![1] bcast_S1_S1x1_1 (constantI S1 32 999999#32))))
/-- The rows of the pool at the places. -/
def rows (p : FVec Ideal S1000000x64 .f32) (i : IVec S512 32) : FVec Ideal S512x64 .f32 :=
  select (broadcastInDim S512x64 ![0] bcast_S512_S512x64_0 (Host.reduce IntOp.andi (inside i) (constantI S_ 1 1#1) reducesTo_S512x1_S512_d1 h_S_))
    (Host.gather gather_S1000000x64_S512x1_S512x64_1_0_n_n_0_1_164 p (column i))
    (broadcastInDim S512x64 ![] bcast_S_S512x64 (constant S_ .f32 0x7FC00000#32))
/-- The weighted sums of the rows. -/
def sums (x : FVec Ideal S512x64 .f32) (w : FVec Ideal S8x8x8 .f32) : FVec Ideal S64x64 .f32 :=
  Host.reduceAdd (mulf (shapeCast S64x8x64 x shapeCasts_S512x64_S64x8x64)
      (broadcastInDim S64x8x64 ![0, 1, 2] bcast_S64x8x1_S64x8x64_0_1_2 (shapeCast S64x8x1 w shapeCasts_S8x8x8_S64x8x1)))
    (constant S_ .f32 0x00000000#32) reducesTo_S64x8x64_S64x64_d1 h_S_
/-- The last product. -/
def last (a : FVec Ideal S64x64 .f32) (w : FVec Ideal S64x64 .f32) : FVec Ideal S8x8x64 .f32 :=
  Host.dotGeneral dot_S8x8x64_S64x64_S8x8x64_2_0_01_1_n_n none (shapeCast S8x8x64 a shapeCasts_S64x64_S8x8x64)
    (transpose S64x64 [1, 0] w transposes_S64x64_S64x64_1_0)

section Reads

variable (V : Valuation τ sig (Elt Ideal))

/-- The eight largest scores, -/
theorem A_values : after opsA V (main_values : DevRef τ sig)
    = (Host.topK S8x8x8 2 (FloatOps.cmpfTotal .gt) (scores (V (main_arg0 : DevRef τ sig)) (V (main_arg2 : DevRef τ sig))) sliceFits_S8x8x1000000_S8x8x8).1 := by
  unfold scores
  after_results_simp
/-- and the places they stand at. -/
theorem A_indices : after opsA V (main_indices : DevRef τ sig)
    = (Host.topK S8x8x8 2 (FloatOps.cmpfTotal .gt) (scores (V (main_arg0 : DevRef τ sig)) (V (main_arg2 : DevRef τ sig))) sliceFits_S8x8x1000000_S8x8x8).2 := by
  unfold scores
  after_results_simp
/-- The first group of operations leaves `main_arg1` alone. -/
theorem A_arg1 : after opsA V (main_arg1 : DevRef τ sig) = V (main_arg1 : DevRef τ sig) := by after_results_simp
/-- The first group of operations leaves `main_arg3` alone. -/
theorem A_arg3 : after opsA V (main_arg3 : DevRef τ sig) = V (main_arg3 : DevRef τ sig) := by after_results_simp
/-- The weights, -/
theorem B_v12 : after opsB V (main_v12 : DevRef τ sig) = soft (V (main_values : DevRef τ sig)) := by
  unfold soft expo peak
  after_results_simp
/-- and the places as one list. -/
theorem B_v14 : after opsB V (main_v14 : DevRef τ sig) = flat (V (main_indices : DevRef τ sig)) := by
  unfold flat
  after_results_simp
  rfl
/-- The second group of operations leaves `main_arg1` alone. -/
theorem B_arg1 : after opsB V (main_arg1 : DevRef τ sig) = V (main_arg1 : DevRef τ sig) := by after_results_simp
/-- The second group of operations leaves `main_arg3` alone. -/
theorem B_arg3 : after opsB V (main_arg3 : DevRef τ sig) = V (main_arg3 : DevRef τ sig) := by after_results_simp
/-- The rows fetched. -/
theorem C_v15 : after opsC V (main_v15 : DevRef τ sig) = rows (V (main_arg1 : DevRef τ sig)) (V (main_v14 : DevRef τ sig)) := by
  unfold rows inside column wrapped
  after_results_simp
/-- The third group of operations leaves `main_v12` alone. -/
theorem C_v12 : after opsC V (main_v12 : DevRef τ sig) = V (main_v12 : DevRef τ sig) := by after_results_simp
/-- The third group of operations leaves `main_arg3` alone. -/
theorem C_arg3 : after opsC V (main_arg3 : DevRef τ sig) = V (main_arg3 : DevRef τ sig) := by after_results_simp
/-- The result. -/
theorem D_v23 : after opsD V (main_v23 : DevRef τ sig)
    = last (sums (V (main_v15 : DevRef τ sig)) (V (main_v12 : DevRef τ sig))) (V (main_arg3 : DevRef τ sig)) := by
  unfold last sums
  after_results_simp
  rfl

end Reads

end Cert.RefMath

end
-- ==== Proof.RefPoint.lean ====
/-
  The reference's arrays read at an entry.
-/
module

public import proofs.«01_k».proof.Proof.RefVal

@[expose] public section

set_option maxRecDepth 16384

noncomputable section

namespace Cert.RefMath

open Cert.ReferenceIdeal Cert.ReferenceIdeal.Gen
open Cert.Math (fold_max ofBits_bot)
open Cert.KernelIdeal.Val (Ranks beats)
open Idealize.ShloMosaic Idealize.ShloMosaic.TcCoe Idealize.ShloMosaic.StableHlo

/-- A score is the product of the query with the key. -/
theorem scores_apply (q : FVec Ideal S8x8x64 .f32) (k : FVec Ideal S1000000x64 .f32) (a b : Fin 8) (n : Fin 1000000) :
    (scores q k (ix3 a b n) : EReal) = ∑ d : Fin 64, q (ix3 a b d) * k (ix2 n d) := by
  unfold scores
  simp only [pointwise, zero_add]

/-- The host's "greater" on extended reals. -/
theorem gt_iff (x y : Ideal .f32) : ((FloatOps.cmpfTotal .gt x y == 1#1) = true) ↔ (y : EReal) < x := by
  rw [Ideal.cmpfTotal_def]
  show ((Ideal.cmp .ogt x y == 1#1) = true) ↔ _
  by_cases h : (y : EReal) < x <;> simp [Ideal.cmp, h]

/-- The host's top eight along the last axis: the first eight of the ranking, with their places. -/
theorem top_at {N : ℕ} (hN : 8 ≤ N) (x : (⟨3, ![8, 8, N]⟩ : Shape).Idx → Ideal .f32)
    (h : (⟨3, ![8, 8, N]⟩ : Shape).Slices (fun _ => 0) S8x8x8) (a b : Fin 8) :
    ∃ i : ℕ → ℕ, Ranks (fun n => if h : n < N then (x (ix3 a b ⟨n, h⟩) : EReal) else ⊥) N i ∧ ∀ k : Fin 8, ∃ hk : i k.val < N,
      (Host.topK S8x8x8 2 (FloatOps.cmpfTotal .gt) x h).1 (ix3 a b k) = x (ix3 a b ⟨i k.val, hk⟩)
      ∧ (Host.topK S8x8x8 2 (FloatOps.cmpfTotal .gt) x h).2 (ix3 a b k) = BitVec.ofNat 32 (i k.val) := by
  let R : Fin N → Fin N → Bool := fun k k' => FloatOps.cmpfTotal .gt (x (ix3 a b k)) (x (ix3 a b k')) == 1#1
  have hR : ∀ n m : Fin N, R n m = true ↔ (fun n => if h : n < N then (x (ix3 a b ⟨n, h⟩) : EReal) else ⊥) m.val < (fun n => if h : n < N then (x (ix3 a b ⟨n, h⟩) : EReal) else ⊥) n.val := by
    intro n m
    show ((FloatOps.cmpfTotal .gt (x (ix3 a b n)) (x (ix3 a b m)) == 1#1) = true) ↔ _
    rw [gt_iff]
    dsimp only
    rw [dif_pos m.isLt, dif_pos n.isLt]
  refine ⟨_, Cert.Math.sorted_ranks _ R hR hN, fun k => ?_⟩
  have hk : k.val < N := by have := k.isLt; omega
  have al : ∀ (j : (⟨3, ![8, 8, N]⟩ : Shape).Idx) (m : Fin N), j 0 = a → j 1 = b → j.along (2 : Fin 3) m = ix3 a b m := by
    intro j m h0 h1
    funext e
    match e with
    | ⟨0, _⟩ => exact h0
    | ⟨1, _⟩ => exact h1
    | ⟨2, _⟩ => rfl
  let J : (⟨3, ![8, 8, N]⟩ : Shape).Idx := ix3 a b ⟨k.val, hk⟩
  have eJ : (fun e : Fin 3 => (⟨0 + ((ix3 a b k : S8x8x8.Idx) (e.cast h.1.symm)).val, Nat.lt_of_lt_of_le (Nat.add_lt_add_left ((ix3 a b k : S8x8x8.Idx) _).isLt _) (h.2 e)⟩ : Fin ((⟨3, ![8, 8, N]⟩ : Shape).size e))) = J := by
    funext e
    match e with
    | ⟨0, _⟩ => exact Fin.ext (Nat.zero_add _)
    | ⟨1, _⟩ => exact Fin.ext (Nat.zero_add _)
    | ⟨2, _⟩ => exact Fin.ext (Nat.zero_add _)
  have eR : (fun k k' : Fin N => FloatOps.cmpfTotal .gt (x (J.along (2 : Fin 3) k)) (x (J.along (2 : Fin 3) k')) == 1#1) = R := by
    funext n m
    rw [al J n rfl rfl, al J m rfl rfl]
  rw [dif_pos hk]
  refine ⟨(sortedFrom R ⟨k.val, hk⟩).isLt, ?_, ?_⟩
  · refine (congrArg (fun j => (Host.sort2 (⟨3, ![8, 8, N]⟩ : Shape) 2 (fun l r : Ideal .f32 × BitVec 32 => FloatOps.cmpfTotal .gt l.1 r.1) x (fun i => if hd : 2 < 3 then iotaInDim (⟨3, ![8, 8, N]⟩ : Shape) 32 ⟨2, hd⟩ i else 0#32)).1 j) eJ).trans ?_
    unfold Host.sort2
    rw [dif_pos (show 2 < 3 by decide)]
    show x (J.along (2 : Fin 3) (sortedFrom (fun k k' : Fin N => FloatOps.cmpfTotal .gt (x (J.along (2 : Fin 3) k)) (x (J.along (2 : Fin 3) k')) == 1#1) ⟨k.val, hk⟩)) = _
    rw [eR]
    exact congrArg x (al J (sortedFrom R ⟨k.val, hk⟩) rfl rfl)
  · refine (congrArg (fun j => (Host.sort2 (⟨3, ![8, 8, N]⟩ : Shape) 2 (fun l r : Ideal .f32 × BitVec 32 => FloatOps.cmpfTotal .gt l.1 r.1) x (fun i => if hd : 2 < 3 then iotaInDim (⟨3, ![8, 8, N]⟩ : Shape) 32 ⟨2, hd⟩ i else 0#32)).2 j) eJ).trans ?_
    unfold Host.sort2
    rw [dif_pos (show 2 < 3 by decide)]
    show BitVec.ofNat 32 (sortedFrom (fun k k' : Fin N => FloatOps.cmpfTotal .gt (x (J.along (2 : Fin 3) k)) (x (J.along (2 : Fin 3) k')) == 1#1) ⟨k.val, hk⟩).val = _
    rw [eR]

/-- The greatest of the eight, by the reduction alone. -/
def tops (v : FVec Ideal S8x8x8 .f32) : FVec Ideal S8x8 .f32 :=
  Host.reduce FloatOps.maximumf v (constant S_ .f32 0xFF800000#32) reducesTo_S8x8x8_S8x8_d2 h_S_
/-- The row maximum is the supremum of the eight entries. -/
theorem tops_apply (v : FVec Ideal S8x8x8 .f32) (a b : Fin 8) : (tops v (ix2 a b) : EReal) = ⨆ k : Fin 8, (v (ix3 a b k) : EReal) := by
  rw [← fold_max, ← ofBits_bot]
  unfold tops
  simp only [pointwise]
/-- The greatest is the first, when the first is the greatest. -/
theorem peak_apply (v : FVec Ideal S8x8x8 .f32) (a b : Fin 8) (h : ∀ k : Fin 8, (v (ix3 a b k) : EReal) ≤ v (ix3 a b 0)) :
    (peak v (ix2 a b) : EReal) = v (ix3 a b 0) := by
  have e : (peak v (ix2 a b) : EReal) = max (FloatOps.ofBits (F := Ideal) .f32 0xFF800000#32 : EReal) (tops v (ix2 a b) : EReal) := rfl
  rw [e, tops_apply, ofBits_bot, max_eq_right bot_le]
  exact le_antisymm (iSup_le h) (le_iSup (fun k : Fin 8 => (v (ix3 a b k) : EReal)) 0)
/-- The exponentials are taken after the row maximum is subtracted. -/
theorem expo_apply (v : FVec Ideal S8x8x8 .f32) (a b k : Fin 8) :
    (expo v (ix3 a b k) : EReal) = Ideal.exp ((v (ix3 a b k) : EReal) - peak v (ix2 a b)) := by
  unfold expo
  simp only [pointwise]
  rfl
/-- Each weight is its exponential divided by the sum of the eight exponentials. -/
theorem soft_apply (v : FVec Ideal S8x8x8 .f32) (a b k : Fin 8) :
    (soft v (ix3 a b k) : EReal) = Ideal.div (expo v (ix3 a b k)) (∑ n : Fin 8, (expo v (ix3 a b n) : EReal)) := by
  unfold soft
  simp only [pointwise, zero_add]
  rfl
/-- Entry `8 * r + k` of the flat index row is pick `k` of row `r`. -/
theorem flat_apply (i : IVec S8x8x8 32) (r : Fin 64) (k : Fin 8) :
    flat i (ix1 ⟨8 * r.val + k.val, by have := r.isLt; have := k.isLt; omega⟩) = i (ix3 ⟨r.val / 8, by have := r.isLt; omega⟩ ⟨r.val % 8, by omega⟩ k) := by
  unfold flat
  simp only [pointwise]
  congr 2 <;> simp only [Fin.mk.injEq] <;> omega

/-- A word below one million is not negative as a signed number. -/
theorem word_ge (n : ℕ) (hn : n < 1000000) : IntOp.cmpi .slt (BitVec.ofNat 32 n) 0#32 = 0#1 ∧ IntOp.cmpi .sge (BitVec.ofNat 32 n) 0#32 = 1#1
    ∧ IntOp.cmpi .sle (BitVec.ofNat 32 n) 999999#32 = 1#1 := by
  have e : (BitVec.ofNat 32 n).toInt = n := StableHlo.Predicate.toInt_ofNat_small _ (by omega)
  have e0 : (0#32).toInt = 0 := by decide
  have e1 : (999999#32).toInt = 999999 := by decide
  refine ⟨?_, ?_, ?_⟩
  · have h : ¬((n : ℤ) < 0) := by omega
    simp [IntOp.cmpi, BitVec.slt, e, e0, h]
  · have h : (0 : ℤ) ≤ n := by omega
    simp [IntOp.cmpi, BitVec.slt, BitVec.sle, e, e0, h]
  · have h : (n : ℤ) ≤ 999999 := by omega
    simp [IntOp.cmpi, BitVec.slt, BitVec.sle, e, e1, h]
/-- An index below one million is left alone by the wrapping of negative indices. -/
theorem wrapped_apply (i : IVec S512 32) (t : Fin 512) (n : ℕ) (hn : n < 1000000) (hi : i (ix1 t) = BitVec.ofNat 32 n) :
    wrapped i (ix1 t) = BitVec.ofNat 32 n := by
  refine Eq.trans (b := Scalar.select (IntOp.cmpi .slt (i (ix1 t)) 0#32) (IntOp.addi (i (ix1 t)) 1000000#32) (i (ix1 t))) rfl ?_
  rw [hi, (word_ge n hn).1]
  rfl
/-- An index below one million appears unchanged in the index column. -/
theorem column_apply (i : IVec S512 32) (t : Fin 512) (n : ℕ) (hn : n < 1000000) (hi : i (ix1 t) = BitVec.ofNat 32 n) (z : Fin 1) :
    column i (ix2 t z) = BitVec.ofNat 32 n := by
  refine Eq.trans (b := wrapped i (ix1 t)) ?_ (wrapped_apply i t n hn hi)
  unfold column
  simp only [pointwise]
  rfl
/-- An index below one million passes the bounds test. -/
theorem inside_apply (i : IVec S512 32) (t : Fin 512) (n : ℕ) (hn : n < 1000000) (hi : i (ix1 t) = BitVec.ofNat 32 n) (z : Fin 1) :
    inside i (ix2 t z) = 1#1 := by
  refine Eq.trans (b := IntOp.andi (IntOp.cmpi .sge (column i (ix2 t z)) 0#32) (IntOp.cmpi .sle (column i (ix2 t z)) 999999#32)) rfl ?_
  rw [column_apply i t n hn hi z, (word_ge n hn).2.1, (word_ge n hn).2.2]
  decide
/-- If every entry of a row passes the test, the row passes. -/
theorem all_apply (x : IVec S512x1 1) (t : Fin 512) (hx : ∀ z : Fin 1, x (ix2 t z) = 1#1) :
    Host.reduce IntOp.andi x (constantI S_ 1 1#1) reducesTo_S512x1_S512_d1 h_S_ (ix1 t) = 1#1 := by
  simp only [pointwise, hx]
  rfl
/-- A fetched row is the pool's row at the place. -/
theorem rows_apply (p : FVec Ideal S1000000x64 .f32) (i : IVec S512 32) (t : Fin 512) (n : ℕ) (hn : n < 1000000) (hi : i (ix1 t) = BitVec.ofNat 32 n) (d : Fin 64) :
    rows p i (ix2 t d) = p (ix2 ⟨n, hn⟩ d) := by
  unfold rows
  refine Eq.trans (b := Scalar.select (Host.reduce IntOp.andi (inside i) (constantI S_ 1 1#1) reducesTo_S512x1_S512_d1 h_S_ (ix1 t))
    (Host.gather gather_S1000000x64_S512x1_S512x64_1_0_n_n_0_1_164 p (column i) (ix2 t d)) (FloatOps.ofBits (F := Ideal) .f32 0x7FC00000#32)) ?_ ?_
  · simp only [pointwise]
    rfl
  · rw [all_apply _ t (inside_apply i t n hn hi)]
    exact Routing.gather_row gather_S1000000x64_S512x1_S512x64_1_0_n_n_0_1_164 rfl rfl rfl rfl rfl p (column i) t d ⟨n, hn⟩ (column_apply i t n hn hi 0) (by norm_num)
/-- The contraction over the eight picks is the weighted sum of the gathered rows. -/
theorem sums_apply (x : FVec Ideal S512x64 .f32) (w : FVec Ideal S8x8x8 .f32) (r d : Fin 64) :
    (sums x w (ix2 r d) : EReal) = ∑ k : Fin 8, (x (ix2 ⟨8 * r.val + k.val, by have := r.isLt; have := k.isLt; omega⟩ d) : EReal)
      * w (ix3 ⟨r.val / 8, by have := r.isLt; omega⟩ ⟨r.val % 8, by omega⟩ k) := by
  unfold sums
  simp only [pointwise, zero_add]
  refine Finset.sum_congr rfl fun k _ => ?_
  refine congrArg₂ (fun x y : EReal => x * y) (congrArg (fun n => (x (ix2 n d) : EReal)) (Fin.ext ?_)) rfl
  show r.val * 8 + k.val = 8 * r.val + k.val
  omega
/-- The result is the product of the weighted sums and the weight matrix, in 8 by 8 rows. -/
theorem last_apply (a w : FVec Ideal S64x64 .f32) (b q : Fin 8) (j : Fin 64) :
    (last a w (ix3 b q j) : EReal) = ∑ d : Fin 64, (a (ix2 ⟨8 * b.val + q.val, by have := b.isLt; have := q.isLt; omega⟩ d) : EReal) * w (ix2 j d) := by
  unfold last
  simp only [pointwise, zero_add]
  refine Finset.sum_congr rfl fun d _ => ?_
  refine congrArg₂ (fun x y : EReal => x * y) (congrArg (fun n => (a (ix2 n d) : EReal)) (Fin.ext ?_)) rfl
  show b.val * 8 + q.val = 8 * b.val + q.val
  omega

end Cert.RefMath

end
-- ==== Proof.RefEntry.lean ====
/-
  The reference's result, entry by entry: the eight keys of the largest scores, their softmax, and the product of the
  weighted sum of their rows with the last matrix.
-/
module

public import proofs.«01_k».proof.Proof.RefPoint

@[expose] public section

set_option maxRecDepth 16384

noncomputable section

namespace Cert.RefMath

open Cert.ReferenceIdeal Cert.ReferenceIdeal.Gen
open Cert.KernelIdeal.Val (Ranks beats)
open Idealize.ShloMosaic Idealize.ShloMosaic.TcCoe Idealize.ShloMosaic.StableHlo

/-- The scores of one query, by the key's number. -/
def sc (Q : FVec Ideal S8x8x64 .f32) (K : FVec Ideal S1000000x64 .f32) (a b : Fin 8) (n : ℕ) : EReal :=
  if h : n < 1000000 then (scores Q K (ix3 a b ⟨n, h⟩) : EReal) else ⊥

/-- The reference's result, as a function of its arguments. -/
def whole (Q : FVec Ideal S8x8x64 .f32) (Pl K : FVec Ideal S1000000x64 .f32) (Wt : FVec Ideal S64x64 .f32) : FVec Ideal S8x8x64 .f32 :=
  last (sums (rows Pl (flat (Host.topK S8x8x8 2 (FloatOps.cmpfTotal .gt) (scores Q K) sliceFits_S8x8x1000000_S8x8x8).2))
    (soft (Host.topK S8x8x8 2 (FloatOps.cmpfTotal .gt) (scores Q K) sliceFits_S8x8x1000000_S8x8x8).1)) Wt

/-- The last buffer holds it. -/
theorem ops_v23 (V : Valuation τ sig (Elt Ideal)) : after ops V (main_v23 : DevRef τ sig)
    = whole (V (main_arg0 : DevRef τ sig)) (V (main_arg1 : DevRef τ sig)) (V (main_arg2 : DevRef τ sig)) (V (main_arg3 : DevRef τ sig)) := by
  unfold whole
  show after (opsA ++ (opsB ++ (opsC ++ opsD))) V (main_v23 : DevRef τ sig) = _
  rw [after_two, after_two, after_two, D_v23, C_v15, C_v12, C_arg3, B_v12, B_v14, B_arg1, B_arg3, A_values, A_indices, A_arg1, A_arg3]

/-- Reading the 8 by 8 by 8 index array in a single row keeps the order. -/
theorem flat_at (i : IVec S8x8x8 32) (a b k : Fin 8) :
    flat i (ix1 ⟨8 * (8 * a.val + b.val) + k.val, by have := a.isLt; have := b.isLt; have := k.isLt; omega⟩) = i (ix3 a b k) := by
  have ha := a.isLt
  have hb := b.isLt
  refine (flat_apply i ⟨8 * a.val + b.val, by omega⟩ k).trans ?_
  have e1 : (⟨(8 * a.val + b.val) / 8, by omega⟩ : Fin 8) = a := Fin.ext (by show (8 * a.val + b.val) / 8 = a.val; omega)
  have e2 : (⟨(8 * a.val + b.val) % 8, by omega⟩ : Fin 8) = b := Fin.ext (by show (8 * a.val + b.val) % 8 = b.val; omega)
  show i (ix3 ⟨(8 * a.val + b.val) / 8, _⟩ ⟨(8 * a.val + b.val) % 8, _⟩ k) = _
  rw [e1, e2]
/-- The contraction over the eight picks is the weighted sum of the gathered rows. -/
theorem sums_at (x : FVec Ideal S512x64 .f32) (w : FVec Ideal S8x8x8 .f32) (a b : Fin 8) (d : Fin 64) :
    (sums x w (ix2 ⟨8 * a.val + b.val, by have := a.isLt; have := b.isLt; omega⟩ d) : EReal)
      = ∑ k : Fin 8, (x (ix2 ⟨8 * (8 * a.val + b.val) + k.val, by have := a.isLt; have := b.isLt; have := k.isLt; omega⟩ d) : EReal) * w (ix3 a b k) := by
  have ha := a.isLt
  have hb := b.isLt
  refine (sums_apply x w ⟨8 * a.val + b.val, by omega⟩ d).trans ?_
  have e1 : (⟨(8 * a.val + b.val) / 8, by omega⟩ : Fin 8) = a := Fin.ext (by show (8 * a.val + b.val) / 8 = a.val; omega)
  have e2 : (⟨(8 * a.val + b.val) % 8, by omega⟩ : Fin 8) = b := Fin.ext (by show (8 * a.val + b.val) % 8 = b.val; omega)
  refine Finset.sum_congr rfl fun k _ => ?_
  refine congrArg₂ (fun x y : EReal => x * y) rfl ?_
  show (w (ix3 ⟨(8 * a.val + b.val) / 8, _⟩ ⟨(8 * a.val + b.val) % 8, _⟩ k) : EReal) = _
  rw [e1, e2]

/-- An entry of the reference's result. -/
theorem whole_at (Q : FVec Ideal S8x8x64 .f32) (Pl K : FVec Ideal S1000000x64 .f32) (Wt : FVec Ideal S64x64 .f32) (a b : Fin 8) :
    ∃ i : ℕ → ℕ, ∃ hi : ∀ k : Fin 8, i k.val < 1000000, Ranks (sc Q K a b) 1000000 i ∧ ∀ j : Fin 64,
      (whole Q Pl K Wt (ix3 a b j) : EReal) = ∑ d : Fin 64, (∑ k : Fin 8, (Pl (ix2 ⟨i k.val, hi k⟩ d) : EReal)
        * Ideal.div (Ideal.exp (sc Q K a b (i k.val) - sc Q K a b (i 0))) (∑ n : Fin 8, Ideal.exp (sc Q K a b (i n.val) - sc Q K a b (i 0)))) * Wt (ix2 j d) := by
  obtain ⟨i, hr, htop⟩ := top_at (N := 1000000) (by norm_num) (scores Q K) sliceFits_S8x8x1000000_S8x8x8 a b
  have hi : ∀ k : Fin 8, i k.val < 1000000 := fun k => (htop k).choose
  have hr : Ranks (sc Q K a b) 1000000 i := hr
  refine ⟨i, hi, hr, fun j => ?_⟩
  have hv : ∀ k : Fin 8, ((Host.topK S8x8x8 2 (FloatOps.cmpfTotal .gt) (scores Q K) sliceFits_S8x8x1000000_S8x8x8).1 (ix3 a b k) : EReal) = sc Q K a b (i k.val) := by
    intro k
    unfold sc
    rw [dif_pos (hi k)]
    exact (htop k).choose_spec.1
  have hn : ∀ k : Fin 8, (Host.topK S8x8x8 2 (FloatOps.cmpfTotal .gt) (scores Q K) sliceFits_S8x8x1000000_S8x8x8).2 (ix3 a b k) = BitVec.ofNat 32 (i k.val) :=
    fun k => (htop k).choose_spec.2
  have hle : ∀ k : Fin 8, sc Q K a b (i k.val) ≤ sc Q K a b (i 0) := by
    intro k
    refine not_lt.mp fun h => ?_
    obtain ⟨j, hj, -⟩ := ((hr 0 (by norm_num)).2 (i k.val) (hi k)).mp (Or.inl h)
    exact absurd hj (Nat.not_lt_zero j)
  unfold whole
  generalize (Host.topK S8x8x8 2 (FloatOps.cmpfTotal .gt) (scores Q K) sliceFits_S8x8x1000000_S8x8x8).1 = v at hv ⊢
  generalize (Host.topK S8x8x8 2 (FloatOps.cmpfTotal .gt) (scores Q K) sliceFits_S8x8x1000000_S8x8x8).2 = n at hn ⊢
  have hp : (peak v (ix2 a b) : EReal) = sc Q K a b (i 0) :=
    (peak_apply v a b fun k => by rw [hv, hv]; exact hle k).trans (hv 0)
  have he : ∀ k : Fin 8, (expo v (ix3 a b k) : EReal) = Ideal.exp (sc Q K a b (i k.val) - sc Q K a b (i 0)) := by
    intro k
    rw [expo_apply, hp, hv]
  have hs : ∀ k : Fin 8, (soft v (ix3 a b k) : EReal) = Ideal.div (Ideal.exp (sc Q K a b (i k.val) - sc Q K a b (i 0))) (∑ n : Fin 8, Ideal.exp (sc Q K a b (i n.val) - sc Q K a b (i 0))) := by
    intro k
    rw [soft_apply, he]
    exact congrArg (Ideal.div _) (Finset.sum_congr rfl fun n _ => he n)
  refine (last_apply _ Wt a b j).trans (Finset.sum_congr rfl fun d _ => ?_)
  refine congrArg (fun x : EReal => x * (Wt (ix2 j d) : EReal)) ?_
  refine (sums_at _ _ a b d).trans (Finset.sum_congr rfl fun k _ => ?_)
  exact congrArg₂ (fun x y : EReal => x * y)
    (rows_apply Pl (flat n) _ (i k.val) (hi k) ((flat_at n a b k).trans (hn k)) d) (hs k)

end Cert.RefMath

end
-- ==== Proof.Same.lean ====
/-
  From finite queries and keys the two results are the same array.
-/
module

public import proofs.«01_k».proof.Proof.Final
public import proofs.«01_k».proof.Proof.RefEntry
public import proofs.«01_k».proof.Defs

@[expose] public section

set_option maxRecDepth 16384

noncomputable section

namespace Cert.Math

open Cert.KernelIdeal hiding ix2 ix3
open Cert.KernelIdeal.Val
open Cert.KernelIdeal.Gen
open Idealize.ShloMosaic Idealize.ShloMosaic.TcCoe Idealize.ShloMosaic.Tactic

/-- The word of plus infinity denotes top. -/
theorem ofBits_top : (FloatOps.ofBits (F := Ideal) .f32 0x7F800000#32 : EReal) = ⊤ := by
  show Ideal.ofBits .f32 0x7F800000#32 = ⊤
  simp [Ideal.ofBits, Ideal.ieee]

/-- An extended real whose absolute value is below ∞ is a real. -/
theorem real_of_lt (x : EReal) (h : (FloatOps.cmpf (F := Ideal) (φ := .f32) .olt (FloatOps.absf (F := Ideal) (φ := .f32) x) (FloatOps.ofBits (F := Ideal) .f32 0x7F800000#32) : BitVec 1) = 1#1) :
    ∃ y : ℝ, x = y := by
  rw [ofBits_top] at h
  have h' : max x (-x) < ⊤ := by
    by_contra hn
    rw [Ideal.cmpf_def, Ideal.absf_def] at h
    simp [Ideal.cmp, hn] at h
  induction x with
  | bot => simp at h'
  | coe y => exact ⟨y, rfl⟩
  | top => simp at h'

/-- A sum of products of reals is above -∞. -/
theorem sum_real {n : ℕ} (f g : Fin n → EReal) (hf : ∀ d, ∃ y : ℝ, f d = y) (hg : ∀ d, ∃ y : ℝ, g d = y) : ⊥ < ∑ d, f d * g d := by
  rw [bot_lt_iff_ne_bot]
  refine Finset.sum_induction _ (fun x : EReal => x ≠ ⊥) (fun x y hx hy => ?_) EReal.zero_ne_bot fun d _ => ?_
  · rw [Ne, EReal.add_eq_bot_iff]
    tauto
  · obtain ⟨x, hx⟩ := hf d
    obtain ⟨y, hy⟩ := hg d
    rw [hx, hy, ← EReal.coe_mul]
    exact EReal.coe_ne_bot _

section

variable (m : (ℓ : Loc nD τ sig) → Buf (Elt Ideal) ℓ)

/-- Every score of finite queries and keys is above -∞. -/
theorem scr_pos (c : Dev nD) (hq : ∀ i, ∃ y : ℝ, qry m c i = y) (hk : ∀ i, ∃ y : ℝ, keys m c i = y) (r : Fin 64) (n : ℕ) (hn : n < 64 * 15625) :
    ⊥ < scr m c r n := by
  unfold scr
  rw [dif_pos (show n < 1000000 by omega)]
  exact sum_real _ _ (fun d => hk _) fun d => hq _

/-- The kernel's score of a query is the reference's. -/
theorem scr_eq (c : Dev nD) (a b : Fin 8) (n : ℕ) :
    scr m c ⟨8 * a.val + b.val, by have := a.isLt; have := b.isLt; omega⟩ n = Cert.RefMath.sc (qry m c) (keys m c) a b n := by
  have ha := a.isLt
  have hb := b.isLt
  unfold scr Cert.RefMath.sc
  split
  · next h =>
    rw [Cert.RefMath.scores_apply]
    refine Finset.sum_congr rfl fun d _ => ?_
    rw [mul_comm]
    refine congrArg (fun x : EReal => x * keys m c (ix2 ⟨n, h⟩ d)) ?_
    have e1 : (⟨(8 * a.val + b.val) / 8, by omega⟩ : Fin 8) = a := Fin.ext (by show (8 * a.val + b.val) / 8 = a.val; omega)
    have e2 : (⟨(8 * a.val + b.val) % 8, by omega⟩ : Fin 8) = b := Fin.ext (by show (8 * a.val + b.val) % 8 = b.val; omega)
    show qry m c (ix3 ⟨(8 * a.val + b.val) / 8, _⟩ ⟨(8 * a.val + b.val) % 8, _⟩ d) = _
    rw [e1, e2]
  · rfl

/-- The two results are the same at every entry. -/
theorem same_at (c : Dev nD) (hq : ∀ i, ∃ y : ℝ, qry m c i = y) (hk : ∀ i, ∃ y : ℝ, keys m c i = y) (a b : Fin 8) (j : Fin 64) :
    (Cert.RefMath.whole (qry m c) (pool m c) (keys m c) (wgt m c) (ix3 a b j) : EReal)
      = (W14 m (a2 m) (a3 m) c main_v17 : S8x8x64.Idx → EReal) (ix3 a b j) := by
  have hab : 8 * a.val + b.val < 64 := by have := a.isLt; have := b.isLt; omega
  obtain ⟨i, hi, hr, e⟩ := Cert.RefMath.whole_at (qry m c) (pool m c) (keys m c) (wgt m c) a b
  rw [show Cert.RefMath.sc (qry m c) (keys m c) a b = scr m c ⟨8 * a.val + b.val, hab⟩ from funext fun n => (scr_eq m c a b n).symm] at hr e
  have key : ∀ k, k < 8 → pk m c ⟨8 * a.val + b.val, hab⟩ k = i k ∧ best m c ⟨8 * a.val + b.val, hab⟩ k = scr m c ⟨8 * a.val + b.val, hab⟩ (i k) := fun k h =>
    picks_eq (G := 15625) (T := 15744) (scr m c ⟨8 * a.val + b.val, hab⟩) (fun n hn => scr_pos m c hq hk _ n hn) (by norm_num) (by norm_num)
      (top m c ⟨8 * a.val + b.val, hab⟩) (fun t => rfl) (seg m c ⟨8 * a.val + b.val, hab⟩) (seg_picks m c _) i hr
      (pk m c ⟨8 * a.val + b.val, hab⟩) (pk_picks m c _) k h
  refine Eq.trans (b := (∑ d : Fin 64, agg m c ⟨8 * a.val + b.val, hab⟩ d * wgt m c (ix2 j d) : EReal)) ?_ (W14_v17 m c a b j).symm
  refine Eq.trans (α := EReal) (e j) (Eq.symm ?_)
  refine Finset.sum_congr rfl fun d _ => congrArg (fun x : EReal => x * wgt m c (ix2 j d)) ?_
  unfold agg
  refine Finset.sum_congr rfl fun k _ => congrArg₂ (fun x y : EReal => x * y) ?_ ?_
  · refine congrArg (fun n => pool m c (ix2 n d)) (Fin.ext ?_)
    exact (key k.val k.isLt).1
  · unfold wgtK
    rw [(key k.val k.isLt).2, (key 0 (by norm_num)).2]
    refine congrArg (Ideal.div _) (Finset.sum_congr rfl fun n _ => ?_)
    rw [(key n.val n.isLt).2]

/-- The two results are the same array. -/
theorem same (hPre : Cert.Pre_finite.Facts)
    (m' : (ℓ : Loc Cert.ReferenceIdeal.nD Cert.ReferenceIdeal.τ Cert.ReferenceIdeal.sig) → Buf (Elt Ideal) ℓ) (hpre : Cert.Pre_KernelIdeal_finite m)
    (hm : ∀ c : Dev Cert.KernelIdeal.nD,
m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (c : Dev nD) :
    StableHlo.after Cert.RefMath.ops (StableHlo.launchContents m' c) (Cert.ReferenceIdeal.main_v23 : DevRef Cert.ReferenceIdeal.τ Cert.ReferenceIdeal.sig)
      = W14 m (a2 m) (a3 m) c main_v17 := by
  have hq : ∀ i, ∃ y : ℝ, qry m c i = y := fun i => real_of_lt _ (congrFun (hpre c).1 i)
  have hk : ∀ i, ∃ y : ℝ, keys m c i = y := fun i => real_of_lt _ (congrFun (hpre c).2 i)
  rw [Cert.RefMath.ops_v23]
  have e0 : StableHlo.launchContents m' c (Cert.ReferenceIdeal.main_arg0 : DevRef Cert.ReferenceIdeal.τ Cert.ReferenceIdeal.sig) = qry m c := (hm c).1
  have e1 : StableHlo.launchContents m' c (Cert.ReferenceIdeal.main_arg1 : DevRef Cert.ReferenceIdeal.τ Cert.ReferenceIdeal.sig) = pool m c := (hm c).2.1
  have e2 : StableHlo.launchContents m' c (Cert.ReferenceIdeal.main_arg2 : DevRef Cert.ReferenceIdeal.τ Cert.ReferenceIdeal.sig) = keys m c := (hm c).2.2.1
  have e3 : StableHlo.launchContents m' c (Cert.ReferenceIdeal.main_arg3 : DevRef Cert.ReferenceIdeal.τ Cert.ReferenceIdeal.sig) = wgt m c := (hm c).2.2.2
  rw [e0, e1, e2, e3]
  refine funext fun x : S8x8x64.Idx => ?_
  have hx : x = ix3 (x 0) (x 1) (x 2) := by
    funext e
    match e with
    | ⟨0, _⟩ => rfl
    | ⟨1, _⟩ => rfl
    | ⟨2, _⟩ => rfl
  rw [hx]
  exact same_at m c hq hk (x 0) (x 1) (x 2)

end

end Cert.Math

end
-- ==== Proof.lean ====
/-
  The claims: both programs run to the end with their arguments unchanged and every semaphore back at zero, and, from
  finite queries and keys, the two results are the same array.
-/
module

public import proofs.«01_k».proof.Defs
public import proofs.«01_k».proof.Proof.Whole
public import proofs.«01_k».proof.Proof.Final
public import proofs.«01_k».proof.Proof.RefRun
public import proofs.«01_k».proof.Proof.Same
public import Idealize.ShloMosaic.Lib.Quiescent

@[expose] public section

noncomputable section

namespace Cert.Proof

open Idealize.ShloMosaic Idealize.ShloMosaic.TcCoe Idealize.SL.Sem Cert.KernelIdeal.Val Cert.Math

/-- Every run of the kernel ends with the result at its last array's value, the arguments unchanged and the semaphores
    at zero. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => (∀ c : Dev Cert.KernelIdeal.nD,
      r.2.mem ((c.tc : Thread Cert.KernelIdeal.nD Cert.KernelIdeal.τ).loc Cert.KernelIdeal.main_v17) = W14 m (a2 m) (a3 m) c Cert.KernelIdeal.main_v17
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  run_whole m ρ (a2 m) (a3 m) (fun c t d => hfree (W1 m c) c t d) (ht2 m) (ht3 m) (hw3 m)

/-- Every run of the reference ends with the result at its last operation's value, the arguments unchanged and the
    semaphores at zero. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
      r.2.mem ((c.tc : Thread Cert.ReferenceIdeal.nD Cert.ReferenceIdeal.τ).loc Cert.ReferenceIdeal.main_v23)
        = StableHlo.after Cert.RefMath.ops (StableHlo.launchContents m c) (Cert.ReferenceIdeal.main_v23 : DevRef Cert.ReferenceIdeal.τ Cert.ReferenceIdeal.sig)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => ⟨h c Cert.ReferenceIdeal.main_v23,
      (h c Cert.ReferenceIdeal.main_arg0).trans (Cert.RefMath.arg0_eq _), (h c Cert.ReferenceIdeal.main_arg1).trans (Cert.RefMath.arg1_eq _),
      (h c Cert.ReferenceIdeal.main_arg2).trans (Cert.RefMath.arg2_eq _), (h c Cert.ReferenceIdeal.main_arg3).trans (Cert.RefMath.arg3_eq _)⟩,
      sem_eq_zero_of_no_sems (by decide) r.2⟩)
    (Cert.RefMath.run_main m ρ)

/-- A single value can be spread over either array. -/
theorem pre_facts : Cert.Pre_finite.Facts := by
  refine ⟨?_, ?_⟩ <;> decide

/-- The claim. -/
theorem claim : Cert.Claim :=
  ⟨Cert.KernelIdeal.Gen.facts, Cert.ReferenceIdeal.Gen.facts, pre_facts,
    fun m g _ => (θ_run _ _ _).mono (fun _ h => ⟨fun c => (h.1 c).2, h.2⟩) (kernel_run m g),
    fun m g _ => (θ_run _ _ _).mono (fun _ h => ⟨fun c => (h.1 c).2, h.2⟩) (kernel_run m g),
    fun m g _ => (θ_run _ _ _).mono (fun _ h => ⟨fun c => (h.1 c).2, h.2⟩) (reference_run m g),
    fun m g _ => (θ_run _ _ _).mono (fun _ h => ⟨fun c => (h.1 c).2, h.2⟩) (reference_run m g),
    fun m g m' g' hpre hm => ⟨fun c => W14 m (a2 m) (a3 m) c Cert.KernelIdeal.main_v17, (θ_run _ _ _).mono (fun _ h => h.1) (kernel_run m g),
      (θ_run _ _ _).mono (fun _ h c => ⟨(h.1 c).1.trans (Cert.Math.same m pre_facts m' hpre hm c), (h.1 c).2⟩) (reference_run m' g')⟩⟩

end Cert.Proof

end
